-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Rkv (m : (ℓ : Loc Cert.Rkv.nD Cert.Rkv.τ Cert.Rkv.sig) → Buf (Elt Bits) ℓ) : Prop :=
  True

def Pre_RkvIdeal (m : (ℓ : Loc Cert.RkvIdeal.nD Cert.RkvIdeal.τ Cert.RkvIdeal.sig) → Buf (Elt Ideal) ℓ) : Prop :=
  True

def Pre_RkvRefIdeal (m : (ℓ : Loc Cert.RkvRefIdeal.nD Cert.RkvRefIdeal.τ Cert.RkvRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_decay_positive [hPre_decay_positive : Cert.Pre_decay_positive.Facts] (m : (ℓ : Loc Cert.ScanIdeal.nD Cert.ScanIdeal.τ Cert.ScanIdeal.sig) → Buf (Elt Ideal) ℓ) : Prop :=
  ∀ c : Dev Cert.ScanIdeal.nD,
    (Cert.Pre_decay_positive.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_decay_positive [hPre_decay_positive : Cert.Pre_decay_positive.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_decay_positive.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9)) (m ((c.tc : Thread Cert.ScanRefIdeal.nD Cert.ScanRefIdeal.τ).loc Cert.ScanRefIdeal.main_arg10))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15))
      ∧ r.2.sem = fun _ => 0)

def quiescent_Rkv [hRkv : Cert.Rkv.Facts] : Prop :=
  ∀ (m : (ℓ : Loc Cert.Rkv.nD Cert.Rkv.τ Cert.Rkv.sig) → Buf (Elt Bits) ℓ) (g : Dev Cert.Rkv.nD → PrngReg), Pre_Rkv m →
    θ_run (Cert.Rkv.defs (F := Bits)) (onTc (τ := Cert.Rkv.τ) (Cert.Rkv.main (F := Bits))) ⟨m, fun _ => 0, g⟩ (fun r => (∀ c : Dev Cert.Rkv.nD,
      r.2.mem ((c.tc : Thread Cert.Rkv.nD Cert.Rkv.τ).loc Cert.Rkv.main_arg0) = m ((c.tc : Thread Cert.Rkv.nD Cert.Rkv.τ).loc Cert.Rkv.main_arg0)
      ∧ r.2.mem ((c.tc : Thread Cert.Rkv.nD Cert.Rkv.τ).loc Cert.Rkv.main_arg1) = m ((c.tc : Thread Cert.Rkv.nD Cert.Rkv.τ).loc Cert.Rkv.main_arg1))
      ∧ r.2.sem = fun _ => 0)

def quiescent_RkvIdeal [hRkvIdeal : Cert.RkvIdeal.Facts] : Prop :=
  ∀ (m : (ℓ : Loc Cert.RkvIdeal.nD Cert.RkvIdeal.τ Cert.RkvIdeal.sig) → Buf (Elt Ideal) ℓ) (g : Dev Cert.RkvIdeal.nD → PrngReg), Pre_RkvIdeal m →
    θ_run (Cert.RkvIdeal.defs (F := Ideal)) (onTc (τ := Cert.RkvIdeal.τ) (Cert.RkvIdeal.main (F := Ideal))) ⟨m, fun _ => 0, g⟩ (fun r => (∀ c : Dev Cert.RkvIdeal.nD,
      r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
      ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ r.2.sem = fun _ => 0)

def quiescent_RkvRefIdeal [hRkvRefIdeal : Cert.RkvRefIdeal.Facts] : Prop :=
  ∀ (m : (ℓ : Loc Cert.RkvRefIdeal.nD Cert.RkvRefIdeal.τ Cert.RkvRefIdeal.sig) → Buf (Elt Ideal) ℓ) (g : Dev Cert.RkvRefIdeal.nD → PrngReg), Pre_RkvRefIdeal m →
    θ_run (Cert.RkvRefIdeal.defs (F := Ideal)) (onTc (τ := Cert.RkvRefIdeal.τ) (Cert.RkvRefIdeal.main (F := Ideal))) ⟨m, fun _ => 0, g⟩ (fun r => (∀ c : Dev Cert.RkvRefIdeal.nD,
      r.2.mem ((c.tc : Thread Cert.RkvRefIdeal.nD Cert.RkvRefIdeal.τ).loc Cert.RkvRefIdeal.main_arg0) = m ((c.tc : Thread Cert.RkvRefIdeal.nD Cert.RkvRefIdeal.τ).loc Cert.RkvRefIdeal.main_arg0)
      ∧ r.2.mem ((c.tc : Thread Cert.RkvRefIdeal.nD Cert.RkvRefIdeal.τ).loc Cert.RkvRefIdeal.main_arg1) = m ((c.tc : Thread Cert.RkvRefIdeal.nD Cert.RkvRefIdeal.τ).loc Cert.RkvRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2)
      ∧ r.2.mem ((c.tc : Thread Cert.Lora.nD Cert.Lora.τ).loc Cert.Lora.main_arg3) = m ((c.tc : Thread Cert.Lora.nD Cert.Lora.τ).loc Cert.Lora.main_arg3)
      ∧ r.2.mem ((c.tc : Thread Cert.Lora.nD Cert.Lora.τ).loc Cert.Lora.main_arg4) = m ((c.tc : Thread Cert.Lora.nD Cert.Lora.τ).loc Cert.Lora.main_arg4))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
      ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
      ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2)
      ∧ r.2.mem ((c.tc : Thread Cert.LoraRefIdeal.nD Cert.LoraRefIdeal.τ).loc Cert.LoraRefIdeal.main_arg3) = m ((c.tc : Thread Cert.LoraRefIdeal.nD Cert.LoraRefIdeal.τ).loc Cert.LoraRefIdeal.main_arg3)
      ∧ r.2.mem ((c.tc : Thread Cert.LoraRefIdeal.nD Cert.LoraRefIdeal.τ).loc Cert.LoraRefIdeal.main_arg4) = m ((c.tc : Thread Cert.LoraRefIdeal.nD Cert.LoraRefIdeal.τ).loc Cert.LoraRefIdeal.main_arg4))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10))
      ∧ r.2.sem = fun _ => 0)

def quiescent_ScanIdeal_pre_decay_positive [hScanIdeal : Cert.ScanIdeal.Facts] [hPre_decay_positive : Cert.Pre_decay_positive.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_decay_positive m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9)
      ∧ r.2.mem ((c.tc : Thread Cert.ScanRefIdeal.nD Cert.ScanRefIdeal.τ).loc Cert.ScanRefIdeal.main_arg10) = m ((c.tc : Thread Cert.ScanRefIdeal.nD Cert.ScanRefIdeal.τ).loc Cert.ScanRefIdeal.main_arg10))
      ∧ r.2.sem = fun _ => 0)

def quiescent_ScanRefIdeal_pre_decay_positive [hScanRefIdeal : Cert.ScanRefIdeal.Facts] [hPre_decay_positive : Cert.Pre_decay_positive.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_decay_positive m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9)
      ∧ r.2.mem ((c.tc : Thread Cert.ScanRefIdeal.nD Cert.ScanRefIdeal.τ).loc Cert.ScanRefIdeal.main_arg10) = m ((c.tc : Thread Cert.ScanRefIdeal.nD Cert.ScanRefIdeal.τ).loc Cert.ScanRefIdeal.main_arg10))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v25)) (v1 : (c : Dev Cert.MixIdeal.nD) → Buf (Elt Ideal) ((c.tc : Thread Cert.MixIdeal.nD Cert.MixIdeal.τ).loc Cert.MixIdeal.main_v26)) (v2 : (c : Dev Cert.MixIdeal.nD) → Buf (Elt Ideal) ((c.tc : Thread Cert.MixIdeal.nD Cert.MixIdeal.τ).loc Cert.MixIdeal.main_v27)) (v3 : (c : Dev Cert.MixIdeal.nD) → Buf (Elt Ideal) ((c.tc : Thread Cert.MixIdeal.nD Cert.MixIdeal.τ).loc Cert.MixIdeal.main_v28)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v25) = v0 c
          ∧ r.2.mem ((c.tc : Thread Cert.MixIdeal.nD Cert.MixIdeal.τ).loc Cert.MixIdeal.main_v26) = v1 c
          ∧ r.2.mem ((c.tc : Thread Cert.MixIdeal.nD Cert.MixIdeal.τ).loc Cert.MixIdeal.main_v27) = v2 c
          ∧ r.2.mem ((c.tc : Thread Cert.MixIdeal.nD Cert.MixIdeal.τ).loc Cert.MixIdeal.main_v28) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v62) = v0 c
          ∧ r.2.mem ((c.tc : Thread Cert.MixRefIdeal.nD Cert.MixRefIdeal.τ).loc Cert.MixRefIdeal.main_v63) = v1 c
          ∧ r.2.mem ((c.tc : Thread Cert.MixRefIdeal.nD Cert.MixRefIdeal.τ).loc Cert.MixRefIdeal.main_v64) = v2 c
          ∧ r.2.mem ((c.tc : Thread Cert.MixRefIdeal.nD Cert.MixRefIdeal.τ).loc Cert.MixRefIdeal.main_v65) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v42)) (v1 : (c : Dev Cert.TailIdeal.nD) → Buf (Elt Ideal) ((c.tc : Thread Cert.TailIdeal.nD Cert.TailIdeal.τ).loc Cert.TailIdeal.main_v46)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v42) = v0 c
          ∧ r.2.mem ((c.tc : Thread Cert.TailIdeal.nD Cert.TailIdeal.τ).loc Cert.TailIdeal.main_v46) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v117) = v0 c
          ∧ r.2.mem ((c.tc : Thread Cert.TailRefIdeal.nD Cert.TailRefIdeal.τ).loc Cert.TailRefIdeal.main_v130) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15))

def preserves_Rkv_RkvIdeal : Prop :=
  True

def algebraic_RkvIdeal_RkvRefIdeal [hRkvIdeal : Cert.RkvIdeal.Facts] [hRkvRefIdeal : Cert.RkvRefIdeal.Facts] : Prop :=
  ∀ (m : (ℓ : Loc Cert.RkvIdeal.nD Cert.RkvIdeal.τ Cert.RkvIdeal.sig) → Buf (Elt Ideal) ℓ) (g : Dev Cert.RkvIdeal.nD → PrngReg)
    (m' : (ℓ : Loc Cert.RkvRefIdeal.nD Cert.RkvRefIdeal.τ Cert.RkvRefIdeal.sig) → Buf (Elt Ideal) ℓ) (g' : Dev Cert.RkvRefIdeal.nD → PrngReg), Pre_RkvIdeal m →
    (∀ c : Dev Cert.RkvIdeal.nD,
      m' ((c.tc : Thread Cert.RkvRefIdeal.nD Cert.RkvRefIdeal.τ).loc Cert.RkvRefIdeal.main_arg0) = m ((c.tc : Thread Cert.RkvIdeal.nD Cert.RkvIdeal.τ).loc Cert.RkvIdeal.main_arg0)
      ∧ m' ((c.tc : Thread Cert.RkvRefIdeal.nD Cert.RkvRefIdeal.τ).loc Cert.RkvRefIdeal.main_arg1) = m ((c.tc : Thread Cert.RkvIdeal.nD Cert.RkvIdeal.τ).loc Cert.RkvIdeal.main_arg1)) →
    ∃ (v0 : (c : Dev Cert.RkvIdeal.nD) → Buf (Elt Ideal) ((c.tc : Thread Cert.RkvIdeal.nD Cert.RkvIdeal.τ).loc Cert.RkvIdeal.main_v5)),
      θ_run (Cert.RkvIdeal.defs (F := Ideal)) (onTc (τ := Cert.RkvIdeal.τ) (Cert.RkvIdeal.main (F := Ideal))) ⟨m, fun _ => 0, g⟩ (fun r => ∀ c : Dev Cert.RkvIdeal.nD,
          r.2.mem ((c.tc : Thread Cert.RkvIdeal.nD Cert.RkvIdeal.τ).loc Cert.RkvIdeal.main_v5) = v0 c
          ∧ r.2.mem ((c.tc : Thread Cert.RkvIdeal.nD Cert.RkvIdeal.τ).loc Cert.RkvIdeal.main_arg0) = m ((c.tc : Thread Cert.RkvIdeal.nD Cert.RkvIdeal.τ).loc Cert.RkvIdeal.main_arg0)
          ∧ r.2.mem ((c.tc : Thread Cert.RkvIdeal.nD Cert.RkvIdeal.τ).loc Cert.RkvIdeal.main_arg1) = m ((c.tc : Thread Cert.RkvIdeal.nD Cert.RkvIdeal.τ).loc Cert.RkvIdeal.main_arg1))
      ∧ θ_run (Cert.RkvRefIdeal.defs (F := Ideal)) (onTc (τ := Cert.RkvRefIdeal.τ) (Cert.RkvRefIdeal.main (F := Ideal))) ⟨m', fun _ => 0, g'⟩ (fun r => ∀ c : Dev Cert.RkvRefIdeal.nD,
          r.2.mem ((c.tc : Thread Cert.RkvRefIdeal.nD Cert.RkvRefIdeal.τ).loc Cert.RkvRefIdeal.main_v2) = v0 c
          ∧ r.2.mem ((c.tc : Thread Cert.RkvRefIdeal.nD Cert.RkvRefIdeal.τ).loc Cert.RkvRefIdeal.main_arg0) = m' ((c.tc : Thread Cert.RkvRefIdeal.nD Cert.RkvRefIdeal.τ).loc Cert.RkvRefIdeal.main_arg0)
          ∧ r.2.mem ((c.tc : Thread Cert.RkvRefIdeal.nD Cert.RkvRefIdeal.τ).loc Cert.RkvRefIdeal.main_arg1) = m' ((c.tc : Thread Cert.RkvRefIdeal.nD Cert.RkvRefIdeal.τ).loc Cert.RkvRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)
      ∧ m' ((c.tc : Thread Cert.LoraRefIdeal.nD Cert.LoraRefIdeal.τ).loc Cert.LoraRefIdeal.main_arg3) = m ((c.tc : Thread Cert.LoraIdeal.nD Cert.LoraIdeal.τ).loc Cert.LoraIdeal.main_arg3)
      ∧ m' ((c.tc : Thread Cert.LoraRefIdeal.nD Cert.LoraRefIdeal.τ).loc Cert.LoraRefIdeal.main_arg4) = m ((c.tc : Thread Cert.LoraIdeal.nD Cert.LoraIdeal.τ).loc Cert.LoraIdeal.main_arg4)) →
    ∃ (v0 : (c : Dev Cert.LoraIdeal.nD) → Buf (Elt Ideal) ((c.tc : Thread Cert.LoraIdeal.nD Cert.LoraIdeal.τ).loc Cert.LoraIdeal.main_v17)) (v1 : (c : Dev Cert.LoraIdeal.nD) → Buf (Elt Ideal) ((c.tc : Thread Cert.LoraIdeal.nD Cert.LoraIdeal.τ).loc Cert.LoraIdeal.main_v23)) (v2 : (c : Dev Cert.LoraIdeal.nD) → Buf (Elt Ideal) ((c.tc : Thread Cert.LoraIdeal.nD Cert.LoraIdeal.τ).loc Cert.LoraIdeal.main_v26)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v17) = v0 c
          ∧ r.2.mem ((c.tc : Thread Cert.LoraIdeal.nD Cert.LoraIdeal.τ).loc Cert.LoraIdeal.main_v23) = v1 c
          ∧ r.2.mem ((c.tc : Thread Cert.LoraIdeal.nD Cert.LoraIdeal.τ).loc Cert.LoraIdeal.main_v26) = v2 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
          ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
          ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v25) = v0 c
          ∧ r.2.mem ((c.tc : Thread Cert.LoraRefIdeal.nD Cert.LoraRefIdeal.τ).loc Cert.LoraRefIdeal.main_v47) = v1 c
          ∧ r.2.mem ((c.tc : Thread Cert.LoraRefIdeal.nD Cert.LoraRefIdeal.τ).loc Cert.LoraRefIdeal.main_v56) = v2 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2)
          ∧ r.2.mem ((c.tc : Thread Cert.LoraRefIdeal.nD Cert.LoraRefIdeal.τ).loc Cert.LoraRefIdeal.main_arg3) = m' ((c.tc : Thread Cert.LoraRefIdeal.nD Cert.LoraRefIdeal.τ).loc Cert.LoraRefIdeal.main_arg3)
          ∧ r.2.mem ((c.tc : Thread Cert.LoraRefIdeal.nD Cert.LoraRefIdeal.τ).loc Cert.LoraRefIdeal.main_arg4) = m' ((c.tc : Thread Cert.LoraRefIdeal.nD Cert.LoraRefIdeal.τ).loc Cert.LoraRefIdeal.main_arg4))

def preserves_Scan_ScanIdeal : Prop :=
  True

def algebraic_ScanIdeal_ScanRefIdeal_pre_decay_positive [hScanIdeal : Cert.ScanIdeal.Facts] [hScanRefIdeal : Cert.ScanRefIdeal.Facts] [hPre_decay_positive : Cert.Pre_decay_positive.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_decay_positive m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)
      ∧ m' ((c.tc : Thread Cert.ScanRefIdeal.nD Cert.ScanRefIdeal.τ).loc Cert.ScanRefIdeal.main_arg10) = m ((c.tc : Thread Cert.ScanIdeal.nD Cert.ScanIdeal.τ).loc Cert.ScanIdeal.main_arg10)) →
    ∃ (v0 : (c : Dev Cert.ScanIdeal.nD) → Buf (Elt Ideal) ((c.tc : Thread Cert.ScanIdeal.nD Cert.ScanIdeal.τ).loc Cert.ScanIdeal.main_v32)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v32) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
          ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v36_7) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8)
          ∧ r.2.mem ((c.tc : Thread Cert.ScanRefIdeal.nD Cert.ScanRefIdeal.τ).loc Cert.ScanRefIdeal.main_arg9) = m' ((c.tc : Thread Cert.ScanRefIdeal.nD Cert.ScanRefIdeal.τ).loc Cert.ScanRefIdeal.main_arg9)
          ∧ r.2.mem ((c.tc : Thread Cert.ScanRefIdeal.nD Cert.ScanRefIdeal.τ).loc Cert.ScanRefIdeal.main_arg10) = m' ((c.tc : Thread Cert.ScanRefIdeal.nD Cert.ScanRefIdeal.τ).loc Cert.ScanRefIdeal.main_arg10))

def Claim : Prop :=
  ∃ (hMix : Cert.Mix.Facts) (hMixIdeal : Cert.MixIdeal.Facts) (hMixRefIdeal : Cert.MixRefIdeal.Facts) (hTail : Cert.Tail.Facts) (hTailIdeal : Cert.TailIdeal.Facts) (hTailRefIdeal : Cert.TailRefIdeal.Facts) (hRkv : Cert.Rkv.Facts) (hRkvIdeal : Cert.RkvIdeal.Facts) (hRkvRefIdeal : Cert.RkvRefIdeal.Facts) (hLora : Cert.Lora.Facts) (hLoraIdeal : Cert.LoraIdeal.Facts) (hLoraRefIdeal : Cert.LoraRefIdeal.Facts) (hScan : Cert.Scan.Facts) (hScanIdeal : Cert.ScanIdeal.Facts) (hScanRefIdeal : Cert.ScanRefIdeal.Facts) (hPre_decay_positive : Cert.Pre_decay_positive.Facts),
    quiescent_Mix (hMix := hMix)
    ∧ quiescent_MixIdeal (hMixIdeal := hMixIdeal)
    ∧ quiescent_MixRefIdeal (hMixRefIdeal := hMixRefIdeal)
    ∧ quiescent_Tail (hTail := hTail)
    ∧ quiescent_TailIdeal (hTailIdeal := hTailIdeal)
    ∧ quiescent_TailRefIdeal (hTailRefIdeal := hTailRefIdeal)
    ∧ quiescent_Rkv (hRkv := hRkv)
    ∧ quiescent_RkvIdeal (hRkvIdeal := hRkvIdeal)
    ∧ quiescent_RkvRefIdeal (hRkvRefIdeal := hRkvRefIdeal)
    ∧ quiescent_Lora (hLora := hLora)
    ∧ quiescent_LoraIdeal (hLoraIdeal := hLoraIdeal)
    ∧ quiescent_LoraRefIdeal (hLoraRefIdeal := hLoraRefIdeal)
    ∧ quiescent_Scan (hScan := hScan)
    ∧ quiescent_ScanIdeal (hScanIdeal := hScanIdeal)
    ∧ quiescent_ScanIdeal_pre_decay_positive (hScanIdeal := hScanIdeal) (hPre_decay_positive := hPre_decay_positive)
    ∧ quiescent_ScanRefIdeal (hScanRefIdeal := hScanRefIdeal)
    ∧ quiescent_ScanRefIdeal_pre_decay_positive (hScanRefIdeal := hScanRefIdeal) (hPre_decay_positive := hPre_decay_positive)
    ∧ preserves_Mix_MixIdeal
    ∧ algebraic_MixIdeal_MixRefIdeal (hMixIdeal := hMixIdeal) (hMixRefIdeal := hMixRefIdeal)
    ∧ preserves_Tail_TailIdeal
    ∧ algebraic_TailIdeal_TailRefIdeal (hTailIdeal := hTailIdeal) (hTailRefIdeal := hTailRefIdeal)
    ∧ preserves_Rkv_RkvIdeal
    ∧ algebraic_RkvIdeal_RkvRefIdeal (hRkvIdeal := hRkvIdeal) (hRkvRefIdeal := hRkvRefIdeal)
    ∧ preserves_Lora_LoraIdeal
    ∧ algebraic_LoraIdeal_LoraRefIdeal (hLoraIdeal := hLoraIdeal) (hLoraRefIdeal := hLoraRefIdeal)
    ∧ preserves_Scan_ScanIdeal
    ∧ algebraic_ScanIdeal_ScanRefIdeal_pre_decay_positive (hScanIdeal := hScanIdeal) (hScanRefIdeal := hScanRefIdeal) (hPre_decay_positive := hPre_decay_positive)
-- ==== Pre_decay_positive.lean ====
abbrev S128x8x2048 : Shape := ⟨3, ![128, 8, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S_ : Shape := ⟨0, ![]⟩

class Facts : Prop where
  bcast_S_S128x8x2048 : S_.BroadcastsInDim S128x8x2048 (![] : Fin 0 → Fin S128x8x2048.rank)

variable [Facts]

def fn {F : FTy → Type} [FloatOps F] (main_arg0 : FVec F S128x8x2048 .f32) (main_arg1 : FVec F S128x8x2048 .f32) (main_arg2 : FVec F S128x8x2048 .f32) (main_arg3 : FVec F S128x8x2048 .f32) (main_arg4 : FVec F S128x8x2048 .f32) (main_arg5 : FVec F S1x128x32x64x64 .f32) (main_arg6 : FVec F S1x2048 .f32) (main_arg7 : FVec F S1x2048 .f32) (main_arg8 : FVec F S1x32x64 .f32) (main_arg9 : FVec F S1x2048 .f32) (main_arg10 : FVec F S1x2048 .f32) : IVec S128x8x2048 1 :=
  let main_cst : FVec F S_ .f32 := constant S_ .f32 0x00000000#32
  let main_v0 : FVec F S128x8x2048 .f32 := broadcastInDim S128x8x2048 ![] bcast_S_S128x8x2048 main_cst
  let main_v1 : IVec S128x8x2048 1 := cmpf .ogt main_arg3 main_v0
  let main_cst_0 : FVec F S_ .f32 := constant S_ .f32 0x7F800000#32
  let main_v2 : FVec F S128x8x2048 .f32 := broadcastInDim S128x8x2048 ![] bcast_S_S128x8x2048 main_cst_0
  let main_v3 : IVec S128x8x2048 1 := cmpf .olt main_arg3 main_v2
  let main_v4 : IVec S128x8x2048 1 := andi main_v1 main_v3
  main_v4
-- ==== Mix.lean ====
abbrev S4x2048x4096 : Shape := ⟨3, ![4, 2048, 4096]⟩
abbrev S128x8x4096 : Shape := ⟨3, ![128, 8, 4096]⟩
abbrev S1x128x30x2048 : Shape := ⟨4, ![1, 128, 30, 2048]⟩
abbrev S1x4096 : Shape := ⟨2, ![1, 4096]⟩
abbrev S1x4096x10688 : Shape := ⟨3, ![1, 4096, 10688]⟩
abbrev S4096 : Shape := ⟨1, ![4096]⟩
abbrev S4096x10688 : Shape := ⟨2, ![4096, 10688]⟩
abbrev S10688x4096 : Shape := ⟨2, ![10688, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩
abbrev S8192x2048 : Shape := ⟨2, ![8192, 2048]⟩
abbrev S2048x4096 : Shape := ⟨2, ![2048, 4096]⟩
abbrev S256x4096 : Shape := ⟨2, ![256, 4096]⟩
abbrev S2048x256 : Shape := ⟨2, ![2048, 256]⟩
abbrev S4x1x4096 : Shape := ⟨3, ![4, 1, 4096]⟩
abbrev S4x4096 : Shape := ⟨2, ![4, 4096]⟩
abbrev S4 : Shape := ⟨1, ![4]⟩
abbrev S4x1 : Shape := ⟨2, ![4, 1]⟩
abbrev S4x2048x2048 : Shape := ⟨3, ![4, 2048, 2048]⟩
abbrev S4x30x2048 : Shape := ⟨3, ![4, 30, 2048]⟩
abbrev S128x30x2048 : Shape := ⟨3, ![128, 30, 2048]⟩
abbrev S1024x4096 : Shape := ⟨2, ![1024, 4096]⟩
abbrev S1024x2048 : Shape := ⟨2, ![1024, 2048]⟩
abbrev S1024x256 : Shape := ⟨2, ![1024, 256]⟩
abbrev S128x1x4096 : Shape := ⟨3, ![128, 1, 4096]⟩
abbrev S128x4096 : Shape := ⟨2, ![128, 4096]⟩
abbrev S128 : Shape := ⟨1, ![128]⟩
abbrev S128x1 : Shape := ⟨2, ![128, 1]⟩
abbrev S128x8x2048 : Shape := ⟨3, ![128, 8, 2048]⟩
abbrev S128x38x2048 : Shape := ⟨3, ![128, 38, 2048]⟩
abbrev S1x4x4096 : Shape := ⟨3, ![1, 4, 4096]⟩
abbrev S1x4x30x2048 : Shape := ⟨4, ![1, 4, 30, 2048]⟩
abbrev S1x128x4096 : Shape := ⟨3, ![1, 128, 4096]⟩

abbrev nBuf : Space → Nat
  | .hbm => 34
  | .vmem => 30
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S1x128x30x2048, .f32⟩
  | .hbm, ⟨3, _⟩ => ⟨S1x4096, .f32⟩
  | .hbm, ⟨4, _⟩ => ⟨S1x4096x10688, .f32⟩
  | .hbm, ⟨5, _⟩ => ⟨S4096, .f32⟩
  | .hbm, ⟨6, _⟩ => ⟨S4096x10688, .f32⟩
  | .hbm, ⟨7, _⟩ => ⟨S10688x4096, .f32⟩
  | .hbm, ⟨8, _⟩ => ⟨S8192x4096, .f32⟩
  | .hbm, ⟨9, _⟩ => ⟨S1x4096, .f32⟩
  | .hbm, ⟨10, _⟩ => ⟨S8192x4096, .bf16⟩
  | .hbm, ⟨11, _⟩ => ⟨S8192x2048, .f32⟩
  | .hbm, ⟨12, _⟩ => ⟨S4x1x4096, .f32⟩
  | .hbm, ⟨13, _⟩ => ⟨S4x4096, .f32⟩
  | .hbm, ⟨14, _⟩ => ⟨S1x4096, .f32⟩
  | .hbm, ⟨15, _⟩ => ⟨S4x4096, .f32⟩
  | .hbm, ⟨16, _⟩ => ⟨S4x2048x2048, .f32⟩
  | .hbm, ⟨17, _⟩ => ⟨S4x30x2048, .f32⟩
  | .hbm, ⟨18, _⟩ => ⟨S128x30x2048, .f32⟩
  | .hbm, ⟨19, _⟩ => ⟨S1024x4096, .f32⟩
  | .hbm, ⟨20, _⟩ => ⟨S1x4096, .f32⟩
  | .hbm, ⟨21, _⟩ => ⟨S1024x4096, .bf16⟩
  | .hbm, ⟨22, _⟩ => ⟨S1024x2048, .f32⟩
  | .hbm, ⟨23, _⟩ => ⟨S128x1x4096, .f32⟩
  | .hbm, ⟨24, _⟩ => ⟨S128x4096, .f32⟩
  | .hbm, ⟨25, _⟩ => ⟨S1x4096, .f32⟩
  | .hbm, ⟨26, _⟩ => ⟨S128x4096, .f32⟩
  | .hbm, ⟨27, _⟩ => ⟨S128x8x2048, .f32⟩
  | .hbm, ⟨28, _⟩ => ⟨S128x38x2048, .f32⟩
  | .hbm, ⟨29, _⟩ => ⟨S128x30x2048, .f32⟩
  | .hbm, ⟨30, _⟩ => ⟨S1x4x4096, .f32⟩
  | .hbm, ⟨31, _⟩ => ⟨S1x4x30x2048, .f32⟩
  | .hbm, ⟨32, _⟩ => ⟨S1x128x4096, .f32⟩
  | .hbm, ⟨33, _⟩ => ⟨S1x128x30x2048, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S2048x4096, .bf16⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S2048x256, .f32⟩
  | .local _ .vmem, ⟨11, _⟩ => ⟨S2048x256, .f32⟩
  | .local _ .vmem, ⟨12, _⟩ => ⟨S4x4096, .f32⟩
  | .local _ .vmem, ⟨13, _⟩ => ⟨S1x4096, .f32⟩
  | .local _ .vmem, ⟨14, _⟩ => ⟨S4x4096, .f32⟩
  | .local _ .vmem, ⟨15, _⟩ => ⟨S512x4096, .f32⟩
  | .local _ .vmem, ⟨16, _⟩ => ⟨S512x4096, .f32⟩
  | .local _ .vmem, ⟨17, _⟩ => ⟨S1x4096, .f32⟩
  | .local _ .vmem, ⟨18, _⟩ => ⟨S512x4096, .bf16⟩
  | .local _ .vmem, ⟨19, _⟩ => ⟨S512x4096, .bf16⟩
  | .local _ .vmem, ⟨20, _⟩ => ⟨S1024x4096, .bf16⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S256x4096, .f32⟩
  | .local _ .vmem, ⟨25, _⟩ => ⟨S1024x256, .f32⟩
  | .local _ .vmem, ⟨26, _⟩ => ⟨S1024x256, .f32⟩
  | .local _ .vmem, ⟨27, _⟩ => ⟨S128x4096, .f32⟩
  | .local _ .vmem, ⟨28, _⟩ => ⟨S1x4096, .f32⟩
  | .local _ .vmem, ⟨29, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc4_sem3_0 : DmaSem sig := 25
abbrev cc4_sem3_1 : DmaSem sig := 26
abbrev cc5_sem0_0 : DmaSem sig := 27
abbrev cc5_sem1_0 : DmaSem sig := 28
abbrev cc5_sem2_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_mult1 (i : grid1.Coords) : BitVec 32 :=
  let c6592_i32 : BitVec 32 := 6592#32
  let arg1 : BitVec 32 := BitVec.ofNat 32 (i 1).val
  let c256_i32 : BitVec 32 := 256#32
  let v0 : BitVec 32 := Scalar.muli arg1 c256_i32
  let v1 : BitVec 32 := Scalar.addi c6592_i32 v0
  v1
def k1_mult2 (i : grid1.Coords) : BitVec 32 :=
  let c8640_i32 : BitVec 32 := 8640#32
  let arg1 : BitVec 32 := BitVec.ofNat 32 (i 1).val
  let c256_i32 : BitVec 32 := 256#32
  let v0 : BitVec 32 := Scalar.muli arg1 c256_i32
  let v1 : BitVec 32 := Scalar.addi c8640_i32 v0
  v1
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c6592_i32 : BitVec 32 := 6592#32
  let v1 : BitVec 32 := Scalar.addi c6592_i32 v0
  let v2 : BitVec 32 := v1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8640_i32 : BitVec 32 := 8640#32
  let v1 : BitVec 32 := Scalar.addi c8640_i32 v0
  let v2 : BitVec 32 := v1
  let c0_i32 : BitVec 32 := 0#32
  let c0_i32_0 : BitVec 32 := 0#32
  ![v2.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![1, 8], ![false, false]⟩

def k4_mult1 (i : grid4.Coords) : BitVec 32 :=
  let c6592_i32 : BitVec 32 := 6592#32
  let arg1 : BitVec 32 := BitVec.ofNat 32 (i 1).val
  let c256_i32 : BitVec 32 := 256#32
  let v0 : BitVec 32 := Scalar.muli arg1 c256_i32
  let v1 : BitVec 32 := Scalar.addi c6592_i32 v0
  v1
def k4_mult2 (i : grid4.Coords) : BitVec 32 :=
  let c8640_i32 : BitVec 32 := 8640#32
  let arg1 : BitVec 32 := BitVec.ofNat 32 (i 1).val
  let c256_i32 : BitVec 32 := 256#32
  let v0 : BitVec 32 := Scalar.muli arg1 c256_i32
  let v1 : BitVec 32 := Scalar.addi c8640_i32 v0
  v1
def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c6592_i32 : BitVec 32 := 6592#32
  let v1 : BitVec 32 := Scalar.addi c6592_i32 v0
  let v2 : BitVec 32 := v1
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8640_i32 : BitVec 32 := 8640#32
  let v1 : BitVec 32 := Scalar.addi c8640_i32 v0
  let v2 : BitVec 32 := v1
  let c0_i32 : BitVec 32 := 0#32
  let c0_i32_0 : BitVec 32 := 0#32
  ![v2.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1024x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S128x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]
-- ==== MixRefIdeal.lean ====
abbrev S4x2048x4096 : Shape := ⟨3, ![4, 2048, 4096]⟩
abbrev S128x8x4096 : Shape := ⟨3, ![128, 8, 4096]⟩
abbrev S1x128x30x2048 : Shape := ⟨4, ![1, 128, 30, 2048]⟩
abbrev S1x4096 : Shape := ⟨2, ![1, 4096]⟩
abbrev S1x4096x10688 : Shape := ⟨3, ![1, 4096, 10688]⟩
abbrev S_ : Shape := ⟨0, ![]⟩
abbrev S4x30x2048 : Shape := ⟨3, ![4, 30, 2048]⟩
abbrev S4096 : Shape := ⟨1, ![4096]⟩
abbrev S4096x10688 : Shape := ⟨2, ![4096, 10688]⟩
abbrev S4x2048 : Shape := ⟨2, ![4, 2048]⟩
abbrev S4x2048x1 : Shape := ⟨3, ![4, 2048, 1]⟩
abbrev S1x1x4096 : Shape := ⟨3, ![1, 1, 4096]⟩
abbrev S4x2048x10688 : Shape := ⟨3, ![4, 2048, 10688]⟩
abbrev S4x2048x2048 : Shape := ⟨3, ![4, 2048, 2048]⟩
abbrev S4x2078x2048 : Shape := ⟨3, ![4, 2078, 2048]⟩
abbrev S4x1x4096 : Shape := ⟨3, ![4, 1, 4096]⟩
abbrev S4x4096 : Shape := ⟨2, ![4, 4096]⟩
abbrev S128x30x2048 : Shape := ⟨3, ![128, 30, 2048]⟩
abbrev S128x8 : Shape := ⟨2, ![128, 8]⟩
abbrev S128x8x1 : Shape := ⟨3, ![128, 8, 1]⟩
abbrev S128x8x10688 : Shape := ⟨3, ![128, 8, 10688]⟩
abbrev S128x8x2048 : Shape := ⟨3, ![128, 8, 2048]⟩
abbrev S128x38x2048 : Shape := ⟨3, ![128, 38, 2048]⟩
abbrev S128x1x4096 : Shape := ⟨3, ![128, 1, 4096]⟩
abbrev S128x4096 : Shape := ⟨2, ![128, 4096]⟩
abbrev S1x4x4096 : Shape := ⟨3, ![1, 4, 4096]⟩
abbrev S1x4x30x2048 : Shape := ⟨4, ![1, 4, 30, 2048]⟩
abbrev S1x128x4096 : Shape := ⟨3, ![1, 128, 4096]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S1x128x30x2048, .f32⟩
  | .hbm, ⟨3, _⟩ => ⟨S1x4096, .f32⟩
  | .hbm, ⟨4, _⟩ => ⟨S1x4096x10688, .f32⟩
  | .hbm, ⟨5, _⟩ => ⟨S_, .f32⟩
  | .hbm, ⟨6, _⟩ => ⟨S4x30x2048, .f32⟩
  | .hbm, ⟨7, _⟩ => ⟨S4096, .f32⟩
  | .hbm, ⟨8, _⟩ => ⟨S4096x10688, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x10688, .f32⟩
  | .hbm, ⟨26, _⟩ => ⟨S4x2048x4096, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2078x2048, .f32⟩
  | .hbm, ⟨39, _⟩ => ⟨S4x1x4096, .f32⟩
  | .hbm, ⟨40, _⟩ => ⟨S4x4096, .f32⟩
  | .hbm, ⟨41, _⟩ => ⟨S4x30x2048, .f32⟩
  | .hbm, ⟨42, _⟩ => ⟨S128x30x2048, .f32⟩
  | .hbm, ⟨43, _⟩ => ⟨S4096, .f32⟩
  | .hbm, ⟨44, _⟩ => ⟨S4096x10688, .f32⟩
  | .hbm, ⟨45, _⟩ => ⟨S128x8x4096, .f32⟩
  | .hbm, ⟨46, _⟩ => ⟨S_, .f32⟩
  | .hbm, ⟨47, _⟩ => ⟨S128x8, .f32⟩
  | .hbm, ⟨48, _⟩ => ⟨S128x8x1, .f32⟩
  | .hbm, ⟨49, _⟩ => ⟨S_, .f32⟩
  | .hbm, ⟨50, _⟩ => ⟨S128x8x1, .f32⟩
  | .hbm, ⟨51, _⟩ => ⟨S128x8x1, .f32⟩
  | .hbm, ⟨52, _⟩ => ⟨S_, .f32⟩
  | .hbm, ⟨53, _⟩ => ⟨S128x8x1, .f32⟩
  | .hbm, ⟨54, _⟩ => ⟨S128x8x1, .f32⟩
  | .hbm, ⟨55, _⟩ => ⟨S128x8x1, .f32⟩
  | .hbm, ⟨56, _⟩ => ⟨S128x8x4096, .f32⟩
  | .hbm, ⟨57, _⟩ => ⟨S128x8x4096, .f32⟩
  | .hbm, ⟨58, _⟩ => ⟨S1x1x4096, .f32⟩
  | .hbm, ⟨59, _⟩ => ⟨S128x8x4096, .f32⟩
  | .hbm, ⟨60, _⟩ => ⟨S128x8x4096, .f32⟩
  | .hbm, ⟨61, _⟩ => ⟨S128x8x10688, .f32⟩
  | .hbm, ⟨62, _⟩ => ⟨S128x8x4096, .f32⟩
  | .hbm, ⟨63, _⟩ => ⟨S128x8x2048, .f32⟩
  | .hbm, ⟨64, _⟩ => ⟨S128x8x2048, .f32⟩
  | .hbm, ⟨65, _⟩ => ⟨S128x8x2048, .f32⟩
  | .hbm, ⟨66, _⟩ => ⟨S128x8x2048, .f32⟩
  | .hbm, ⟨67, _⟩ => ⟨S_, .f32⟩
  | .hbm, ⟨68, _⟩ => ⟨S128x8x2048, .f32⟩
  | .hbm, ⟨69, _⟩ => ⟨S128x8x2048, .f32⟩
  | .hbm, ⟨70, _⟩ => ⟨S_, .f32⟩
  | .hbm, ⟨71, _⟩ => ⟨S128x8x2048, .f32⟩
  | .hbm, ⟨72, _⟩ => ⟨S128x8x2048, .f32⟩
  | .hbm, ⟨73, _⟩ => ⟨S128x8x2048, .f32⟩
  | .hbm, ⟨74, _⟩ => ⟨S128x38x2048, .f32⟩
  | .hbm, ⟨75, _⟩ => ⟨S128x1x4096, .f32⟩
  | .hbm, ⟨76, _⟩ => ⟨S128x4096, .f32⟩
  | .hbm, ⟨77, _⟩ => ⟨S128x30x2048, .f32⟩
  | .hbm, ⟨78, _⟩ => ⟨S1x4x4096, .f32⟩
  | .hbm, ⟨79, _⟩ => ⟨S1x4x30x2048, .f32⟩
  | .hbm, ⟨80, _⟩ => ⟨S1x128x4096, .f32⟩
  | .hbm, ⟨81, _⟩ => ⟨S1x128x30x2048, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Tail.lean ====
abbrev S4x2048x4096 : Shape := ⟨3, ![4, 2048, 4096]⟩
abbrev S128x8x4096 : Shape := ⟨3, ![128, 8, 4096]⟩
abbrev S4x2048x2048 : Shape := ⟨3, ![4, 2048, 2048]⟩
abbrev S128x8x2048 : Shape := ⟨3, ![128, 8, 2048]⟩
abbrev S1x4x2048x256 : Shape := ⟨4, ![1, 4, 2048, 256]⟩
abbrev S1x128x8x256 : Shape := ⟨4, ![1, 128, 8, 256]⟩
abbrev S1x4096x4096 : Shape := ⟨3, ![1, 4096, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S1x256x4096 : Shape := ⟨3, ![1, 256, 4096]⟩
abbrev S4096 : Shape := ⟨1, ![4096]⟩
abbrev S4096x4096 : Shape := ⟨2, ![4096, 4096]⟩
abbrev S4096x22016 : Shape := ⟨2, ![4096, 22016]⟩
abbrev S11008x4096 : Shape := ⟨2, ![11008, 4096]⟩
abbrev S256x4096 : Shape := ⟨2, ![256, 4096]⟩
abbrev S4x2048x256 : Shape := ⟨3, ![4, 2048, 256]⟩
abbrev S8192x4096 : Shape := ⟨2, ![8192, 4096]⟩
abbrev S8192x2048 : Shape := ⟨2, ![8192, 2048]⟩
abbrev S1024x2048 : Shape := ⟨2, ![1024, 2048]⟩
abbrev S2048x512 : Shape := ⟨2, ![2048, 512]⟩
abbrev S1024x512 : Shape := ⟨2, ![1024, 512]⟩
abbrev S512x4096 : Shape := ⟨2, ![512, 4096]⟩
abbrev S512 : Shape := ⟨1, ![512]⟩
abbrev S512x1 : Shape := ⟨2, ![512, 1]⟩
abbrev S8192x11008 : Shape := ⟨2, ![8192, 11008]⟩
abbrev S2048x4096 : Shape := ⟨2, ![2048, 4096]⟩
abbrev S4096x256 : Shape := ⟨2, ![4096, 256]⟩
abbrev S2048x256 : Shape := ⟨2, ![2048, 256]⟩
abbrev S512x11008 : Shape := ⟨2, ![512, 11008]⟩
abbrev S11008x512 : Shape := ⟨2, ![11008, 512]⟩
abbrev S512x512 : Shape := ⟨2, ![512, 512]⟩
abbrev S8192x256 : Shape := ⟨2, ![8192, 256]⟩
abbrev S1024x4096 : Shape := ⟨2, ![1024, 4096]⟩
abbrev S1024x256 : Shape := ⟨2, ![1024, 256]⟩
abbrev S4096x512 : Shape := ⟨2, ![4096, 512]⟩
abbrev S256x512 : Shape := ⟨2, ![256, 512]⟩
abbrev S128x8x256 : Shape := ⟨3, ![128, 8, 256]⟩
abbrev S1024x11008 : Shape := ⟨2, ![1024, 11008]⟩

abbrev nBuf : Space → Nat
  | .hbm => 63
  | .vmem => 104
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S4x2048x2048, .bf16⟩
  | .hbm, ⟨3, _⟩ => ⟨S4x2048x2048, .bf16⟩
  | .hbm, ⟨4, _⟩ => ⟨S128x8x2048, .bf16⟩
  | .hbm, ⟨5, _⟩ => ⟨S128x8x2048, .bf16⟩
  | .hbm, ⟨6, _⟩ => ⟨S1x4x2048x256, .f32⟩
  | .hbm, ⟨7, _⟩ => ⟨S1x128x8x256, .f32⟩
  | .hbm, ⟨8, _⟩ => ⟨S1x4096x4096, .f32⟩
  | .hbm, ⟨9, _⟩ => ⟨S1x4096, .f32⟩
  | .hbm, ⟨10, _⟩ => ⟨S1x4096x22016, .f32⟩
  | .hbm, ⟨11, _⟩ => ⟨S1x11008x4096, .f32⟩
  | .hbm, ⟨12, _⟩ => ⟨S1x4096, .f32⟩
  | .hbm, ⟨13, _⟩ => ⟨S1x4096x4096, .f32⟩
  | .hbm, ⟨14, _⟩ => ⟨S1x256x4096, .f32⟩
  | .hbm, ⟨15, _⟩ => ⟨S4096, .f32⟩
  | .hbm, ⟨16, _⟩ => ⟨S4096x4096, .f32⟩
  | .hbm, ⟨17, _⟩ => ⟨S4096x4096, .bf16⟩
  | .hbm, ⟨18, _⟩ => ⟨S4096, .f32⟩
  | .hbm, ⟨19, _⟩ => ⟨S4096x22016, .f32⟩
  | .hbm, ⟨20, _⟩ => ⟨S11008x4096, .f32⟩
  | .hbm, ⟨21, _⟩ => ⟨S11008x4096, .bf16⟩
  | .hbm, ⟨22, _⟩ => ⟨S4096, .f32⟩
  | .hbm, ⟨23, _⟩ => ⟨S4096x4096, .f32⟩
  | .hbm, ⟨24, _⟩ => ⟨S4096x4096, .bf16⟩
  | .hbm, ⟨25, _⟩ => ⟨S256x4096, .f32⟩
  | .hbm, ⟨26, _⟩ => ⟨S256x4096, .bf16⟩
  | .hbm, ⟨27, _⟩ => ⟨S4x2048x256, .f32⟩
  | .hbm, ⟨28, _⟩ => ⟨S8192x4096, .f32⟩
  | .hbm, ⟨29, _⟩ => ⟨S8192x2048, .bf16⟩
  | .hbm, ⟨30, _⟩ => ⟨S8192x2048, .bf16⟩
  | .hbm, ⟨31, _⟩ => ⟨S8192x4096, .f32⟩
  | .hbm, ⟨32, _⟩ => ⟨S1x4096, .f32⟩
  | .hbm, ⟨33, _⟩ => ⟨S8192x4096, .bf16⟩
  | .hbm, ⟨34, _⟩ => ⟨S8192x11008, .bf16⟩
  | .hbm, ⟨35, _⟩ => ⟨S8192x4096, .f32⟩
  | .hbm, ⟨36, _⟩ => ⟨S1x4096, .f32⟩
  | .hbm, ⟨37, _⟩ => ⟨S8192x4096, .bf16⟩
  | .hbm, ⟨38, _⟩ => ⟨S8192x256, .f32⟩
  | .hbm, ⟨39, _⟩ => ⟨S8192x4096, .f32⟩
  | .hbm, ⟨40, _⟩ => ⟨S4x2048x4096, .f32⟩
  | .hbm, ⟨41, _⟩ => ⟨S128x8x256, .f32⟩
  | .hbm, ⟨42, _⟩ => ⟨S1024x4096, .f32⟩
  | .hbm, ⟨43, _⟩ => ⟨S1024x2048, .bf16⟩
  | .hbm, ⟨44, _⟩ => ⟨S1024x2048, .bf16⟩
  | .hbm, ⟨45, _⟩ => ⟨S1024x4096, .f32⟩
  | .hbm, ⟨46, _⟩ => ⟨S1x4096, .f32⟩
  | .hbm, ⟨47, _⟩ => ⟨S1024x4096, .bf16⟩
  | .hbm, ⟨48, _⟩ => ⟨S1024x11008, .bf16⟩
  | .hbm, ⟨49, _⟩ => ⟨S1024x4096, .f32⟩
  | .hbm, ⟨50, _⟩ => ⟨S1x4096, .f32⟩
  | .hbm, ⟨51, _⟩ => ⟨S1024x4096, .bf16⟩
  | .hbm, ⟨52, _⟩ => ⟨S1024x256, .f32⟩
  | .hbm, ⟨53, _⟩ => ⟨S1024x4096, .f32⟩
  | .hbm, ⟨54, _⟩ => ⟨S128x8x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S4x2048x4096, .f32⟩
  | .hbm, ⟨59, _⟩ => ⟨S1024x4096, .f32⟩
  | .hbm, ⟨60, _⟩ => ⟨S1x4096, .f32⟩
  | .hbm, ⟨61, _⟩ => ⟨S1024x4096, .f32⟩
  | .hbm, ⟨62, _⟩ => ⟨S128x8x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S2048x4096, .bf16⟩
  | .local _ .vmem, ⟨18, _⟩ => ⟨S4096x256, .f32⟩
  | .local _ .vmem, ⟨19, _⟩ => ⟨S4096x256, .f32⟩
  | .local _ .vmem, ⟨20, _⟩ => ⟨S4096x256, .f32⟩
  | .local _ .vmem, ⟨21, _⟩ => ⟨S4096x256, .f32⟩
  | .local _ .vmem, ⟨22, _⟩ => ⟨S2048x256, .bf16⟩
  | .local _ .vmem, ⟨23, _⟩ => ⟨S2048x256, .bf16⟩
  | .local _ .vmem, ⟨24, _⟩ => ⟨S512x11008, .bf16⟩
  | .local _ .vmem, ⟨25, _⟩ => ⟨S512x11008, .bf16⟩
  | .local _ .vmem, ⟨26, _⟩ => ⟨S11008x512, .bf16⟩
  | .local _ .vmem, ⟨27, _⟩ => ⟨S11008x512, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x4096, .f32⟩
  | .local _ .vmem, ⟨33, _⟩ => ⟨S512x4096, .f32⟩
  | .local _ .vmem, ⟨34, _⟩ => ⟨S1x4096, .f32⟩
  | .local _ .vmem, ⟨35, _⟩ => ⟨S512x4096, .bf16⟩
  | .local _ .vmem, ⟨36, _⟩ => ⟨S512x4096, .bf16⟩
  | .local _ .vmem, ⟨37, _⟩ => ⟨S1024x4096, .bf16⟩
  | .local _ .vmem, ⟨38, _⟩ => ⟨S1024x4096, .bf16⟩
  | .local _ .vmem, ⟨39, _⟩ => ⟨S1024x256, .f32⟩
  | .local _ .vmem, ⟨40, _⟩ => ⟨S1024x256, .f32⟩
  | .local _ .vmem, ⟨41, _⟩ => ⟨S4096x512, .bf16⟩
  | .local _ .vmem, ⟨42, _⟩ => ⟨S4096x512, .bf16⟩
  | .local _ .vmem, ⟨43, _⟩ => ⟨S256x512, .bf16⟩
  | .local _ .vmem, ⟨44, _⟩ => ⟨S256x512, .bf16⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x2048, .bf16⟩
  | .local _ .vmem, ⟨50, _⟩ => ⟨S1024x2048, .bf16⟩
  | .local _ .vmem, ⟨51, _⟩ => ⟨S2048x512, .bf16⟩
  | .local _ .vmem, ⟨52, _⟩ => ⟨S2048x512, .bf16⟩
  | .local _ .vmem, ⟨53, _⟩ => ⟨S2048x512, .bf16⟩
  | .local _ .vmem, ⟨54, _⟩ => ⟨S2048x512, .bf16⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | .local _ .vmem, ⟨58, _⟩ => ⟨S1024x512, .f32⟩
  | .local _ .vmem, ⟨59, _⟩ => ⟨S512x4096, .f32⟩
  | .local _ .vmem, ⟨60, _⟩ => ⟨S512x4096, .f32⟩
  | .local _ .vmem, ⟨61, _⟩ => ⟨S1x4096, .f32⟩
  | .local _ .vmem, ⟨62, _⟩ => ⟨S512x4096, .bf16⟩
  | .local _ .vmem, ⟨63, _⟩ => ⟨S512x4096, .bf16⟩
  | .local _ .vmem, ⟨64, _⟩ => ⟨S1024x4096, .bf16⟩
  | .local _ .vmem, ⟨65, _⟩ => ⟨S4096x256, .f32⟩
  | .local _ .vmem, ⟨66, _⟩ => ⟨S4096x256, .f32⟩
  | .local _ .vmem, ⟨67, _⟩ => ⟨S4096x256, .f32⟩
  | .local _ .vmem, ⟨68, _⟩ => ⟨S4096x256, .f32⟩
  | .local _ .vmem, ⟨69, _⟩ => ⟨S1024x256, .bf16⟩
  | .local _ .vmem, ⟨70, _⟩ => ⟨S1024x256, .bf16⟩
  | .local _ .vmem, ⟨71, _⟩ => ⟨S512x11008, .bf16⟩
  | .local _ .vmem, ⟨72, _⟩ => ⟨S512x11008, .bf16⟩
  | .local _ .vmem, ⟨73, _⟩ => ⟨S11008x512, .bf16⟩
  | .local _ .vmem, ⟨74, _⟩ => ⟨S11008x512, .bf16⟩
  | .local _ .vmem, ⟨75, _⟩ => ⟨S512x512, .f32⟩
  | .local _ .vmem, ⟨76, _⟩ => ⟨S512x512, .f32⟩
  | .local _ .vmem, ⟨77, _⟩ => ⟨S512x512, .f32⟩
  | .local _ .vmem, ⟨78, _⟩ => ⟨S512x512, .f32⟩
  | .local _ .vmem, ⟨79, _⟩ => ⟨S512x4096, .f32⟩
  | .local _ .vmem, ⟨80, _⟩ => ⟨S512x4096, .f32⟩
  | .local _ .vmem, ⟨81, _⟩ => ⟨S1x4096, .f32⟩
  | .local _ .vmem, ⟨82, _⟩ => ⟨S512x4096, .bf16⟩
  | .local _ .vmem, ⟨83, _⟩ => ⟨S512x4096, .bf16⟩
  | .local _ .vmem, ⟨84, _⟩ => ⟨S1024x4096, .bf16⟩
  | .local _ .vmem, ⟨85, _⟩ => ⟨S1024x256, .f32⟩
  | .local _ .vmem, ⟨86, _⟩ => ⟨S4096x512, .bf16⟩
  | .local _ .vmem, ⟨87, _⟩ => ⟨S4096x512, .bf16⟩
  | .local _ .vmem, ⟨88, _⟩ => ⟨S256x512, .bf16⟩
  | .local _ .vmem, ⟨89, _⟩ => ⟨S256x512, .bf16⟩
  | .local _ .vmem, ⟨90, _⟩ => ⟨S1024x512, .f32⟩
  | .local _ .vmem, ⟨91, _⟩ => ⟨S1024x512, .f32⟩
  | .local _ .vmem, ⟨92, _⟩ => ⟨S1024x512, .f32⟩
  | .local _ .vmem, ⟨93, _⟩ => ⟨S1024x512, .f32⟩
  | .local _ .vmem, ⟨94, _⟩ => ⟨S512x4096, .f32⟩
  | .local _ .vmem, ⟨95, _⟩ => ⟨S512x4096, .f32⟩
  | .local _ .vmem, ⟨96, _⟩ => ⟨S1x4096, .f32⟩
  | .local _ .vmem, ⟨97, _⟩ => ⟨S512x4096, .f32⟩
  | .local _ .vmem, ⟨98, _⟩ => ⟨S512x4096, .f32⟩
  | .local _ .vmem, ⟨99, _⟩ => ⟨S512x4096, .f32⟩
  | .local _ .vmem, ⟨100, _⟩ => ⟨S512x4096, .f32⟩
  | .local _ .vmem, ⟨101, _⟩ => ⟨S1x4096, .f32⟩
  | .local _ .vmem, ⟨102, _⟩ => ⟨S512x4096, .f32⟩
  | .local _ .vmem, ⟨103, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg5_1 : Ref sig .tc := ⟨.vmem, 48, rfl⟩
abbrev cc6_stg0_0 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc6_stg4_0 : Ref sig .tc := ⟨.vmem, 55, rfl⟩
abbrev cc6_stg4_1 : Ref sig .tc := ⟨.vmem, 56, rfl⟩
abbrev cc6_stg5_0 : Ref sig .tc := ⟨.vmem, 57, rfl⟩
abbrev cc6_stg5_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg2_0 : Ref sig .tc := ⟨.vmem, 62, rfl⟩
abbrev cc7_stg2_1 : Ref sig .tc := ⟨.vmem, 63, rfl⟩
abbrev cc8_stg0_0 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg3_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg2_1 : Ref sig .tc := ⟨.vmem, 76, rfl⟩
abbrev cc9_stg3_0 : Ref sig .tc := ⟨.vmem, 77, rfl⟩
abbrev cc9_stg3_1 : Ref sig .tc := ⟨.vmem, 78, rfl⟩
abbrev cc10_stg0_0 : Ref sig .tc := ⟨.vmem, 79, rfl⟩
abbrev cc10_stg0_1 : Ref sig .tc := ⟨.vmem, 80, rfl⟩
abbrev cc10_stg1_0 : Ref sig .tc := ⟨.vmem, 81, rfl⟩
abbrev cc10_stg2_0 : Ref sig .tc := ⟨.vmem, 82, rfl⟩
abbrev cc10_stg2_1 : Ref sig .tc := ⟨.vmem, 83, rfl⟩
abbrev cc11_stg0_0 : Ref sig .tc := ⟨.vmem, 84, rfl⟩
abbrev cc11_stg1_0 : Ref sig .tc := ⟨.vmem, 85, rfl⟩
abbrev cc11_stg2_0 : Ref sig .tc := ⟨.vmem, 86, rfl⟩
abbrev cc11_stg2_1 : Ref sig .tc := ⟨.vmem, 87, rfl⟩
abbrev cc11_stg3_0 : Ref sig .tc := ⟨.vmem, 88, rfl⟩
abbrev cc11_stg3_1 : Ref sig .tc := ⟨.vmem, 89, rfl⟩
abbrev cc11_stg4_0 : Ref sig .tc := ⟨.vmem, 90, rfl⟩
abbrev cc11_stg4_1 : Ref sig .tc := ⟨.vmem, 91, rfl⟩
abbrev cc11_stg5_0 : Ref sig .tc := ⟨.vmem, 92, rfl⟩
abbrev cc11_stg5_1 : Ref sig .tc := ⟨.vmem, 93, rfl⟩
abbrev cc12_stg0_0 : Ref sig .tc := ⟨.vmem, 94, rfl⟩
abbrev cc12_stg0_1 : Ref sig .tc := ⟨.vmem, 95, rfl⟩
abbrev cc12_stg1_0 : Ref sig .tc := ⟨.vmem, 96, rfl⟩
abbrev cc12_stg2_0 : Ref sig .tc := ⟨.vmem, 97, rfl⟩
abbrev cc12_stg2_1 : Ref sig .tc := ⟨.vmem, 98, rfl⟩
abbrev cc13_stg0_0 : Ref sig .tc := ⟨.vmem, 99, rfl⟩
abbrev cc13_stg0_1 : Ref sig .tc := ⟨.vmem, 100, rfl⟩
abbrev cc13_stg1_0 : Ref sig .tc := ⟨.vmem, 101, rfl⟩
abbrev cc13_stg2_0 : Ref sig .tc := ⟨.vmem, 102, rfl⟩
abbrev cc13_stg2_1 : Ref sig .tc := ⟨.vmem, 103, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem3_1 : DmaSem sig := 44
abbrev cc5_sem4_0 : DmaSem sig := 45
abbrev cc5_sem4_1 : DmaSem sig := 46
abbrev cc5_sem5_0 : DmaSem sig := 47
abbrev cc5_sem5_1 : DmaSem sig := 48
abbrev cc6_sem0_0 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc6_sem4_0 : DmaSem sig := 55
abbrev cc6_sem4_1 : DmaSem sig := 56
abbrev cc6_sem5_0 : DmaSem sig := 57
abbrev cc6_sem5_1 : DmaSem sig := 58
abbrev cc7_sem0_0 : DmaSem sig := 59
abbrev cc7_sem0_1 : DmaSem sig := 60
abbrev cc7_sem1_0 : DmaSem sig := 61
abbrev cc7_sem2_0 : DmaSem sig := 62
abbrev cc7_sem2_1 : DmaSem sig := 63
abbrev cc8_sem0_0 : DmaSem sig := 64
abbrev cc8_sem1_0 : DmaSem sig := 65
abbrev cc8_sem1_1 : DmaSem sig := 66
abbrev cc8_sem2_0 : DmaSem sig := 67
abbrev cc8_sem2_1 : DmaSem sig := 68
abbrev cc8_sem3_0 : DmaSem sig := 69
abbrev cc8_sem3_1 : DmaSem sig := 70
abbrev cc9_sem0_0 : DmaSem sig := 71
abbrev cc9_sem0_1 : DmaSem sig := 72
abbrev cc9_sem1_0 : DmaSem sig := 73
abbrev cc9_sem1_1 : DmaSem sig := 74
abbrev cc9_sem2_0 : DmaSem sig := 75
abbrev cc9_sem2_1 : DmaSem sig := 76
abbrev cc9_sem3_0 : DmaSem sig := 77
abbrev cc9_sem3_1 : DmaSem sig := 78
abbrev cc10_sem0_0 : DmaSem sig := 79
abbrev cc10_sem0_1 : DmaSem sig := 80
abbrev cc10_sem1_0 : DmaSem sig := 81
abbrev cc10_sem2_0 : DmaSem sig := 82
abbrev cc10_sem2_1 : DmaSem sig := 83
abbrev cc11_sem0_0 : DmaSem sig := 84
abbrev cc11_sem1_0 : DmaSem sig := 85
abbrev cc11_sem2_0 : DmaSem sig := 86
abbrev cc11_sem2_1 : DmaSem sig := 87
abbrev cc11_sem3_0 : DmaSem sig := 88
abbrev cc11_sem3_1 : DmaSem sig := 89
abbrev cc11_sem4_0 : DmaSem sig := 90
abbrev cc11_sem4_1 : DmaSem sig := 91
abbrev cc11_sem5_0 : DmaSem sig := 92
abbrev cc11_sem5_1 : DmaSem sig := 93
abbrev cc12_sem0_0 : DmaSem sig := 94
abbrev cc12_sem0_1 : DmaSem sig := 95
abbrev cc12_sem1_0 : DmaSem sig := 96
abbrev cc12_sem2_0 : DmaSem sig := 97
abbrev cc12_sem2_1 : DmaSem sig := 98
abbrev cc13_sem0_0 : DmaSem sig := 99
abbrev cc13_sem0_1 : DmaSem sig := 100
abbrev cc13_sem1_0 : DmaSem sig := 101
abbrev cc13_sem2_0 : DmaSem sig := 102
abbrev cc13_sem2_1 : DmaSem sig := 103

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x4096 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S4096x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S256x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1024x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1024x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev grid6 : Pipeline.Grid := ⟨2, ![1, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S1024x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S1024x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S2048x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S2048x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S1024x512 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1024x512 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x4096 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x4096 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![1, 43], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc8_transform_2 (i : grid8.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S1024x4096 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S4096x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S4096x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1024x256 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S512x11008 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S11008x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S512x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S512x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨1, ![2], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x4096 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x4096 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x4096 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨2, ![1, 8], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc11_transform_4 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc11_transform_5 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S1024x4096 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 1 → Memref sig .tc .vmem S1024x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S4096x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S256x512 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![false, true]

abbrev stage11_4 : Fin 2 → Memref sig .tc .vmem S1024x512 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, true]

abbrev stage11_5 : Fin 2 → Memref sig .tc .vmem S1024x512 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, true]

abbrev grid12 : Pipeline.Grid := ⟨1, ![16], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x4096 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x4096 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S512x4096 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![2], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x4096 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x4096 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x4096 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]
-- ==== TailRefIdeal.lean ====
abbrev S4x2048x4096 : Shape := ⟨3, ![4, 2048, 4096]⟩
abbrev S128x8x4096 : Shape := ⟨3, ![128, 8, 4096]⟩
abbrev S4x2048x2048 : Shape := ⟨3, ![4, 2048, 2048]⟩
abbrev S128x8x2048 : Shape := ⟨3, ![128, 8, 2048]⟩
abbrev S1x4x2048x256 : Shape := ⟨4, ![1, 4, 2048, 256]⟩
abbrev S1x128x8x256 : Shape := ⟨4, ![1, 128, 8, 256]⟩
abbrev S1x4096x4096 : Shape := ⟨3, ![1, 4096, 4096]⟩
abbrev S1x4096 : Shape := ⟨2, ![1, 4096]⟩
abbrev S1x4096x22016 : Shape := ⟨3, ![1, 4096, 22016]⟩
abbrev S1x11008x4096 : Shape := ⟨3, ![1, 11008, 4096]⟩
abbrev S1x256x4096 : Shape := ⟨3, ![1, 256, 4096]⟩
abbrev S4096 : Shape := ⟨1, ![4096]⟩
abbrev S4096x4096 : Shape := ⟨2, ![4096, 4096]⟩
abbrev S4096x22016 : Shape := ⟨2, ![4096, 22016]⟩
abbrev S11008x4096 : Shape := ⟨2, ![11008, 4096]⟩
abbrev S256x4096 : Shape := ⟨2, ![256, 4096]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x22016 : Shape := ⟨3, ![4, 2048, 22016]⟩
abbrev S4x2048x11008 : Shape := ⟨3, ![4, 2048, 11008]⟩
abbrev S128x8x256 : Shape := ⟨3, ![128, 8, 256]⟩
abbrev S128x8 : Shape := ⟨2, ![128, 8]⟩
abbrev S128x8x1 : Shape := ⟨3, ![128, 8, 1]⟩
abbrev S128x8x22016 : Shape := ⟨3, ![128, 8, 22016]⟩
abbrev S128x8x11008 : Shape := ⟨3, ![128, 8, 11008]⟩

abbrev nBuf : Space → Nat
  | .hbm => 185
  | .vmem => 0
  | .smem => 0
  | _ => 0

abbrev hbmTy0_0 (i : Nat) : BufTy := match i % 128 with
  | 0 => ⟨S4x2048x4096, .f32⟩
  | 1 => ⟨S128x8x4096, .f32⟩
  | 2 => ⟨S4x2048x2048, .bf16⟩
  | 3 => ⟨S4x2048x2048, .bf16⟩
  | 4 => ⟨S128x8x2048, .bf16⟩
  | 5 => ⟨S128x8x2048, .bf16⟩
  | 6 => ⟨S1x4x2048x256, .f32⟩
  | 7 => ⟨S1x128x8x256, .f32⟩
  | 8 => ⟨S1x4096x4096, .f32⟩
  | 9 => ⟨S1x4096, .f32⟩
  | 10 => ⟨S1x4096x22016, .f32⟩
  | 11 => ⟨S1x11008x4096, .f32⟩
  | 12 => ⟨S1x4096, .f32⟩
  | 13 => ⟨S1x4096x4096, .f32⟩
  | 14 => ⟨S1x256x4096, .f32⟩
  | 15 => ⟨S4096, .f32⟩
  | 16 => ⟨S4096x4096, .f32⟩
  | 17 => ⟨S4096, .f32⟩
  | 18 => ⟨S4096x22016, .f32⟩
  | 19 => ⟨S11008x4096, .f32⟩
  | 20 => ⟨S4096, .f32⟩
  | 21 => ⟨S4096x4096, .f32⟩
  | 22 => ⟨S256x4096, .f32⟩
  | 23 => ⟨S4x2048x256, .f32⟩
  | 24 => ⟨S4x2048x2048, .f32⟩
  | 25 => ⟨S4x2048x2048, .f32⟩
  | 26 => ⟨S4x2048x4096, .f32⟩
  | 27 => ⟨S4x2048x4096, .f32⟩
  | 28 => ⟨S4x2048x4096, .f32⟩
  | 29 => ⟨S4x2048x4096, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x4096, .f32⟩
  | 41 => ⟨S4x2048x4096, .f32⟩
  | 42 => ⟨S1x1x4096, .f32⟩
  | 43 => ⟨S4x2048x4096, .f32⟩
  | 44 => ⟨S4x2048x4096, .f32⟩
  | 45 => ⟨S4x2048x22016, .f32⟩
  | 46 => ⟨S4x2048x11008, .f32⟩
  | 47 => ⟨S4x2048x11008, .f32⟩
  | 48 => ⟨S4x2048x11008, .f32⟩
  | 49 => ⟨S4x2048x11008, .f32⟩
  | 50 => ⟨S_, .f32⟩
  | 51 => ⟨S4x2048x11008, .f32⟩
  | 52 => ⟨S4x2048x11008, .f32⟩
  | 53 => ⟨S_, .f32⟩
  | 54 => ⟨S4x2048x11008, .f32⟩
  | 55 => ⟨S4x2048x11008, .f32⟩
  | 56 => ⟨S4x2048x11008, .f32⟩
  | 57 => ⟨S4x2048x11008, .f32⟩
  | 58 => ⟨S4x2048x4096, .f32⟩
  | 59 => ⟨S4x2048x4096, .f32⟩
  | 60 => ⟨S4x2048x4096, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x4096, .f32⟩
  | 72 => ⟨S4x2048x4096, .f32⟩
  | 73 => ⟨S1x1x4096, .f32⟩
  | 74 => ⟨S4x2048x4096, .f32⟩
  | 75 => ⟨S4x2048x4096, .f32⟩
  | 76 => ⟨S4x2048x4096, .f32⟩
  | 77 => ⟨S4x2048x4096, .f32⟩
  | 78 => ⟨S4x2048x4096, .f32⟩
  | 79 => ⟨S_, .f32⟩
  | 80 => ⟨S4x2048x4096, .f32⟩
  | 81 => ⟨S4x2048x4096, .f32⟩
  | 82 => ⟨S_, .f32⟩
  | 83 => ⟨S4x2048x4096, .f32⟩
  | 84 => ⟨S4x2048x4096, .f32⟩
  | 85 => ⟨S4x2048x4096, .f32⟩
  | 86 => ⟨S4x2048x4096, .f32⟩
  | 87 => ⟨S4x2048x4096, .f32⟩
  | 88 => ⟨S128x8x256, .f32⟩
  | 89 => ⟨S128x8x2048, .f32⟩
  | 90 => ⟨S128x8x2048, .f32⟩
  | 91 => ⟨S128x8x4096, .f32⟩
  | 92 => ⟨S128x8x4096, .f32⟩
  | 93 => ⟨S128x8x4096, .f32⟩
  | 94 => ⟨S128x8x4096, .f32⟩
  | 95 => ⟨S_, .f32⟩
  | 96 => ⟨S128x8, .f32⟩
  | 97 => ⟨S128x8x1, .f32⟩
  | 98 => ⟨S_, .f32⟩
  | 99 => ⟨S128x8x1, .f32⟩
  | 100 => ⟨S128x8x1, .f32⟩
  | 101 => ⟨S_, .f32⟩
  | 102 => ⟨S128x8x1, .f32⟩
  | 103 => ⟨S128x8x1, .f32⟩
  | 104 => ⟨S128x8x1, .f32⟩
  | 105 => ⟨S128x8x4096, .f32⟩
  | 106 => ⟨S128x8x4096, .f32⟩
  | 107 => ⟨S1x1x4096, .f32⟩
  | 108 => ⟨S128x8x4096, .f32⟩
  | 109 => ⟨S128x8x4096, .f32⟩
  | 110 => ⟨S128x8x22016, .f32⟩
  | 111 => ⟨S128x8x11008, .f32⟩
  | 112 => ⟨S128x8x11008, .f32⟩
  | 113 => ⟨S128x8x11008, .f32⟩
  | 114 => ⟨S128x8x11008, .f32⟩
  | 115 => ⟨S_, .f32⟩
  | 116 => ⟨S128x8x11008, .f32⟩
  | 117 => ⟨S128x8x11008, .f32⟩
  | 118 => ⟨S_, .f32⟩
  | 119 => ⟨S128x8x11008, .f32⟩
  | 120 => ⟨S128x8x11008, .f32⟩
  | 121 => ⟨S128x8x11008, .f32⟩
  | 122 => ⟨S128x8x11008, .f32⟩
  | 123 => ⟨S128x8x4096, .f32⟩
  | 124 => ⟨S128x8x4096, .f32⟩
  | 125 => ⟨S128x8x4096, .f32⟩
  | 126 => ⟨S_, .f32⟩
  | 127 => ⟨S128x8, .f32⟩
  | _ => ⟨S4x2048x4096, .f32⟩

abbrev hbmTy0_1 (i : Nat) : BufTy := match i % 128 with
  | 0 => ⟨S128x8x1, .f32⟩
  | 1 => ⟨S_, .f32⟩
  | 2 => ⟨S128x8x1, .f32⟩
  | 3 => ⟨S128x8x1, .f32⟩
  | 4 => ⟨S_, .f32⟩
  | 5 => ⟨S128x8x1, .f32⟩
  | 6 => ⟨S128x8x1, .f32⟩
  | 7 => ⟨S128x8x1, .f32⟩
  | 8 => ⟨S128x8x4096, .f32⟩
  | 9 => ⟨S128x8x4096, .f32⟩
  | 10 => ⟨S1x1x4096, .f32⟩
  | 11 => ⟨S128x8x4096, .f32⟩
  | 12 => ⟨S128x8x4096, .f32⟩
  | 13 => ⟨S128x8x4096, .f32⟩
  | 14 => ⟨S128x8x4096, .f32⟩
  | 15 => ⟨S128x8x4096, .f32⟩
  | 16 => ⟨S_, .f32⟩
  | 17 => ⟨S128x8x4096, .f32⟩
  | 18 => ⟨S128x8x4096, .f32⟩
  | 19 => ⟨S_, .f32⟩
  | 20 => ⟨S128x8x4096, .f32⟩
  | 21 => ⟨S128x8x4096, .f32⟩
  | 22 => ⟨S128x8x4096, .f32⟩
  | 23 => ⟨S128x8x4096, .f32⟩
  | 24 => ⟨S128x8x4096, .f32⟩
  | 25 => ⟨S4x2048x4096, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S_, .f32⟩
  | 33 => ⟨S4x2048x1, .f32⟩
  | 34 => ⟨S4x2048x1, .f32⟩
  | 35 => ⟨S4x2048x1, .f32⟩
  | 36 => ⟨S4x2048x4096, .f32⟩
  | 37 => ⟨S4x2048x4096, .f32⟩
  | 38 => ⟨S1x1x4096, .f32⟩
  | 39 => ⟨S4x2048x4096, .f32⟩
  | 40 => ⟨S4x2048x4096, .f32⟩
  | 41 => ⟨S128x8x4096, .f32⟩
  | 42 => ⟨S_, .f32⟩
  | 43 => ⟨S128x8, .f32⟩
  | 44 => ⟨S128x8x1, .f32⟩
  | 45 => ⟨S_, .f32⟩
  | 46 => ⟨S128x8x1, .f32⟩
  | 47 => ⟨S128x8x1, .f32⟩
  | 48 => ⟨S_, .f32⟩
  | 49 => ⟨S128x8x1, .f32⟩
  | 50 => ⟨S128x8x1, .f32⟩
  | 51 => ⟨S128x8x1, .f32⟩
  | 52 => ⟨S128x8x4096, .f32⟩
  | 53 => ⟨S128x8x4096, .f32⟩
  | 54 => ⟨S1x1x4096, .f32⟩
  | 55 => ⟨S128x8x4096, .f32⟩
  | 56 => ⟨S128x8x4096, .f32⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_cst_6 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_v64 : Ref sig .tc := ⟨.hbm, 97, rfl⟩
abbrev main_cst_8 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_10 : Ref sig .tc := ⟨.hbm, 126, rfl⟩
abbrev main_v83 : Ref sig .tc := ⟨.hbm, 127, rfl⟩
abbrev main_v84 : Ref sig .tc := ⟨.hbm, 128, rfl⟩
abbrev main_cst_11 : Ref sig .tc := ⟨.hbm, 129, rfl⟩
abbrev main_v85 : Ref sig .tc := ⟨.hbm, 130, rfl⟩
abbrev main_v86 : Ref sig .tc := ⟨.hbm, 131, rfl⟩
abbrev main_cst_12 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_13 : Ref sig .tc := ⟨.hbm, 144, rfl⟩
abbrev main_v98 : Ref sig .tc := ⟨.hbm, 145, rfl⟩
abbrev main_v99 : Ref sig .tc := ⟨.hbm, 146, rfl⟩
abbrev main_cst_14 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_15 : Ref sig .tc := ⟨.hbm, 154, rfl⟩
abbrev main_v106 : Ref sig .tc := ⟨.hbm, 155, rfl⟩
abbrev main_v107 : Ref sig .tc := ⟨.hbm, 156, rfl⟩
abbrev main_cst_16 : Ref sig .tc := ⟨.hbm, 157, rfl⟩
abbrev main_v108 : Ref sig .tc := ⟨.hbm, 158, rfl⟩
abbrev main_v109 : Ref sig .tc := ⟨.hbm, 159, rfl⟩
abbrev main_cst_17 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_18 : Ref sig .tc := ⟨.hbm, 170, rfl⟩
abbrev main_v119 : Ref sig .tc := ⟨.hbm, 171, rfl⟩
abbrev main_v120 : Ref sig .tc := ⟨.hbm, 172, rfl⟩
abbrev main_cst_19 : Ref sig .tc := ⟨.hbm, 173, rfl⟩
abbrev main_v121 : Ref sig .tc := ⟨.hbm, 174, rfl⟩
abbrev main_v122 : Ref sig .tc := ⟨.hbm, 175, rfl⟩
abbrev main_cst_20 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩

abbrev nD : Nat := 1
abbrev τ : Topo := Topo.v7x

variable {F : FTy → Type} [FloatOps F]
-- ==== Rkv.lean ====
abbrev S4x2048x4096 : Shape := ⟨3, ![4, 2048, 4096]⟩
abbrev S1x4096x10688 : Shape := ⟨3, ![1, 4096, 10688]⟩
abbrev S8192x4096 : Shape := ⟨2, ![8192, 4096]⟩
abbrev S4096x10688 : Shape := ⟨2, ![4096, 10688]⟩
abbrev S10688x4096 : Shape := ⟨2, ![10688, 4096]⟩
abbrev S8192x6144 : Shape := ⟨2, ![8192, 6144]⟩
abbrev S2048x4096 : Shape := ⟨2, ![2048, 4096]⟩
abbrev S512x4096 : Shape := ⟨2, ![512, 4096]⟩
abbrev S2048x512 : Shape := ⟨2, ![2048, 512]⟩
abbrev S4x2048x6144 : Shape := ⟨3, ![4, 2048, 6144]⟩

abbrev nBuf : Space → Nat
  | .hbm => 8
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S1x4096x10688, .f32⟩
  | .hbm, ⟨2, _⟩ => ⟨S8192x4096, .f32⟩
  | .hbm, ⟨3, _⟩ => ⟨S8192x4096, .bf16⟩
  | .hbm, ⟨4, _⟩ => ⟨S4096x10688, .f32⟩
  | .hbm, ⟨5, _⟩ => ⟨S10688x4096, .f32⟩
  | .hbm, ⟨6, _⟩ => ⟨S8192x6144, .f32⟩
  | .hbm, ⟨7, _⟩ => ⟨S4x2048x6144, .f32⟩
  | .local _ .vmem, ⟨0, _⟩ => ⟨S2048x4096, .bf16⟩
  | .local _ .vmem, ⟨1, _⟩ => ⟨S512x4096, .f32⟩
  | .local _ .vmem, ⟨2, _⟩ => ⟨S512x4096, .f32⟩
  | .local _ .vmem, ⟨3, _⟩ => ⟨S2048x512, .f32⟩
  | .local _ .vmem, ⟨4, _⟩ => ⟨S2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RkvRefIdeal.lean ====
abbrev S4x2048x4096 : Shape := ⟨3, ![4, 2048, 4096]⟩
abbrev S1x4096x10688 : Shape := ⟨3, ![1, 4096, 10688]⟩
abbrev S4096x10688 : Shape := ⟨2, ![4096, 10688]⟩
abbrev S4x2048x10688 : Shape := ⟨3, ![4, 2048, 10688]⟩
abbrev S4x2048x6144 : Shape := ⟨3, ![4, 2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x10688, .f32⟩
  | .hbm, ⟨2, _⟩ => ⟨S4096x10688, .f32⟩
  | .hbm, ⟨3, _⟩ => ⟨S4x2048x10688, .f32⟩
  | .hbm, ⟨4, _⟩ => ⟨S4x2048x6144, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Lora.lean ====
abbrev S4x2048x4096 : Shape := ⟨3, ![4, 2048, 4096]⟩
abbrev S128x8x4096 : Shape := ⟨3, ![128, 8, 4096]⟩
abbrev S1x128x4096 : Shape := ⟨3, ![1, 128, 4096]⟩
abbrev S1x4096 : Shape := ⟨2, ![1, 4096]⟩
abbrev S1x4096x10688 : Shape := ⟨3, ![1, 4096, 10688]⟩
abbrev S4096x10688 : Shape := ⟨2, ![4096, 10688]⟩
abbrev S10688x4096 : Shape := ⟨2, ![10688, 4096]⟩
abbrev S4096 : Shape := ⟨1, ![4096]⟩
abbrev S448x4096 : Shape := ⟨2, ![448, 4096]⟩
abbrev S96x4096 : Shape := ⟨2, ![96, 4096]⟩
abbrev S_ : Shape := ⟨0, ![]⟩
abbrev S128x4096 : Shape := ⟨2, ![128, 4096]⟩
abbrev S256x4096 : Shape := ⟨2, ![256, 4096]⟩
abbrev S512x4096 : Shape := ⟨2, ![512, 4096]⟩
abbrev S8192x4096 : Shape := ⟨2, ![8192, 4096]⟩
abbrev S512 : Shape := ⟨1, ![512]⟩
abbrev S512x1 : Shape := ⟨2, ![512, 1]⟩
abbrev S8192x512 : Shape := ⟨2, ![8192, 512]⟩
abbrev S1024x4096 : Shape := ⟨2, ![1024, 4096]⟩
abbrev S1024x512 : Shape := ⟨2, ![1024, 512]⟩
abbrev S4x2048x512 : Shape := ⟨3, ![4, 2048, 512]⟩
abbrev S128x8x512 : Shape := ⟨3, ![128, 8, 512]⟩
abbrev S128x512 : Shape := ⟨2, ![128, 512]⟩
abbrev S128x1x512 : Shape := ⟨3, ![128, 1, 512]⟩

abbrev nBuf : Space → Nat
  | .hbm => 38
  | .vmem => 21
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S1x128x4096, .f32⟩
  | .hbm, ⟨3, _⟩ => ⟨S1x4096, .f32⟩
  | .hbm, ⟨4, _⟩ => ⟨S1x4096x10688, .f32⟩
  | .hbm, ⟨5, _⟩ => ⟨S4096x10688, .f32⟩
  | .hbm, ⟨6, _⟩ => ⟨S10688x4096, .f32⟩
  | .hbm, ⟨7, _⟩ => ⟨S4096, .f32⟩
  | .hbm, ⟨8, _⟩ => ⟨S448x4096, .f32⟩
  | .hbm, ⟨9, _⟩ => ⟨S448x4096, .f32⟩
  | .hbm, ⟨10, _⟩ => ⟨S96x4096, .f32⟩
  | .hbm, ⟨11, _⟩ => ⟨S_, .i32⟩
  | .hbm, ⟨12, _⟩ => ⟨S_, .f32⟩
  | .hbm, ⟨13, _⟩ => ⟨S128x4096, .f32⟩
  | .hbm, ⟨14, _⟩ => ⟨S96x4096, .f32⟩
  | .hbm, ⟨15, _⟩ => ⟨S_, .i32⟩
  | .hbm, ⟨16, _⟩ => ⟨S_, .f32⟩
  | .hbm, ⟨17, _⟩ => ⟨S128x4096, .f32⟩
  | .hbm, ⟨18, _⟩ => ⟨S256x4096, .f32⟩
  | .hbm, ⟨19, _⟩ => ⟨S_, .i32⟩
  | .hbm, ⟨20, _⟩ => ⟨S_, .f32⟩
  | .hbm, ⟨21, _⟩ => ⟨S256x4096, .f32⟩
  | .hbm, ⟨22, _⟩ => ⟨S512x4096, .f32⟩
  | .hbm, ⟨23, _⟩ => ⟨S512x4096, .bf16⟩
  | .hbm, ⟨24, _⟩ => ⟨S8192x4096, .f32⟩
  | .hbm, ⟨25, _⟩ => ⟨S1x4096, .f32⟩
  | .hbm, ⟨26, _⟩ => ⟨S8192x4096, .bf16⟩
  | .hbm, ⟨27, _⟩ => ⟨S8192x512, .f32⟩
  | .hbm, ⟨28, _⟩ => ⟨S4x2048x512, .f32⟩
  | .hbm, ⟨29, _⟩ => ⟨S128x4096, .f32⟩
  | .hbm, ⟨30, _⟩ => ⟨S1024x4096, .f32⟩
  | .hbm, ⟨31, _⟩ => ⟨S1x4096, .f32⟩
  | .hbm, ⟨32, _⟩ => ⟨S1024x4096, .bf16⟩
  | .hbm, ⟨33, _⟩ => ⟨S1024x512, .f32⟩
  | .hbm, ⟨34, _⟩ => ⟨S128x8x512, .f32⟩
  | .hbm, ⟨35, _⟩ => ⟨S128x4096, .bf16⟩
  | .hbm, ⟨36, _⟩ => ⟨S128x512, .f32⟩
  | .hbm, ⟨37, _⟩ => ⟨S128x1x512, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S512x4096, .bf16⟩
  | .local _ .vmem, ⟨8, _⟩ => ⟨S1024x512, .f32⟩
  | .local _ .vmem, ⟨9, _⟩ => ⟨S1024x512, .f32⟩
  | .local _ .vmem, ⟨10, _⟩ => ⟨S512x4096, .f32⟩
  | .local _ .vmem, ⟨11, _⟩ => ⟨S512x4096, .f32⟩
  | .local _ .vmem, ⟨12, _⟩ => ⟨S1x4096, .f32⟩
  | .local _ .vmem, ⟨13, _⟩ => ⟨S512x4096, .bf16⟩
  | .local _ .vmem, ⟨14, _⟩ => ⟨S512x4096, .bf16⟩
  | .local _ .vmem, ⟨15, _⟩ => ⟨S1024x4096, .bf16⟩
  | .local _ .vmem, ⟨16, _⟩ => ⟨S512x4096, .bf16⟩
  | .local _ .vmem, ⟨17, _⟩ => ⟨S1024x512, .f32⟩
  | .local _ .vmem, ⟨18, _⟩ => ⟨S128x4096, .bf16⟩
  | .local _ .vmem, ⟨19, _⟩ => ⟨S512x4096, .bf16⟩
  | .local _ .vmem, ⟨20, _⟩ => ⟨S128x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem1_0 : DmaSem sig := 19
abbrev cc4_sem2_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S1024x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S512x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S512x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S128x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]
-- ==== LoraRefIdeal.lean ====
abbrev S4x2048x4096 : Shape := ⟨3, ![4, 2048, 4096]⟩
abbrev S128x8x4096 : Shape := ⟨3, ![128, 8, 4096]⟩
abbrev S1x128x4096 : Shape := ⟨3, ![1, 128, 4096]⟩
abbrev S1x4096 : Shape := ⟨2, ![1, 4096]⟩
abbrev S1x4096x10688 : Shape := ⟨3, ![1, 4096, 10688]⟩
abbrev S4096 : Shape := ⟨1, ![4096]⟩
abbrev S4096x10688 : Shape := ⟨2, ![4096, 10688]⟩
abbrev S128x4096 : Shape := ⟨2, ![128, 4096]⟩
abbrev S128x10688 : Shape := ⟨2, ![128, 10688]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x10688 : Shape := ⟨3, ![4, 2048, 10688]⟩
abbrev S4x2048x448 : Shape := ⟨3, ![4, 2048, 448]⟩
abbrev S4x2048x96 : Shape := ⟨3, ![4, 2048, 96]⟩
abbrev S4x2048x256 : Shape := ⟨3, ![4, 2048, 256]⟩
abbrev S4x2048x128 : Shape := ⟨3, ![4, 2048, 128]⟩
abbrev S4x2048x512 : Shape := ⟨3, ![4, 2048, 512]⟩
abbrev S128x8 : Shape := ⟨2, ![128, 8]⟩
abbrev S128x8x1 : Shape := ⟨3, ![128, 8, 1]⟩
abbrev S128x8x10688 : Shape := ⟨3, ![128, 8, 10688]⟩
abbrev S128x8x448 : Shape := ⟨3, ![128, 8, 448]⟩
abbrev S128x8x96 : Shape := ⟨3, ![128, 8, 96]⟩
abbrev S128x8x256 : Shape := ⟨3, ![128, 8, 256]⟩
abbrev S128x8x128 : Shape := ⟨3, ![128, 8, 128]⟩
abbrev S128x8x512 : Shape := ⟨3, ![128, 8, 512]⟩
abbrev S128x1x10688 : Shape := ⟨3, ![128, 1, 10688]⟩
abbrev S128x1x448 : Shape := ⟨3, ![128, 1, 448]⟩
abbrev S128x1x96 : Shape := ⟨3, ![128, 1, 96]⟩
abbrev S128x1x256 : Shape := ⟨3, ![128, 1, 256]⟩
abbrev S128x1x128 : Shape := ⟨3, ![128, 1, 128]⟩
abbrev S128x1x512 : Shape := ⟨3, ![128, 1, 512]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x8x4096, .f32⟩
  | .hbm, ⟨2, _⟩ => ⟨S1x128x4096, .f32⟩
  | .hbm, ⟨3, _⟩ => ⟨S1x4096, .f32⟩
  | .hbm, ⟨4, _⟩ => ⟨S1x4096x10688, .f32⟩
  | .hbm, ⟨5, _⟩ => ⟨S4096, .f32⟩
  | .hbm, ⟨6, _⟩ => ⟨S4096x10688, .f32⟩
  | .hbm, ⟨7, _⟩ => ⟨S128x4096, .f32⟩
  | .hbm, ⟨8, _⟩ => ⟨S128x10688, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x10688, .f32⟩
  | .hbm, ⟨26, _⟩ => ⟨S4x2048x448, .f32⟩
  | .hbm, ⟨27, _⟩ => ⟨S4x2048x96, .f32⟩
  | .hbm, ⟨28, _⟩ => ⟨S4x2048x96, .f32⟩
  | .hbm, ⟨29, _⟩ => ⟨S4x2048x256, .f32⟩
  | .hbm, ⟨30, _⟩ => ⟨S_, .i32⟩
  | .hbm, ⟨31, _⟩ => ⟨S_, .f32⟩
  | .hbm, ⟨32, _⟩ => ⟨S4x2048x128, .f32⟩
  | .hbm, ⟨33, _⟩ => ⟨S_, .i32⟩
  | .hbm, ⟨34, _⟩ => ⟨S_, .f32⟩
  | .hbm, ⟨35, _⟩ => ⟨S4x2048x128, .f32⟩
  | .hbm, ⟨36, _⟩ => ⟨S_, .i32⟩
  | .hbm, ⟨37, _⟩ => ⟨S_, .f32⟩
  | .hbm, ⟨38, _⟩ => ⟨S4x2048x256, .f32⟩
  | .hbm, ⟨39, _⟩ => ⟨S4x2048x512, .f32⟩
  | .hbm, ⟨40, _⟩ => ⟨S128x8x4096, .f32⟩
  | .hbm, ⟨41, _⟩ => ⟨S_, .f32⟩
  | .hbm, ⟨42, _⟩ => ⟨S128x8, .f32⟩
  | .hbm, ⟨43, _⟩ => ⟨S128x8x1, .f32⟩
  | .hbm, ⟨44, _⟩ => ⟨S_, .f32⟩
  | .hbm, ⟨45, _⟩ => ⟨S128x8x1, .f32⟩
  | .hbm, ⟨46, _⟩ => ⟨S128x8x1, .f32⟩
  | .hbm, ⟨47, _⟩ => ⟨S_, .f32⟩
  | .hbm, ⟨48, _⟩ => ⟨S128x8x1, .f32⟩
  | .hbm, ⟨49, _⟩ => ⟨S128x8x1, .f32⟩
  | .hbm, ⟨50, _⟩ => ⟨S128x8x1, .f32⟩
  | .hbm, ⟨51, _⟩ => ⟨S128x8x4096, .f32⟩
  | .hbm, ⟨52, _⟩ => ⟨S128x8x4096, .f32⟩
  | .hbm, ⟨53, _⟩ => ⟨S1x1x4096, .f32⟩
  | .hbm, ⟨54, _⟩ => ⟨S128x8x4096, .f32⟩
  | .hbm, ⟨55, _⟩ => ⟨S128x8x4096, .f32⟩
  | .hbm, ⟨56, _⟩ => ⟨S128x8x10688, .f32⟩
  | .hbm, ⟨57, _⟩ => ⟨S128x8x448, .f32⟩
  | .hbm, ⟨58, _⟩ => ⟨S128x8x96, .f32⟩
  | .hbm, ⟨59, _⟩ => ⟨S128x8x96, .f32⟩
  | .hbm, ⟨60, _⟩ => ⟨S128x8x256, .f32⟩
  | .hbm, ⟨61, _⟩ => ⟨S_, .i32⟩
  | .hbm, ⟨62, _⟩ => ⟨S_, .f32⟩
  | .hbm, ⟨63, _⟩ => ⟨S128x8x128, .f32⟩
  | .hbm, ⟨64, _⟩ => ⟨S_, .i32⟩
  | .hbm, ⟨65, _⟩ => ⟨S_, .f32⟩
  | .hbm, ⟨66, _⟩ => ⟨S128x8x128, .f32⟩
  | .hbm, ⟨67, _⟩ => ⟨S_, .i32⟩
  | .hbm, ⟨68, _⟩ => ⟨S_, .f32⟩
  | .hbm, ⟨69, _⟩ => ⟨S128x8x256, .f32⟩
  | .hbm, ⟨70, _⟩ => ⟨S128x8x512, .f32⟩
  | .hbm, ⟨71, _⟩ => ⟨S128x1x10688, .f32⟩
  | .hbm, ⟨72, _⟩ => ⟨S128x1x448, .f32⟩
  | .hbm, ⟨73, _⟩ => ⟨S128x1x96, .f32⟩
  | .hbm, ⟨74, _⟩ => ⟨S128x1x96, .f32⟩
  | .hbm, ⟨75, _⟩ => ⟨S128x1x256, .f32⟩
  | .hbm, ⟨76, _⟩ => ⟨S_, .i32⟩
  | .hbm, ⟨77, _⟩ => ⟨S_, .f32⟩
  | .hbm, ⟨78, _⟩ => ⟨S128x1x128, .f32⟩
  | .hbm, ⟨79, _⟩ => ⟨S_, .i32⟩
  | .hbm, ⟨80, _⟩ => ⟨S_, .f32⟩
  | .hbm, ⟨81, _⟩ => ⟨S128x1x128, .f32⟩
  | .hbm, ⟨82, _⟩ => ⟨S_, .i32⟩
  | .hbm, ⟨83, _⟩ => ⟨S_, .f32⟩
  | .hbm, ⟨84, _⟩ => ⟨S128x1x256, .f32⟩
  | .hbm, ⟨85, _⟩ => ⟨S128x1x512, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_c_2 : Ref sig .tc := ⟨.hbm, 33, rfl⟩
abbrev main_call1_v0 : Ref sig .tc := ⟨.hbm, 34, rfl⟩
abbrev main_v23 : Ref sig .tc := ⟨.hbm, 35, rfl⟩
abbrev main_c_3 : Ref sig .tc := ⟨.hbm, 36, rfl⟩
abbrev main_call2_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_call3_v0 : Ref sig .tc := ⟨.hbm, 62, rfl⟩
abbrev main_v44 : Ref sig .tc := ⟨.hbm, 63, rfl⟩
abbrev main_c_8 : Ref sig .tc := ⟨.hbm, 64, rfl⟩
abbrev main_call4_v0 : Ref sig .tc := ⟨.hbm, 65, rfl⟩
abbrev main_v45 : Ref sig .tc := ⟨.hbm, 66, rfl⟩
abbrev main_c_9 : Ref sig .tc := ⟨.hbm, 67, rfl⟩
abbrev main_call5_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_call6_v0 : Ref sig .tc := ⟨.hbm, 77, rfl⟩
abbrev main_v53 : Ref sig .tc := ⟨.hbm, 78, rfl⟩
abbrev main_c_11 : Ref sig .tc := ⟨.hbm, 79, rfl⟩
abbrev main_call7_v0 : Ref sig .tc := ⟨.hbm, 80, rfl⟩
abbrev main_v54 : Ref sig .tc := ⟨.hbm, 81, rfl⟩
abbrev main_c_12 : Ref sig .tc := ⟨.hbm, 82, rfl⟩
abbrev main_call8_v0 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Scan.lean ====
abbrev S128x8x2048 : Shape := ⟨3, ![128, 8, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S128x8x32x64 : Shape := ⟨4, ![128, 8, 32, 64]⟩
abbrev S32x8x64x128 : Shape := ⟨4, ![32, 8, 64, 128]⟩
abbrev S128x32x64x64 : Shape := ⟨4, ![128, 32, 64, 64]⟩
abbrev S32x64x64x128 : Shape := ⟨4, ![32, 64, 64, 128]⟩
abbrev S2048 : Shape := ⟨1, ![2048]⟩
abbrev S32x64 : Shape := ⟨2, ![32, 64]⟩
abbrev S32x64x1 : Shape := ⟨3, ![32, 64, 1]⟩
abbrev S32x64x128 : Shape := ⟨3, ![32, 64, 128]⟩
abbrev S1x8x64x128 : Shape := ⟨4, ![1, 8, 64, 128]⟩
abbrev S1x64x64x128 : Shape := ⟨4, ![1, 64, 64, 128]⟩
abbrev S1x64x128 : Shape := ⟨3, ![1, 64, 128]⟩
abbrev S64x128 : Shape := ⟨2, ![64, 128]⟩
abbrev S64x64x128 : Shape := ⟨3, ![64, 64, 128]⟩
abbrev S1x1x64x128 : Shape := ⟨4, ![1, 1, 64, 128]⟩
abbrev S128 : Shape := ⟨1, ![128]⟩
abbrev S1x128 : Shape := ⟨2, ![1, 128]⟩
abbrev S1x1x1x128 : Shape := ⟨4, ![1, 1, 1, 128]⟩
abbrev S8x8x128 : Shape := ⟨3, ![8, 8, 128]⟩
abbrev S8x128 : Shape := ⟨2, ![8, 128]⟩

abbrev nBuf : Space → Nat
  | .hbm => 45
  | .vmem => 27
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x8x2048, .f32⟩
  | .hbm, ⟨3, _⟩ => ⟨S128x8x2048, .f32⟩
  | .hbm, ⟨4, _⟩ => ⟨S128x8x2048, .f32⟩
  | .hbm, ⟨5, _⟩ => ⟨S1x128x32x64x64, .f32⟩
  | .hbm, ⟨6, _⟩ => ⟨S1x2048, .f32⟩
  | .hbm, ⟨7, _⟩ => ⟨S1x2048, .f32⟩
  | .hbm, ⟨8, _⟩ => ⟨S1x32x64, .f32⟩
  | .hbm, ⟨9, _⟩ => ⟨S1x2048, .f32⟩
  | .hbm, ⟨10, _⟩ => ⟨S1x2048, .f32⟩
  | .hbm, ⟨11, _⟩ => ⟨S128x8x32x64, .f32⟩
  | .hbm, ⟨12, _⟩ => ⟨S32x8x64x128, .f32⟩
  | .hbm, ⟨13, _⟩ => ⟨S128x8x32x64, .f32⟩
  | .hbm, ⟨14, _⟩ => ⟨S32x8x64x128, .f32⟩
  | .hbm, ⟨15, _⟩ => ⟨S128x8x32x64, .f32⟩
  | .hbm, ⟨16, _⟩ => ⟨S32x8x64x128, .f32⟩
  | .hbm, ⟨17, _⟩ => ⟨S128x8x32x64, .f32⟩
  | .hbm, ⟨18, _⟩ => ⟨S32x8x64x128, .f32⟩
  | .hbm, ⟨19, _⟩ => ⟨S128x8x32x64, .f32⟩
  | .hbm, ⟨20, _⟩ => ⟨S32x8x64x128, .f32⟩
  | .hbm, ⟨21, _⟩ => ⟨S128x32x64x64, .f32⟩
  | .hbm, ⟨22, _⟩ => ⟨S32x64x64x128, .f32⟩
  | .hbm, ⟨23, _⟩ => ⟨S2048, .f32⟩
  | .hbm, ⟨24, _⟩ => ⟨S32x64, .f32⟩
  | .hbm, ⟨25, _⟩ => ⟨S32x64x1, .f32⟩
  | .hbm, ⟨26, _⟩ => ⟨S32x64x128, .f32⟩
  | .hbm, ⟨27, _⟩ => ⟨S2048, .f32⟩
  | .hbm, ⟨28, _⟩ => ⟨S32x64, .f32⟩
  | .hbm, ⟨29, _⟩ => ⟨S32x64x1, .f32⟩
  | .hbm, ⟨30, _⟩ => ⟨S32x64x128, .f32⟩
  | .hbm, ⟨31, _⟩ => ⟨S32x64, .f32⟩
  | .hbm, ⟨32, _⟩ => ⟨S32x64x1, .f32⟩
  | .hbm, ⟨33, _⟩ => ⟨S32x64x128, .f32⟩
  | .hbm, ⟨34, _⟩ => ⟨S2048, .f32⟩
  | .hbm, ⟨35, _⟩ => ⟨S32x64, .f32⟩
  | .hbm, ⟨36, _⟩ => ⟨S32x64x1, .f32⟩
  | .hbm, ⟨37, _⟩ => ⟨S32x64x128, .f32⟩
  | .hbm, ⟨38, _⟩ => ⟨S2048, .f32⟩
  | .hbm, ⟨39, _⟩ => ⟨S32x64, .f32⟩
  | .hbm, ⟨40, _⟩ => ⟨S32x64x1, .f32⟩
  | .hbm, ⟨41, _⟩ => ⟨S32x64x128, .f32⟩
  | .hbm, ⟨42, _⟩ => ⟨S32x8x64x128, .f32⟩
  | .hbm, ⟨43, _⟩ => ⟨S32x64x64x128, .f32⟩
  | .hbm, ⟨44, _⟩ => ⟨S128x32x64x64, .f32⟩
  | .local _ .vmem, ⟨0, _⟩ => ⟨S1x8x64x128, .f32⟩
  | .local _ .vmem, ⟨1, _⟩ => ⟨S1x8x64x128, .f32⟩
  | .local _ .vmem, ⟨2, _⟩ => ⟨S1x8x64x128, .f32⟩
  | .local _ .vmem, ⟨3, _⟩ => ⟨S1x8x64x128, .f32⟩
  | .local _ .vmem, ⟨4, _⟩ => ⟨S1x8x64x128, .f32⟩
  | .local _ .vmem, ⟨5, _⟩ => ⟨S1x8x64x128, .f32⟩
  | .local _ .vmem, ⟨6, _⟩ => ⟨S1x8x64x128, .f32⟩
  | .local _ .vmem, ⟨7, _⟩ => ⟨S1x8x64x128, .f32⟩
  | .local _ .vmem, ⟨8, _⟩ => ⟨S1x8x64x128, .f32⟩
  | .local _ .vmem, ⟨9, _⟩ => ⟨S1x8x64x128, .f32⟩
  | .local _ .vmem, ⟨10, _⟩ => ⟨S1x64x64x128, .f32⟩
  | .local _ .vmem, ⟨11, _⟩ => ⟨S1x64x64x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S1x8x64x128, .f32⟩
  | .local _ .vmem, ⟨23, _⟩ => ⟨S1x8x64x128, .f32⟩
  | .local _ .vmem, ⟨24, _⟩ => ⟨S1x64x64x128, .f32⟩
  | .local _ .vmem, ⟨25, _⟩ => ⟨S1x64x64x128, .f32⟩
  | .local _ .vmem, ⟨26, _⟩ => ⟨S64x128, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 1], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (k0_t1 : Fin k0_t1_loop.trips) : Fin 4 → Nat :=
  let c0_10 : Index := 0#32
  let c0_i32_1 : BitVec 32 := 0#32
  let c1_i32 : BitVec 32 := 1#32
  let arg16 : BitVec 32 := Scf.iv c0_i32_1 c1_i32 k0_t1
  let v14 : Index := Scalar.indexCast arg16
  let c0_11 : Index := 0#32
  let c0_12 : Index := 0#32
  ![0, v14.toNat, 0, 0]
def k0_off2 (k0_t1 : Fin k0_t1_loop.trips) : Fin 4 → Nat :=
  let c0_41 : Index := 0#32
  let c0_i32_1 : BitVec 32 := 0#32
  let c1_i32 : BitVec 32 := 1#32
  let arg16 : BitVec 32 := Scf.iv c0_i32_1 c1_i32 k0_t1
  let v64 : Index := Scalar.indexCast arg16
  let c0_42 : Index := 0#32
  let c0_43 : Index := 0#32
  ![0, v64.toNat, 0, 0]
def k0_off3 (k0_t1 : Fin k0_t1_loop.trips) : Fin 4 → Nat :=
  let c0_53 : Index := 0#32
  let c0_i32_1 : BitVec 32 := 0#32
  let c1_i32 : BitVec 32 := 1#32
  let arg16 : BitVec 32 := Scf.iv c0_i32_1 c1_i32 k0_t1
  let v84 : Index := Scalar.indexCast arg16
  let c1_54 : Index := 1#32
  let c0_55 : Index := 0#32
  ![0, v84.toNat, 1, 0]
def k0_off4 (k0_t1 : Fin k0_t1_loop.trips) : Fin 4 → Nat :=
  let c0_65 : Index := 0#32
  let c0_i32_1 : BitVec 32 := 0#32
  let c1_i32 : BitVec 32 := 1#32
  let arg16 : BitVec 32 := Scf.iv c0_i32_1 c1_i32 k0_t1
  let v104 : Index := Scalar.indexCast arg16
  let c2_66 : Index := 2#32
  let c0_67 : Index := 0#32
  ![0, v104.toNat, 2, 0]
def k0_off5 (k0_t1 : Fin k0_t1_loop.trips) : Fin 4 → Nat :=
  let c0_77 : Index := 0#32
  let c0_i32_1 : BitVec 32 := 0#32
  let c1_i32 : BitVec 32 := 1#32
  let arg16 : BitVec 32 := Scf.iv c0_i32_1 c1_i32 k0_t1
  let v124 : Index := Scalar.indexCast arg16
  let c3_78 : Index := 3#32
  let c0_79 : Index := 0#32
  ![0, v124.toNat, 3, 0]
def k0_off6 (k0_t1 : Fin k0_t1_loop.trips) : Fin 4 → Nat :=
  let c0_89 : Index := 0#32
  let c0_i32_1 : BitVec 32 := 0#32
  let c1_i32 : BitVec 32 := 1#32
  let arg16 : BitVec 32 := Scf.iv c0_i32_1 c1_i32 k0_t1
  let v144 : Index := Scalar.indexCast arg16
  let c4_90 : Index := 4#32
  let c0_91 : Index := 0#32
  ![0, v144.toNat, 4, 0]
def k0_off7 (k0_t1 : Fin k0_t1_loop.trips) : Fin 4 → Nat :=
  let c0_101 : Index := 0#32
  let c0_i32_1 : BitVec 32 := 0#32
  let c1_i32 : BitVec 32 := 1#32
  let arg16 : BitVec 32 := Scf.iv c0_i32_1 c1_i32 k0_t1
  let v164 : Index := Scalar.indexCast arg16
  let c5_102 : Index := 5#32
  let c0_103 : Index := 0#32
  ![0, v164.toNat, 5, 0]
def k0_off8 (k0_t1 : Fin k0_t1_loop.trips) : Fin 4 → Nat :=
  let c0_113 : Index := 0#32
  let c0_i32_1 : BitVec 32 := 0#32
  let c1_i32 : BitVec 32 := 1#32
  let arg16 : BitVec 32 := Scf.iv c0_i32_1 c1_i32 k0_t1
  let v184 : Index := Scalar.indexCast arg16
  let c6_114 : Index := 6#32
  let c0_115 : Index := 0#32
  ![0, v184.toNat, 6, 0]
def k0_off9 (k0_t1 : Fin k0_t1_loop.trips) : Fin 4 → Nat :=
  let c0_125 : Index := 0#32
  let c0_i32_1 : BitVec 32 := 0#32
  let c1_i32 : BitVec 32 := 1#32
  let arg16 : BitVec 32 := Scf.iv c0_i32_1 c1_i32 k0_t1
  let v204 : Index := Scalar.indexCast arg16
  let c7_126 : Index := 7#32
  let c0_127 : Index := 0#32
  ![0, v204.toNat, 7, 0]
def k0_off10 (k0_t1 : Fin k0_t1_loop.trips) : Fin 4 → Nat :=
  let c0_163 : Index := 0#32
  let c0_i32_1 : BitVec 32 := 0#32
  let c1_i32 : BitVec 32 := 1#32
  let arg16 : BitVec 32 := Scf.iv c0_i32_1 c1_i32 k0_t1
  let v291 : Index := Scalar.indexCast arg16
  let c8_164 : Index := 8#32
  let c0_165 : Index := 0#32
  ![0, v291.toNat, 8, 0]
def k0_off11 (k0_t1 : Fin k0_t1_loop.trips) : Fin 4 → Nat :=
  let c0_175 : Index := 0#32
  let c0_i32_1 : BitVec 32 := 0#32
  let c1_i32 : BitVec 32 := 1#32
  let arg16 : BitVec 32 := Scf.iv c0_i32_1 c1_i32 k0_t1
  let v311 : Index := Scalar.indexCast arg16
  let c9_176 : Index := 9#32
  let c0_177 : Index := 0#32
  ![0, v311.toNat, 9, 0]
def k0_off12 (k0_t1 : Fin k0_t1_loop.trips) : Fin 4 → Nat :=
  let c0_187 : Index := 0#32
  let c0_i32_1 : BitVec 32 := 0#32
  let c1_i32 : BitVec 32 := 1#32
  let arg16 : BitVec 32 := Scf.iv c0_i32_1 c1_i32 k0_t1
  let v331 : Index := Scalar.indexCast arg16
  let c10_188 : Index := 10#32
  let c0_189 : Index := 0#32
  ![0, v331.toNat, 10, 0]
def k0_off13 (k0_t1 : Fin k0_t1_loop.trips) : Fin 4 → Nat :=
  let c0_199 : Index := 0#32
  let c0_i32_1 : BitVec 32 := 0#32
  let c1_i32 : BitVec 32 := 1#32
  let arg16 : BitVec 32 := Scf.iv c0_i32_1 c1_i32 k0_t1
  let v351 : Index := Scalar.indexCast arg16
  let c11_200 : Index := 11#32
  let c0_201 : Index := 0#32
  ![0, v351.toNat, 11, 0]
def k0_off14 (k0_t1 : Fin k0_t1_loop.trips) : Fin 4 → Nat :=
  let c0_211 : Index := 0#32
  let c0_i32_1 : BitVec 32 := 0#32
  let c1_i32 : BitVec 32 := 1#32
  let arg16 : BitVec 32 := Scf.iv c0_i32_1 c1_i32 k0_t1
  let v371 : Index := Scalar.indexCast arg16
  let c12_212 : Index := 12#32
  let c0_213 : Index := 0#32
  ![0, v371.toNat, 12, 0]
def k0_off15 (k0_t1 : Fin k0_t1_loop.trips) : Fin 4 → Nat :=
  let c0_223 : Index := 0#32
  let c0_i32_1 : BitVec 32 := 0#32
  let c1_i32 : BitVec 32 := 1#32
  let arg16 : BitVec 32 := Scf.iv c0_i32_1 c1_i32 k0_t1
  let v391 : Index := Scalar.indexCast arg16
  let c13_224 : Index := 13#32
  let c0_225 : Index := 0#32
  ![0, v391.toNat, 13, 0]
def k0_off16 (k0_t1 : Fin k0_t1_loop.trips) : Fin 4 → Nat :=
  let c0_235 : Index := 0#32
  let c0_i32_1 : BitVec 32 := 0#32
  let c1_i32 : BitVec 32 := 1#32
  let arg16 : BitVec 32 := Scf.iv c0_i32_1 c1_i32 k0_t1
  let v411 : Index := Scalar.indexCast arg16
  let c14_236 : Index := 14#32
  let c0_237 : Index := 0#32
  ![0, v411.toNat, 14, 0]
def k0_off17 (k0_t1 : Fin k0_t1_loop.trips) : Fin 4 → Nat :=
  let c0_247 : Index := 0#32
  let c0_i32_1 : BitVec 32 := 0#32
  let c1_i32 : BitVec 32 := 1#32
  let arg16 : BitVec 32 := Scf.iv c0_i32_1 c1_i32 k0_t1
  let v431 : Index := Scalar.indexCast arg16
  let c15_248 : Index := 15#32
  let c0_249 : Index := 0#32
  ![0, v431.toNat, 15, 0]
def k0_off18 (k0_t1 : Fin k0_t1_loop.trips) : Fin 4 → Nat :=
  let c0_289 : Index := 0#32
  let c0_i32_1 : BitVec 32 := 0#32
  let c1_i32 : BitVec 32 := 1#32
  let arg16 : BitVec 32 := Scf.iv c0_i32_1 c1_i32 k0_t1
  let v518 : Index := Scalar.indexCast arg16
  let c16_290 : Index := 16#32
  let c0_291 : Index := 0#32
  ![0, v518.toNat, 16, 0]
def k0_off19 (k0_t1 : Fin k0_t1_loop.trips) : Fin 4 → Nat :=
  let c0_301 : Index := 0#32
  let c0_i32_1 : BitVec 32 := 0#32
  let c1_i32 : BitVec 32 := 1#32
  let arg16 : BitVec 32 := Scf.iv c0_i32_1 c1_i32 k0_t1
  let v538 : Index := Scalar.indexCast arg16
  let c17_302 : Index := 17#32
  let c0_303 : Index := 0#32
  ![0, v538.toNat, 17, 0]
def k0_off20 (k0_t1 : Fin k0_t1_loop.trips) : Fin 4 → Nat :=
  let c0_313 : Index := 0#32
  let c0_i32_1 : BitVec 32 := 0#32
  let c1_i32 : BitVec 32 := 1#32
  let arg16 : BitVec 32 := Scf.iv c0_i32_1 c1_i32 k0_t1
  let v558 : Index := Scalar.indexCast arg16
  let c18_314 : Index := 18#32
  let c0_315 : Index := 0#32
  ![0, v558.toNat, 18, 0]
def k0_off21 (k0_t1 : Fin k0_t1_loop.trips) : Fin 4 → Nat :=
  let c0_325 : Index := 0#32
  let c0_i32_1 : BitVec 32 := 0#32
  let c1_i32 : BitVec 32 := 1#32
  let arg16 : BitVec 32 := Scf.iv c0_i32_1 c1_i32 k0_t1
  let v578 : Index := Scalar.indexCast arg16
  let c19_326 : Index := 19#32
  let c0_327 : Index := 0#32
  ![0, v578.toNat, 19, 0]
def k0_off22 (k0_t1 : Fin k0_t1_loop.trips) : Fin 4 → Nat :=
  let c0_337 : Index := 0#32
  let c0_i32_1 : BitVec 32 := 0#32
  let c1_i32 : BitVec 32 := 1#32
  let arg16 : BitVec 32 := Scf.iv c0_i32_1 c1_i32 k0_t1
  let v598 : Index := Scalar.indexCast arg16
  let c20_338 : Index := 20#32
  let c0_339 : Index := 0#32
  ![0, v598.toNat, 20, 0]
def k0_off23 (k0_t1 : Fin k0_t1_loop.trips) : Fin 4 → Nat :=
  let c0_349 : Index := 0#32
  let c0_i32_1 : BitVec 32 := 0#32
  let c1_i32 : BitVec 32 := 1#32
  let arg16 : BitVec 32 := Scf.iv c0_i32_1 c1_i32 k0_t1
  let v618 : Index := Scalar.indexCast arg16
  let c21_350 : Index := 21#32
  let c0_351 : Index := 0#32
  ![0, v618.toNat, 21, 0]
def k0_off24 (k0_t1 : Fin k0_t1_loop.trips) : Fin 4 → Nat :=
  let c0_361 : Index := 0#32
  let c0_i32_1 : BitVec 32 := 0#32
  let c1_i32 : BitVec 32 := 1#32
  let arg16 : BitVec 32 := Scf.iv c0_i32_1 c1_i32 k0_t1
  let v638 : Index := Scalar.indexCast arg16
  let c22_362 : Index := 22#32
  let c0_363 : Index := 0#32
  ![0, v638.toNat, 22, 0]
def k0_off25 (k0_t1 : Fin k0_t1_loop.trips) : Fin 4 → Nat :=
  let c0_373 : Index := 0#32
  let c0_i32_1 : BitVec 32 := 0#32
  let c1_i32 : BitVec 32 := 1#32
  let arg16 : BitVec 32 := Scf.iv c0_i32_1 c1_i32 k0_t1
  let v658 : Index := Scalar.indexCast arg16
  let c23_374 : Index := 23#32
  let c0_375 : Index := 0#32
  ![0, v658.toNat, 23, 0]
def k0_off26 (k0_t1 : Fin k0_t1_loop.trips) : Fin 4 → Nat :=
  let c0_415 : Index := 0#32
  let c0_i32_1 : BitVec 32 := 0#32
  let c1_i32 : BitVec 32 := 1#32
  let arg16 : BitVec 32 := Scf.iv c0_i32_1 c1_i32 k0_t1
  let v745 : Index := Scalar.indexCast arg16
  let c24_416 : Index := 24#32
  let c0_417 : Index := 0#32
  ![0, v745.toNat, 24, 0]
def k0_off27 (k0_t1 : Fin k0_t1_loop.trips) : Fin 4 → Nat :=
  let c0_427 : Index := 0#32
  let c0_i32_1 : BitVec 32 := 0#32
  let c1_i32 : BitVec 32 := 1#32
  let arg16 : BitVec 32 := Scf.iv c0_i32_1 c1_i32 k0_t1
  let v765 : Index := Scalar.indexCast arg16
  let c25_428 : Index := 25#32
  let c0_429 : Index := 0#32
  ![0, v765.toNat, 25, 0]
def k0_off28 (k0_t1 : Fin k0_t1_loop.trips) : Fin 4 → Nat :=
  let c0_439 : Index := 0#32
  let c0_i32_1 : BitVec 32 := 0#32
  let c1_i32 : BitVec 32 := 1#32
  let arg16 : BitVec 32 := Scf.iv c0_i32_1 c1_i32 k0_t1
  let v785 : Index := Scalar.indexCast arg16
  let c26_440 : Index := 26#32
  let c0_441 : Index := 0#32
  ![0, v785.toNat, 26, 0]
def k0_off29 (k0_t1 : Fin k0_t1_loop.trips) : Fin 4 → Nat :=
  let c0_451 : Index := 0#32
  let c0_i32_1 : BitVec 32 := 0#32
  let c1_i32 : BitVec 32 := 1#32
  let arg16 : BitVec 32 := Scf.iv c0_i32_1 c1_i32 k0_t1
  let v805 : Index := Scalar.indexCast arg16
  let c27_452 : Index := 27#32
  let c0_453 : Index := 0#32
  ![0, v805.toNat, 27, 0]
def k0_off30 (k0_t1 : Fin k0_t1_loop.trips) : Fin 4 → Nat :=
  let c0_463 : Index := 0#32
  let c0_i32_1 : BitVec 32 := 0#32
  let c1_i32 : BitVec 32 := 1#32
  let arg16 : BitVec 32 := Scf.iv c0_i32_1 c1_i32 k0_t1
  let v825 : Index := Scalar.indexCast arg16
  let c28_464 : Index := 28#32
  let c0_465 : Index := 0#32
  ![0, v825.toNat, 28, 0]
def k0_off31 (k0_t1 : Fin k0_t1_loop.trips) : Fin 4 → Nat :=
  let c0_475 : Index := 0#32
  let c0_i32_1 : BitVec 32 := 0#32
  let c1_i32 : BitVec 32 := 1#32
  let arg16 : BitVec 32 := Scf.iv c0_i32_1 c1_i32 k0_t1
  let v845 : Index := Scalar.indexCast arg16
  let c29_476 : Index := 29#32
  let c0_477 : Index := 0#32
  ![0, v845.toNat, 29, 0]
def k0_off32 (k0_t1 : Fin k0_t1_loop.trips) : Fin 4 → Nat :=
  let c0_487 : Index := 0#32
  let c0_i32_1 : BitVec 32 := 0#32
  let c1_i32 : BitVec 32 := 1#32
  let arg16 : BitVec 32 := Scf.iv c0_i32_1 c1_i32 k0_t1
  let v865 : Index := Scalar.indexCast arg16
  let c30_488 : Index := 30#32
  let c0_489 : Index := 0#32
  ![0, v865.toNat, 30, 0]
def k0_off33 (k0_t1 : Fin k0_t1_loop.trips) : Fin 4 → Nat :=
  let c0_499 : Index := 0#32
  let c0_i32_1 : BitVec 32 := 0#32
  let c1_i32 : BitVec 32 := 1#32
  let arg16 : BitVec 32 := Scf.iv c0_i32_1 c1_i32 k0_t1
  let v885 : Index := Scalar.indexCast arg16
  let c31_500 : Index := 31#32
  let c0_501 : Index := 0#32
  ![0, v885.toNat, 31, 0]
def k0_off34 (k0_t1 : Fin k0_t1_loop.trips) : Fin 4 → Nat :=
  let c0_541 : Index := 0#32
  let c0_i32_1 : BitVec 32 := 0#32
  let c1_i32 : BitVec 32 := 1#32
  let arg16 : BitVec 32 := Scf.iv c0_i32_1 c1_i32 k0_t1
  let v972 : Index := Scalar.indexCast arg16
  let c32_542 : Index := 32#32
  let c0_543 : Index := 0#32
  ![0, v972.toNat, 32, 0]
def k0_off35 (k0_t1 : Fin k0_t1_loop.trips) : Fin 4 → Nat :=
  let c0_553 : Index := 0#32
  let c0_i32_1 : BitVec 32 := 0#32
  let c1_i32 : BitVec 32 := 1#32
  let arg16 : BitVec 32 := Scf.iv c0_i32_1 c1_i32 k0_t1
  let v992 : Index := Scalar.indexCast arg16
  let c33_554 : Index := 33#32
  let c0_555 : Index := 0#32
  ![0, v992.toNat, 33, 0]
def k0_off36 (k0_t1 : Fin k0_t1_loop.trips) : Fin 4 → Nat :=
  let c0_565 : Index := 0#32
  let c0_i32_1 : BitVec 32 := 0#32
  let c1_i32 : BitVec 32 := 1#32
  let arg16 : BitVec 32 := Scf.iv c0_i32_1 c1_i32 k0_t1
  let v1012 : Index := Scalar.indexCast arg16
  let c34_566 : Index := 34#32
  let c0_567 : Index := 0#32
  ![0, v1012.toNat, 34, 0]
def k0_off37 (k0_t1 : Fin k0_t1_loop.trips) : Fin 4 → Nat :=
  let c0_577 : Index := 0#32
  let c0_i32_1 : BitVec 32 := 0#32
  let c1_i32 : BitVec 32 := 1#32
  let arg16 : BitVec 32 := Scf.iv c0_i32_1 c1_i32 k0_t1
  let v1032 : Index := Scalar.indexCast arg16
  let c35_578 : Index := 35#32
  let c0_579 : Index := 0#32
  ![0, v1032.toNat, 35, 0]
def k0_off38 (k0_t1 : Fin k0_t1_loop.trips) : Fin 4 → Nat :=
  let c0_589 : Index := 0#32
  let c0_i32_1 : BitVec 32 := 0#32
  let c1_i32 : BitVec 32 := 1#32
  let arg16 : BitVec 32 := Scf.iv c0_i32_1 c1_i32 k0_t1
  let v1052 : Index := Scalar.indexCast arg16
  let c36_590 : Index := 36#32
  let c0_591 : Index := 0#32
  ![0, v1052.toNat, 36, 0]
def k0_off39 (k0_t1 : Fin k0_t1_loop.trips) : Fin 4 → Nat :=
  let c0_601 : Index := 0#32
  let c0_i32_1 : BitVec 32 := 0#32
  let c1_i32 : BitVec 32 := 1#32
  let arg16 : BitVec 32 := Scf.iv c0_i32_1 c1_i32 k0_t1
  let v1072 : Index := Scalar.indexCast arg16
  let c37_602 : Index := 37#32
  let c0_603 : Index := 0#32
  ![0, v1072.toNat, 37, 0]
def k0_off40 (k0_t1 : Fin k0_t1_loop.trips) : Fin 4 → Nat :=
  let c0_613 : Index := 0#32
  let c0_i32_1 : BitVec 32 := 0#32
  let c1_i32 : BitVec 32 := 1#32
  let arg16 : BitVec 32 := Scf.iv c0_i32_1 c1_i32 k0_t1
  let v1092 : Index := Scalar.indexCast arg16
  let c38_614 : Index := 38#32
  let c0_615 : Index := 0#32
  ![0, v1092.toNat, 38, 0]
def k0_off41 (k0_t1 : Fin k0_t1_loop.trips) : Fin 4 → Nat :=
  let c0_625 : Index := 0#32
  let c0_i32_1 : BitVec 32 := 0#32
  let c1_i32 : BitVec 32 := 1#32
  let arg16 : BitVec 32 := Scf.iv c0_i32_1 c1_i32 k0_t1
  let v1112 : Index := Scalar.indexCast arg16
  let c39_626 : Index := 39#32
  let c0_627 : Index := 0#32
  ![0, v1112.toNat, 39, 0]
def k0_off42 (k0_t1 : Fin k0_t1_loop.trips) : Fin 4 → Nat :=
  let c0_667 : Index := 0#32
  let c0_i32_1 : BitVec 32 := 0#32
  let c1_i32 : BitVec 32 := 1#32
  let arg16 : BitVec 32 := Scf.iv c0_i32_1 c1_i32 k0_t1
  let v1199 : Index := Scalar.indexCast arg16
  let c40_668 : Index := 40#32
  let c0_669 : Index := 0#32
  ![0, v1199.toNat, 40, 0]
def k0_off43 (k0_t1 : Fin k0_t1_loop.trips) : Fin 4 → Nat :=
  let c0_679 : Index := 0#32
  let c0_i32_1 : BitVec 32 := 0#32
  let c1_i32 : BitVec 32 := 1#32
  let arg16 : BitVec 32 := Scf.iv c0_i32_1 c1_i32 k0_t1
  let v1219 : Index := Scalar.indexCast arg16
  let c41_680 : Index := 41#32
  let c0_681 : Index := 0#32
  ![0, v1219.toNat, 41, 0]
def k0_off44 (k0_t1 : Fin k0_t1_loop.trips) : Fin 4 → Nat :=
  let c0_691 : Index := 0#32
  let c0_i32_1 : BitVec 32 := 0#32
  let c1_i32 : BitVec 32 := 1#32
  let arg16 : BitVec 32 := Scf.iv c0_i32_1 c1_i32 k0_t1
  let v1239 : Index := Scalar.indexCast arg16
  let c42_692 : Index := 42#32
  let c0_693 : Index := 0#32
  ![0, v1239.toNat, 42, 0]
def k0_off45 (k0_t1 : Fin k0_t1_loop.trips) : Fin 4 → Nat :=
  let c0_703 : Index := 0#32
  let c0_i32_1 : BitVec 32 := 0#32
  let c1_i32 : BitVec 32 := 1#32
  let arg16 : BitVec 32 := Scf.iv c0_i32_1 c1_i32 k0_t1
  let v1259 : Index := Scalar.indexCast arg16
  let c43_704 : Index := 43#32
  let c0_705 : Index := 0#32
  ![0, v1259.toNat, 43, 0]
def k0_off46 (k0_t1 : Fin k0_t1_loop.trips) : Fin 4 → Nat :=
  let c0_715 : Index := 0#32
  let c0_i32_1 : BitVec 32 := 0#32
  let c1_i32 : BitVec 32 := 1#32
  let arg16 : BitVec 32 := Scf.iv c0_i32_1 c1_i32 k0_t1
  let v1279 : Index := Scalar.indexCast arg16
  let c44_716 : Index := 44#32
  let c0_717 : Index := 0#32
  ![0, v1279.toNat, 44, 0]
def k0_off47 (k0_t1 : Fin k0_t1_loop.trips) : Fin 4 → Nat :=
  let c0_727 : Index := 0#32
  let c0_i32_1 : BitVec 32 := 0#32
  let c1_i32 : BitVec 32 := 1#32
  let arg16 : BitVec 32 := Scf.iv c0_i32_1 c1_i32 k0_t1
  let v1299 : Index := Scalar.indexCast arg16
  let c45_728 : Index := 45#32
  let c0_729 : Index := 0#32
  ![0, v1299.toNat, 45, 0]
def k0_off48 (k0_t1 : Fin k0_t1_loop.trips) : Fin 4 → Nat :=
  let c0_739 : Index := 0#32
  let c0_i32_1 : BitVec 32 := 0#32
  let c1_i32 : BitVec 32 := 1#32
  let arg16 : BitVec 32 := Scf.iv c0_i32_1 c1_i32 k0_t1
  let v1319 : Index := Scalar.indexCast arg16
  let c46_740 : Index := 46#32
  let c0_741 : Index := 0#32
  ![0, v1319.toNat, 46, 0]
def k0_off49 (k0_t1 : Fin k0_t1_loop.trips) : Fin 4 → Nat :=
  let c0_751 : Index := 0#32
  let c0_i32_1 : BitVec 32 := 0#32
  let c1_i32 : BitVec 32 := 1#32
  let arg16 : BitVec 32 := Scf.iv c0_i32_1 c1_i32 k0_t1
  let v1339 : Index := Scalar.indexCast arg16
  let c47_752 : Index := 47#32
  let c0_753 : Index := 0#32
  ![0, v1339.toNat, 47, 0]
def k0_off50 (k0_t1 : Fin k0_t1_loop.trips) : Fin 4 → Nat :=
  let c0_793 : Index := 0#32
  let c0_i32_1 : BitVec 32 := 0#32
  let c1_i32 : BitVec 32 := 1#32
  let arg16 : BitVec 32 := Scf.iv c0_i32_1 c1_i32 k0_t1
  let v1426 : Index := Scalar.indexCast arg16
  let c48_794 : Index := 48#32
  let c0_795 : Index := 0#32
  ![0, v1426.toNat, 48, 0]
def k0_off51 (k0_t1 : Fin k0_t1_loop.trips) : Fin 4 → Nat :=
  let c0_805 : Index := 0#32
  let c0_i32_1 : BitVec 32 := 0#32
  let c1_i32 : BitVec 32 := 1#32
  let arg16 : BitVec 32 := Scf.iv c0_i32_1 c1_i32 k0_t1
  let v1446 : Index := Scalar.indexCast arg16
  let c49_806 : Index := 49#32
  let c0_807 : Index := 0#32
  ![0, v1446.toNat, 49, 0]
def k0_off52 (k0_t1 : Fin k0_t1_loop.trips) : Fin 4 → Nat :=
  let c0_817 : Index := 0#32
  let c0_i32_1 : BitVec 32 := 0#32
  let c1_i32 : BitVec 32 := 1#32
  let arg16 : BitVec 32 := Scf.iv c0_i32_1 c1_i32 k0_t1
  let v1466 : Index := Scalar.indexCast arg16
  let c50_818 : Index := 50#32
  let c0_819 : Index := 0#32
  ![0, v1466.toNat, 50, 0]
def k0_off53 (k0_t1 : Fin k0_t1_loop.trips) : Fin 4 → Nat :=
  let c0_829 : Index := 0#32
  let c0_i32_1 : BitVec 32 := 0#32
  let c1_i32 : BitVec 32 := 1#32
  let arg16 : BitVec 32 := Scf.iv c0_i32_1 c1_i32 k0_t1
  let v1486 : Index := Scalar.indexCast arg16
  let c51_830 : Index := 51#32
  let c0_831 : Index := 0#32
  ![0, v1486.toNat, 51, 0]
def k0_off54 (k0_t1 : Fin k0_t1_loop.trips) : Fin 4 → Nat :=
  let c0_841 : Index := 0#32
  let c0_i32_1 : BitVec 32 := 0#32
  let c1_i32 : BitVec 32 := 1#32
  let arg16 : BitVec 32 := Scf.iv c0_i32_1 c1_i32 k0_t1
  let v1506 : Index := Scalar.indexCast arg16
  let c52_842 : Index := 52#32
  let c0_843 : Index := 0#32
  ![0, v1506.toNat, 52, 0]
def k0_off55 (k0_t1 : Fin k0_t1_loop.trips) : Fin 4 → Nat :=
  let c0_853 : Index := 0#32
  let c0_i32_1 : BitVec 32 := 0#32
  let c1_i32 : BitVec 32 := 1#32
  let arg16 : BitVec 32 := Scf.iv c0_i32_1 c1_i32 k0_t1
  let v1526 : Index := Scalar.indexCast arg16
  let c53_854 : Index := 53#32
  let c0_855 : Index := 0#32
  ![0, v1526.toNat, 53, 0]
def k0_off56 (k0_t1 : Fin k0_t1_loop.trips) : Fin 4 → Nat :=
  let c0_865 : Index := 0#32
  let c0_i32_1 : BitVec 32 := 0#32
  let c1_i32 : BitVec 32 := 1#32
  let arg16 : BitVec 32 := Scf.iv c0_i32_1 c1_i32 k0_t1
  let v1546 : Index := Scalar.indexCast arg16
  let c54_866 : Index := 54#32
  let c0_867 : Index := 0#32
  ![0, v1546.toNat, 54, 0]
def k0_off57 (k0_t1 : Fin k0_t1_loop.trips) : Fin 4 → Nat :=
  let c0_877 : Index := 0#32
  let c0_i32_1 : BitVec 32 := 0#32
  let c1_i32 : BitVec 32 := 1#32
  let arg16 : BitVec 32 := Scf.iv c0_i32_1 c1_i32 k0_t1
  let v1566 : Index := Scalar.indexCast arg16
  let c55_878 : Index := 55#32
  let c0_879 : Index := 0#32
  ![0, v1566.toNat, 55, 0]
def k0_off58 (k0_t1 : Fin k0_t1_loop.trips) : Fin 4 → Nat :=
  let c0_919 : Index := 0#32
  let c0_i32_1 : BitVec 32 := 0#32
  let c1_i32 : BitVec 32 := 1#32
  let arg16 : BitVec 32 := Scf.iv c0_i32_1 c1_i32 k0_t1
  let v1653 : Index := Scalar.indexCast arg16
  let c56_920 : Index := 56#32
  let c0_921 : Index := 0#32
  ![0, v1653.toNat, 56, 0]
def k0_off59 (k0_t1 : Fin k0_t1_loop.trips) : Fin 4 → Nat :=
  let c0_931 : Index := 0#32
  let c0_i32_1 : BitVec 32 := 0#32
  let c1_i32 : BitVec 32 := 1#32
  let arg16 : BitVec 32 := Scf.iv c0_i32_1 c1_i32 k0_t1
  let v1673 : Index := Scalar.indexCast arg16
  let c57_932 : Index := 57#32
  let c0_933 : Index := 0#32
  ![0, v1673.toNat, 57, 0]
def k0_off60 (k0_t1 : Fin k0_t1_loop.trips) : Fin 4 → Nat :=
  let c0_943 : Index := 0#32
  let c0_i32_1 : BitVec 32 := 0#32
  let c1_i32 : BitVec 32 := 1#32
  let arg16 : BitVec 32 := Scf.iv c0_i32_1 c1_i32 k0_t1
  let v1693 : Index := Scalar.indexCast arg16
  let c58_944 : Index := 58#32
  let c0_945 : Index := 0#32
  ![0, v1693.toNat, 58, 0]
def k0_off61 (k0_t1 : Fin k0_t1_loop.trips) : Fin 4 → Nat :=
  let c0_955 : Index := 0#32
  let c0_i32_1 : BitVec 32 := 0#32
  let c1_i32 : BitVec 32 := 1#32
  let arg16 : BitVec 32 := Scf.iv c0_i32_1 c1_i32 k0_t1
  let v1713 : Index := Scalar.indexCast arg16
  let c59_956 : Index := 59#32
  let c0_957 : Index := 0#32
  ![0, v1713.toNat, 59, 0]
def k0_off62 (k0_t1 : Fin k0_t1_loop.trips) : Fin 4 → Nat :=
  let c0_967 : Index := 0#32
  let c0_i32_1 : BitVec 32 := 0#32
  let c1_i32 : BitVec 32 := 1#32
  let arg16 : BitVec 32 := Scf.iv c0_i32_1 c1_i32 k0_t1
  let v1733 : Index := Scalar.indexCast arg16
  let c60_968 : Index := 60#32
  let c0_969 : Index := 0#32
  ![0, v1733.toNat, 60, 0]
def k0_off63 (k0_t1 : Fin k0_t1_loop.trips) : Fin 4 → Nat :=
  let c0_979 : Index := 0#32
  let c0_i32_1 : BitVec 32 := 0#32
  let c1_i32 : BitVec 32 := 1#32
  let arg16 : BitVec 32 := Scf.iv c0_i32_1 c1_i32 k0_t1
  let v1753 : Index := Scalar.indexCast arg16
  let c61_980 : Index := 61#32
  let c0_981 : Index := 0#32
  ![0, v1753.toNat, 61, 0]
def k0_off64 (k0_t1 : Fin k0_t1_loop.trips) : Fin 4 → Nat :=
  let c0_991 : Index := 0#32
  let c0_i32_1 : BitVec 32 := 0#32
  let c1_i32 : BitVec 32 := 1#32
  let arg16 : BitVec 32 := Scf.iv c0_i32_1 c1_i32 k0_t1
  let v1773 : Index := Scalar.indexCast arg16
  let c62_992 : Index := 62#32
  let c0_993 : Index := 0#32
  ![0, v1773.toNat, 62, 0]
def k0_off65 (k0_t1 : Fin k0_t1_loop.trips) : Fin 4 → Nat :=
  let c0_1003 : Index := 0#32
  let c0_i32_1 : BitVec 32 := 0#32
  let c1_i32 : BitVec 32 := 1#32
  let arg16 : BitVec 32 := Scf.iv c0_i32_1 c1_i32 k0_t1
  let v1793 : Index := Scalar.indexCast arg16
  let c63_1004 : Index := 63#32
  let c0_1005 : Index := 0#32
  ![0, v1793.toNat, 63, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ScanRefIdeal.lean ====
abbrev S128x8x2048 : Shape := ⟨3, ![128, 8, 2048]⟩
abbrev S1x128x32x64x64 : Shape := ⟨5, ![1, 128, 32, 64, 64]⟩
abbrev S1x2048 : Shape := ⟨2, ![1, 2048]⟩
abbrev S1x32x64 : Shape := ⟨3, ![1, 32, 64]⟩
abbrev S128x8x32x64 : Shape := ⟨4, ![128, 8, 32, 64]⟩
abbrev S2048 : Shape := ⟨1, ![2048]⟩
abbrev S32x64 : Shape := ⟨2, ![32, 64]⟩
abbrev S1x1x32x64 : Shape := ⟨4, ![1, 1, 32, 64]⟩
abbrev S_ : Shape := ⟨0, ![]⟩
abbrev S128x8x32 : Shape := ⟨3, ![128, 8, 32]⟩
abbrev S128x8x32x1 : Shape := ⟨4, ![128, 8, 32, 1]⟩
abbrev S128x32x64x64 : Shape := ⟨4, ![128, 32, 64, 64]⟩
abbrev S8x128x32x64 : Shape := ⟨4, ![8, 128, 32, 64]⟩
abbrev S1x128x32x64 : Shape := ⟨4, ![1, 128, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩

abbrev nBuf : Space → Nat
  | .hbm => 120
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x8x2048, .f32⟩
  | .hbm, ⟨3, _⟩ => ⟨S128x8x2048, .f32⟩
  | .hbm, ⟨4, _⟩ => ⟨S128x8x2048, .f32⟩
  | .hbm, ⟨5, _⟩ => ⟨S1x128x32x64x64, .f32⟩
  | .hbm, ⟨6, _⟩ => ⟨S1x2048, .f32⟩
  | .hbm, ⟨7, _⟩ => ⟨S1x2048, .f32⟩
  | .hbm, ⟨8, _⟩ => ⟨S1x32x64, .f32⟩
  | .hbm, ⟨9, _⟩ => ⟨S1x2048, .f32⟩
  | .hbm, ⟨10, _⟩ => ⟨S1x2048, .f32⟩
  | .hbm, ⟨11, _⟩ => ⟨S128x8x32x64, .f32⟩
  | .hbm, ⟨12, _⟩ => ⟨S128x8x32x64, .f32⟩
  | .hbm, ⟨13, _⟩ => ⟨S128x8x32x64, .f32⟩
  | .hbm, ⟨14, _⟩ => ⟨S128x8x32x64, .f32⟩
  | .hbm, ⟨15, _⟩ => ⟨S128x8x32x64, .f32⟩
  | .hbm, ⟨16, _⟩ => ⟨S2048, .f32⟩
  | .hbm, ⟨17, _⟩ => ⟨S32x64, .f32⟩
  | .hbm, ⟨18, _⟩ => ⟨S2048, .f32⟩
  | .hbm, ⟨19, _⟩ => ⟨S32x64, .f32⟩
  | .hbm, ⟨20, _⟩ => ⟨S1x1x32x64, .f32⟩
  | .hbm, ⟨21, _⟩ => ⟨S128x8x32x64, .f32⟩
  | .hbm, ⟨22, _⟩ => ⟨S128x8x32x64, .f32⟩
  | .hbm, ⟨23, _⟩ => ⟨S128x8x32x64, .f32⟩
  | .hbm, ⟨24, _⟩ => ⟨S_, .f32⟩
  | .hbm, ⟨25, _⟩ => ⟨S128x8x32, .f32⟩
  | .hbm, ⟨26, _⟩ => ⟨S128x8x32x1, .f32⟩
  | .hbm, ⟨27, _⟩ => ⟨S128x8x32x1, .f32⟩
  | .hbm, ⟨28, _⟩ => ⟨S_, .f32⟩
  | .hbm, ⟨29, _⟩ => ⟨S128x8x32x1, .f32⟩
  | .hbm, ⟨30, _⟩ => ⟨S128x8x32x1, .f32⟩
  | .hbm, ⟨31, _⟩ => ⟨S128x8x32x64, .f32⟩
  | .hbm, ⟨32, _⟩ => ⟨S128x8x32x64, .f32⟩
  | .hbm, ⟨33, _⟩ => ⟨S_, .f32⟩
  | .hbm, ⟨34, _⟩ => ⟨S128x8x32x64, .f32⟩
  | .hbm, ⟨35, _⟩ => ⟨S128x8x32x64, .f32⟩
  | .hbm, ⟨36, _⟩ => ⟨S1x1x32x64, .f32⟩
  | .hbm, ⟨37, _⟩ => ⟨S128x8x32x64, .f32⟩
  | .hbm, ⟨38, _⟩ => ⟨S128x8x32x64, .f32⟩
  | .hbm, ⟨39, _⟩ => ⟨S_, .f32⟩
  | .hbm, ⟨40, _⟩ => ⟨S128x8x32x64, .f32⟩
  | .hbm, ⟨41, _⟩ => ⟨S128x8x32x64, .f32⟩
  | .hbm, ⟨42, _⟩ => ⟨S128x8x32x64, .f32⟩
  | .hbm, ⟨43, _⟩ => ⟨S128x32x64x64, .f32⟩
  | .hbm, ⟨44, _⟩ => ⟨S8x128x32x64, .f32⟩
  | .hbm, ⟨45, _⟩ => ⟨S8x128x32x64, .f32⟩
  | .hbm, ⟨46, _⟩ => ⟨S8x128x32x64, .f32⟩
  | .hbm, ⟨47, _⟩ => ⟨S8x128x32x64, .f32⟩
  | .hbm, ⟨48, _⟩ => ⟨S8x128x32x64, .f32⟩
  | .hbm, ⟨49, _⟩ => ⟨S8x128x32x64, .f32⟩
  | .hbm, ⟨50, _⟩ => ⟨S_, .f32⟩
  | .hbm, ⟨51, _⟩ => ⟨S8x128x32x64, .f32⟩
  | .hbm, ⟨52, _⟩ => ⟨S_, .i32⟩
  | .hbm, ⟨53, _⟩ => ⟨S8x128x32x64, .f32⟩
  | .hbm, ⟨54, _⟩ => ⟨S8x128x32x64, .f32⟩
  | .hbm, ⟨55, _⟩ => ⟨S8x128x32x64, .f32⟩
  | .hbm, ⟨56, _⟩ => ⟨S8x128x32x64, .f32⟩
  | .hbm, ⟨57, _⟩ => ⟨S8x128x32x64, .f32⟩
  | .hbm, ⟨58, _⟩ => ⟨S8x128x32x64, .f32⟩
  | .hbm, ⟨59, _⟩ => ⟨S_, .i32⟩
  | .hbm, ⟨60, _⟩ => ⟨S128x32x64x64, .f32⟩
  | .hbm, ⟨61, _⟩ => ⟨S8x128x32x64, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x128x32x64, .f32⟩
  | .hbm, ⟨68, _⟩ => ⟨S128x32x64, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x128x32x64, .f32⟩
  | .hbm, ⟨73, _⟩ => ⟨S128x32x64, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x128x32x64, .f32⟩
  | .hbm, ⟨78, _⟩ => ⟨S128x32x64, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x128x32x64, .f32⟩
  | .hbm, ⟨83, _⟩ => ⟨S128x32x64, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S1x128x32x64, .f32⟩
  | .hbm, ⟨88, _⟩ => ⟨S128x32x64, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S1x128x32x64, .f32⟩
  | .hbm, ⟨93, _⟩ => ⟨S128x32x64, .f32⟩
  | .hbm, ⟨94, _⟩ => ⟨S128x32x64, .f32⟩
  | .hbm, ⟨95, _⟩ => ⟨S128x32x1x64, .f32⟩
  | .hbm, ⟨96, _⟩ => ⟨S128x32x64x64, .f32⟩
  | .hbm, ⟨97, _⟩ => ⟨S128x32x64x64, .f32⟩
  | .hbm, ⟨98, _⟩ => ⟨S128x32x64x1, .f32⟩
  | .hbm, ⟨99, _⟩ => ⟨S128x32x64, .f32⟩
  | .hbm, ⟨100, _⟩ => ⟨S128x32x1x64, .f32⟩
  | .hbm, ⟨101, _⟩ => ⟨S128x32x64x64, .f32⟩
  | .hbm, ⟨102, _⟩ => ⟨S128x32x64x64, .f32⟩
  | .hbm, ⟨103, _⟩ => ⟨S128x32x64x64, .f32⟩
  | .hbm, ⟨104, _⟩ => ⟨S128x32x64x64, .f32⟩
  | .hbm, ⟨105, _⟩ => ⟨S128x32x64x1, .f32⟩
  | .hbm, ⟨106, _⟩ => ⟨S128x32x1x64, .f32⟩
  | .hbm, ⟨107, _⟩ => ⟨S128x32x64x64, .f32⟩
  | .hbm, ⟨108, _⟩ => ⟨S128x32x64x64, .f32⟩
  | .hbm, ⟨109, _⟩ => ⟨S128x32x64x64, .f32⟩
  | .hbm, ⟨110, _⟩ => ⟨S128x32x64x64, .f32⟩
  | .hbm, ⟨111, _⟩ => ⟨S128x32x64, .f32⟩
  | .hbm, ⟨112, _⟩ => ⟨S1x128x32x64, .f32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S8x128x32x64, .f32⟩
  | .hbm, ⟨117, _⟩ => ⟨S_, .i32⟩
  | .hbm, ⟨118, _⟩ => ⟨S_, .i32⟩
  | .hbm, ⟨119, _⟩ => ⟨S128x8x32x64, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_c : Ref sig .tc := ⟨.hbm, 52, rfl⟩
abbrev main_v36_0 : Ref sig .tc := ⟨.hbm, 53, rfl⟩
abbrev main_v36_1 : Ref sig .tc := ⟨.hbm, 54, rfl⟩
abbrev main_v36_2 : Ref sig .tc := ⟨.hbm, 55, rfl⟩
abbrev main_v36_3 : Ref sig .tc := ⟨.hbm, 56, rfl⟩
abbrev main_v36_4 : Ref sig .tc := ⟨.hbm, 57, rfl⟩
abbrev main_v36_5 : Ref sig .tc := ⟨.hbm, 58, rfl⟩
abbrev main_v36_6 : Ref sig .tc := ⟨.hbm, 59, rfl⟩
abbrev main_v36_7 : Ref sig .tc := ⟨.hbm, 60, rfl⟩
abbrev main_v36_8 : Ref sig .tc := ⟨.hbm, 61, rfl⟩
abbrev main_while0c_c_12 : Ref sig .tc := ⟨.hbm, 62, rfl⟩
abbrev main_while0c_v38 : Ref sig .tc := ⟨.hbm, 63, rfl⟩
abbrev main_while0b_call0_c : Ref sig .tc := ⟨.hbm, 64, rfl⟩
abbrev main_while0b_call0_c_0 : Ref sig .tc := ⟨.hbm, 65, rfl⟩
abbrev main_while0b_call0_c_1 : Ref sig .tc := ⟨.hbm, 66, rfl⟩
abbrev main_while0b_call0_v0 : Ref sig .tc := ⟨.hbm, 67, rfl⟩
abbrev main_while0b_v38 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_v0 : Ref sig .tc := ⟨.hbm, 72, rfl⟩
abbrev main_while0b_v39 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_v0 : Ref sig .tc := ⟨.hbm, 77, rfl⟩
abbrev main_while0b_v40 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_v0 : Ref sig .tc := ⟨.hbm, 82, rfl⟩
abbrev main_while0b_v41 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_v0 : Ref sig .tc := ⟨.hbm, 87, rfl⟩
abbrev main_while0b_v42 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_v0 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_call6_v0 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_v62 : Ref sig .tc := ⟨.hbm, 116, rfl⟩
abbrev main_while0b_c_12 : Ref sig .tc := ⟨.hbm, 117, rfl⟩
abbrev main_while0b_v63 : Ref sig .tc := ⟨.hbm, 118, rfl⟩
abbrev main_v37 : Ref sig .tc := ⟨.hbm, 119, rfl⟩

abbrev nD : Nat := 1
abbrev τ : Topo := Topo.v7x

variable {F : FTy → Type} [FloatOps F]

abbrev main_while0_count : Scf.Loop 32 := ⟨0#32, 8#32, 1#32⟩
-- ==== Proof.Blocks.lean ====
/-
  The layer's block operations over the extended reals, written by rows and columns, at any number of rows: the
  normalisation by the root of the mean square, the gated product, and what the kernels store, shown to be these.
-/
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Layer

open Idealize.ShloMosaic Idealize.ShloMosaic.ValueIdx

/-- A matrix of extended reals: one value at each row and column. -/
abbrev Mat (m n : ℕ) : Type := (⟨2, ![m, n]⟩ : Shape).Idx → EReal

variable {m m' n n' k : ℕ}

/-- One over the root of the mean square of row `r`, the layer's small constant added to the mean. -/
def rowScale (x : Mat m 4096) (r : Fin m) : EReal :=
  Ideal.rsqrt (Ideal.div (∑ c : Fin 4096, x (ix2 r c) * x (ix2 r c)) (Ideal.ofBits .f32 0x45800000#32)
    + Ideal.ofBits .f32 0x358637BD#32)

/-- Each row scaled to mean square one, then each column by its gain. -/
def rms (x : Mat m 4096) (g : Mat 1 4096) : Mat m 4096 := fun i =>
  x i * rowScale x (i 0) * g (ix2 0 (i 1))

/-- Row `r` of `x` against row `c` of `w`. -/
def rowRow (x : Mat m k) (w : Mat n k) (r : Fin m) (c : Fin n) : EReal := ∑ j : Fin k, x (ix2 r j) * w (ix2 c j)

/-- Row `r` of `x` against column `c` of `w`. -/
def rowCol (x : Mat m k) (w : Mat k n) (r : Fin m) (c : Fin n) : EReal := ∑ j : Fin k, x (ix2 r j) * w (ix2 j c)

/-- The coordinate `o + y` of an axis of `M`, for `y` below `b`. -/
abbrev shift {b M : ℕ} (o : ℕ) (y : Fin b) (h : o + b ≤ M) : Fin M := ⟨o + y.val, by omega⟩

/-- The gated product: each row of `x` against row `6592 + c` of `w`, by the logistic of it against row `8640 + c`. -/
def glu (x : Mat m 4096) (w : Mat 10688 4096) : Mat m 2048 := fun i =>
  rowRow x w (i 0) (shift (b := 2048) 6592 (i 1) (by decide))
    * Ideal.logistic (rowRow x w (i 0) (shift (b := 2048) 8640 (i 1) (by decide)))

/-- Two functions of a matrix index that agree at every row and column are equal. -/
theorem mat_ext {α : Type} {f g : (⟨2, ![m, n]⟩ : Shape).Idx → α} (h : ∀ r c, f (ix2 r c) = g (ix2 r c)) : f = g :=
  funext fun i => (congrArg f (eq_ix2 i)).trans ((h (i 0) (i 1)).trans (congrArg g (eq_ix2 i)).symm)

/-- A sum over the columns of a matrix, read at a row. -/
theorem sum_row (x : FVec Ideal ⟨2, ![m, n]⟩ .f32) (h : Shape.Reduces ⟨2, ![m, n]⟩ [1] ⟨1, ![m]⟩)
    (hφ : FKind.Formats .f32) (hacc : (0x00000000#32 : BitVec 32) = FKind.add.neutral .f32 hφ) (r : Fin m) :
    multiReduction .add [1] ⟨1, ![m]⟩ x 0x00000000#32 h hφ hacc (ix1 r) = ∑ c : Fin n, x (ix2 r c) := by
  refine (Ideal.multiReduction_add_single x _ h hφ hacc (ix1 r)).trans (Finset.sum_congr rfl fun c _ => congrArg x ?_)
  exact Shape.idx_ext₂ rfl rfl

/-- A column spread over all columns, read at an index. -/
theorem spread_col {α : Type} (v : (⟨2, ![m, 1]⟩ : Shape).Idx → α) (h : (⟨2, ![m, 1]⟩ : Shape).Broadcasts ⟨2, ![m, n]⟩)
    (i : (⟨2, ![m, n]⟩ : Shape).Idx) : broadcastTo ⟨2, ![m, n]⟩ v h i = v (ix2 (i 0) 0) := by
  refine broadcastTo_apply v h i _ fun a => ?_
  match a with
  | ⟨0, _⟩ =>
    have : (i 0).val < m := (i 0).isLt
    by_cases h1 : m = 1
    · subst h1; simpa using this
    · simp [h1]
  | ⟨1, _⟩ => simp

/-- What the normalising kernels store is `rms` of what they load. -/
theorem rms_stored (x : FVec Ideal ⟨2, ![m, 4096]⟩ .f32) (g : FVec Ideal ⟨2, ![1, 4096]⟩ .f32)
    (h1 : Shape.Reduces ⟨2, ![m, 4096]⟩ [1] ⟨1, ![m]⟩) (hφ : FKind.Formats .f32)
    (hacc : (0x00000000#32 : BitVec 32) = FKind.add.neutral .f32 hφ)
    (h2 : (⟨1, ![m]⟩ : Shape).ShapeCasts ⟨2, ![m, 1]⟩) (h3 : (⟨2, ![m, 1]⟩ : Shape).Broadcasts ⟨2, ![m, 4096]⟩)
    (h4 : (⟨2, ![1, 4096]⟩ : Shape).Broadcasts ⟨2, ![m, 4096]⟩)
    (h5 : (⟨2, ![m, 4096]⟩ : Shape).ShapeCasts ⟨2, ![m, 4096]⟩) (h6 : (⟨2, ![1, 4096]⟩ : Shape).ShapeCasts ⟨2, ![1, 4096]⟩) :
    mulf (mulf (shapeCast ⟨2, ![m, 4096]⟩ x h5) (broadcastTo ⟨2, ![m, 4096]⟩ (rsqrt (addf (divf (shapeCast ⟨2, ![m, 1]⟩
      (multiReduction .add [1] ⟨1, ![m]⟩ (mulf (shapeCast ⟨2, ![m, 4096]⟩ x h5) (shapeCast ⟨2, ![m, 4096]⟩ x h5)) 0x00000000#32 h1 hφ hacc) h2)
      (broadcast ⟨2, ![m, 1]⟩ (Scalar.ofBits (F := Ideal) .f32 0x45800000#32)))
      (broadcast ⟨2, ![m, 1]⟩ (Scalar.ofBits (F := Ideal) .f32 0x358637BD#32)))) h3))
      (broadcastTo ⟨2, ![m, 4096]⟩ (shapeCast ⟨2, ![1, 4096]⟩ g h6) h4) = rms x g := by
  rw [shapeCast_self, shapeCast_self]
  refine mat_ext fun r c => congrArg₂ (· * ·) (congrArg (x (ix2 r c) * ·) ?_) (broadcastTo_1b_ab_apply g h4 r c)
  refine (spread_col _ h3 (ix2 r c)).trans (congrArg Ideal.rsqrt (congrArg (· + _) (congrArg (Ideal.div · _) ?_)))
  exact (shapeCast_a_a1_apply _ h2 r 0).trans (sum_row _ h1 hφ hacc r)

/-- The normalisation at a row and column depends on that row alone. -/
theorem rms_row {x : Mat m 4096} {x' : Mat m' 4096} {r : Fin m} {r' : Fin m'} (g : Mat 1 4096) (c : Fin 4096)
    (hx : ∀ c, x (ix2 r c) = x' (ix2 r' c)) : rms x g (ix2 r c) = rms x' g (ix2 r' c) := by
  have e : rowScale x r = rowScale x' r' := by unfold rowScale; simp only [hx]
  exact congrArg₂ (· * ·) (congrArg₂ (· * ·) (hx c) e) rfl

/-- A row against a row depends on those rows alone. -/
theorem rowRow_congr {x : Mat m k} {x' : Mat m' k} {w : Mat n k} {w' : Mat n' k} {r : Fin m} {r' : Fin m'} {c : Fin n}
    {c' : Fin n'} (hx : ∀ j, x (ix2 r j) = x' (ix2 r' j)) (hw : ∀ j, w (ix2 c j) = w' (ix2 c' j)) :
    rowRow x w r c = rowRow x' w' r' c' := by unfold rowRow; simp only [hx, hw]

/-- A row against a column depends on that row and that column alone. -/
theorem rowCol_congr {x : Mat m k} {x' : Mat m' k} {w : Mat k n} {w' : Mat k n'} {r : Fin m} {r' : Fin m'} {c : Fin n}
    {c' : Fin n'} (hx : ∀ j, x (ix2 r j) = x' (ix2 r' j)) (hw : ∀ j, w (ix2 j c) = w' (ix2 j c')) :
    rowCol x w r c = rowCol x' w' r' c' := by unfold rowCol; simp only [hx, hw]

/-! ## What the kernels with products store -/

section Products

variable (x : FVec Ideal ⟨2, ![m, k]⟩ .bf16) (hx : (⟨2, ![m, k]⟩ : Shape).ShapeCasts ⟨2, ![m, k]⟩)

/-- A product against the rows of a rounded matrix, from nothing. -/
theorem product_rows (w : FVec Ideal ⟨2, ![n, k]⟩ .f32) (hw : (⟨2, ![n, k]⟩ : Shape).ShapeCasts ⟨2, ![n, k]⟩)
    (hb : FTy.bits .bf16 < FTy.bits .f32) (r : Fin m) (c : Fin n) :
    FloatOps.matmul (DotDims.transposedRhs m k n) none (shapeCast ⟨2, ![m, k]⟩ x hx)
      (truncf (F := Ideal) .bf16 (shapeCast ⟨2, ![n, k]⟩ w hw) hb) (constant (F := Ideal) ⟨2, ![m, n]⟩ .f32 0x00000000#32) (ix2 r c)
      = rowRow x w r c := by
  rw [Ideal.matmul_transposedRhs_apply, shapeCast_self, shapeCast_self, constant_apply, Ideal.ofBits_zero_f32, zero_add]
  rfl

/-- A product against the columns of a matrix, from nothing. -/
theorem product_cols (w : FVec Ideal ⟨2, ![k, n]⟩ .bf16) (hw : (⟨2, ![k, n]⟩ : Shape).ShapeCasts ⟨2, ![k, n]⟩)
    (r : Fin m) (c : Fin n) :
    FloatOps.matmul (DotDims.plain m k n) none (shapeCast ⟨2, ![m, k]⟩ x hx)
      (shapeCast ⟨2, ![k, n]⟩ w hw) (constant (F := Ideal) ⟨2, ![m, n]⟩ .f32 0x00000000#32) (ix2 r c)
      = rowCol x w r c := by
  rw [Ideal.matmul_plain_apply, shapeCast_self, shapeCast_self, constant_apply, Ideal.ofBits_zero_f32, zero_add]
  rfl

/-- A product against the columns of a rounded matrix, from nothing. -/
theorem product_cols_rounded (w : FVec Ideal ⟨2, ![k, n]⟩ .f32) (hw : (⟨2, ![k, n]⟩ : Shape).ShapeCasts ⟨2, ![k, n]⟩)
    (hb : FTy.bits .bf16 < FTy.bits .f32) (r : Fin m) (c : Fin n) :
    FloatOps.matmul (DotDims.plain m k n) none (shapeCast ⟨2, ![m, k]⟩ x hx)
      (truncf (F := Ideal) .bf16 (shapeCast ⟨2, ![k, n]⟩ w hw) hb) (constant (F := Ideal) ⟨2, ![m, n]⟩ .f32 0x00000000#32) (ix2 r c)
      = rowCol x w r c := by
  rw [Ideal.matmul_plain_apply, shapeCast_self, shapeCast_self, constant_apply, Ideal.ofBits_zero_f32, zero_add]
  rfl

end Products

/-- What the gated in-projection stores: the product against one block of rows, by the logistic of the product against another. -/
theorem glu_stored (x : FVec Ideal ⟨2, ![m, k]⟩ .bf16) (wv wg : FVec Ideal ⟨2, ![n, k]⟩ .f32)
    (hx : (⟨2, ![m, k]⟩ : Shape).ShapeCasts ⟨2, ![m, k]⟩) (hw : (⟨2, ![n, k]⟩ : Shape).ShapeCasts ⟨2, ![n, k]⟩)
    (hb : FTy.bits .bf16 < FTy.bits .f32) (hb' : FTy.bits .bf16 < FTy.bits .f32) (r : Fin m) (c : Fin n) :
    mulf (FloatOps.matmul (DotDims.transposedRhs m k n) none (shapeCast ⟨2, ![m, k]⟩ x hx)
        (truncf (F := Ideal) .bf16 (shapeCast ⟨2, ![n, k]⟩ wv hw) hb) (constant (F := Ideal) ⟨2, ![m, n]⟩ .f32 0x00000000#32))
      (logistic (FloatOps.matmul (DotDims.transposedRhs m k n) none (shapeCast ⟨2, ![m, k]⟩ x hx)
        (truncf (F := Ideal) .bf16 (shapeCast ⟨2, ![n, k]⟩ wg hw) hb') (constant (F := Ideal) ⟨2, ![m, n]⟩ .f32 0x00000000#32))) (ix2 r c)
      = rowRow x wv r c * Ideal.logistic (rowRow x wg r c) :=
  congrArg₂ (· * ·) (product_rows x hx wv hw hb r c) (congrArg Ideal.logistic (product_rows x hx wg hw hb' r c))

/-! ## The blocks of a pipelined call -/

section Windows

open Idealize.ShloMosaic.Pipeline (Dat Window Cfg)

variable {sig : RefSig} {G : Pipeline.Grid}

/-- Where the window's block at point `t` starts on axis `a` of its array. -/
abbrev start (w : Window sig G) (t : Fin G.N) (a : Fin w.shape.rank) : ℕ := w.kind.off (w.index t a) (w.size a)

/-- On an axis where the block starts at `o`, the block's coordinate `y` is the array's `o + y`. -/
theorem emb_add (w : Window sig G) (t : Fin G.N) (y : (w.xblock (G.coords t)).Idx) (a : Fin w.shape.rank) {o : ℕ}
    (h : start w t a = o) : ((w.rect t).emb y a : ℕ) = o + y a := (w.rect_emb_val_off t y a).trans (congrArg (· + (y a : ℕ)) h)

/-- On an axis where the block starts at zero, the coordinates are the same. -/
theorem emb_zero (w : Window sig G) (t : Fin G.N) (y : (w.xblock (G.coords t)).Idx) (a : Fin w.shape.rank)
    (h : start w t a = 0) : ((w.rect t).emb y a : ℕ) = y a := (emb_add w t y a h).trans (Nat.zero_add _)

end Windows

/-- Every number below `A * B` lies in one of `A` stretches of `B`. -/
theorem stretch {A B i : ℕ} (hi : i < A * B) : ∃ t < A, ∃ r < B, t * B + r = i := by
  have hB : 0 < B := Nat.pos_of_ne_zero fun h => by subst h; omega
  exact ⟨i / B, Nat.div_lt_of_lt_mul (by rwa [Nat.mul_comm]), i % B, Nat.mod_lt _ hB, Nat.div_add_mod' i B⟩

/-- Every pair below `A * B` and `b * C` lies in one of the `A * b` tiles, taken row of tiles by row of tiles. -/
theorem tile {A b B C i j : ℕ} (hi : i < A * B) (hj : j < b * C) :
    ∃ t < A * b, ∃ r < B, ∃ c < C, t / b * B + r = i ∧ t % b * C + c = j := by
  obtain ⟨p, hp, r, hr, e0⟩ := stretch hi
  obtain ⟨q, hq, c, hc, e1⟩ := stretch hj
  have hd : (p * b + q) / b = p := by
    rw [Nat.mul_comm, Nat.mul_add_div (by omega), Nat.div_eq_of_lt hq, Nat.add_zero]
  have hm : (p * b + q) % b = q := by rw [Nat.mul_comm, Nat.mul_add_mod, Nat.mod_eq_of_lt hq]
  refine ⟨p * b + q, ?_, r, hr, c, hc, by rw [hd]; exact e0, by rw [hm]; exact e1⟩
  calc p * b + q < p * b + b := by omega
    _ = (p + 1) * b := by ring
    _ ≤ A * b := Nat.mul_le_mul_right _ hp

end Layer
-- ==== Proof.MixRegions.lean ====
/-
  What each call of the mixing half leaves in its result array, as a function of the arrays it reads.
-/
module

public import proofs.«01_k».proof.Proof.Gen.MixIdeal.Frame
public import proofs.«01_k».proof.Proof.Blocks

@[expose] public section

set_option maxRecDepth 16384

noncomputable section

namespace Cert.MixIdeal.Regions

open Idealize.ShloMosaic Idealize.ShloMosaic.TcCoe Idealize.SL.Sem Idealize.ShloMosaic.ValueIdx
open Idealize.ShloMosaic.Pipeline (Dat Window)
open Cert.MixIdeal Cert.MixIdeal.Gen Layer

variable (V : (c : Dev nD) → (b : Ref sig .tc) → Buf (Elt Ideal) ((c : Thread nD τ).loc b))

theorem hz : (![0, 0] : Fin 2 → Nat) = fun _ => 0 := funext fun a => by fin_cases a <;> rfl

/-! ## The norm before the in-projection, at the prompt -/

/-- Where the blocks start. -/
theorem start0 : ∀ t : Fin grid0.N, (start win0_0 t 0 = t.val * 512 ∧ start win0_0 t 1 = 0)
    ∧ (start win0_1 t 0 = 0 ∧ start win0_1 t 1 = 0) ∧ (start win0_2 t 0 = t.val * 512 ∧ start win0_2 t 1 = 0) := by decide +kernel

/-- The array row that row `r` of block `t` is. -/
abbrev row0 (t : Fin grid0.N) (r : Fin 512) : Fin 8192 := shift (t.val * 512) r (by have := Nat.lt_of_lt_of_eq t.isLt N_0; omega)

/-- The block of rows at point `t`. -/
theorem in0_0 (c : Dev nD) (t : Fin grid0.N) (r : Fin 512) (j : Fin 4096) :
    iblk0 V c 0 t (ix2 r j) = V c main_v3 (ix2 (row0 t r) j) :=
  congrArg (V c main_v3) (Shape.idx_ext₂ (emb_add win0_0 t _ 0 (start0 t).1.1) (emb_zero win0_0 t _ 1 (start0 t).1.2))

/-- The gain, whole at every point. -/
theorem in0_1 (c : Dev nD) (t : Fin grid0.N) : iblk0 V c 1 t = V c main_v4 :=
  mat_ext fun _ _ => congrArg (V c main_v4)
    (Shape.idx_ext₂ (emb_zero win0_1 t _ 0 (start0 t).2.1.1) (emb_zero win0_1 t _ 1 (start0 t).2.1.2))

/-- Where an element of the result's block lies. -/
theorem out0 (t : Fin grid0.N) (r : Fin 512) (j : Fin 4096) : (win0_2.rect t).emb (ix2 r j) = ix2 (row0 t r) j :=
  Shape.idx_ext₂ (emb_add win0_2 t _ 0 (start0 t).2.2.1) (emb_zero win0_2 t _ 1 (start0 t).2.2.2)

/-- The result array is the normalised rows. -/
theorem final0 (c : Dev nD) : (dat0 V c).arrAt 2 cfg0.N = rms (V c main_v3) (V c main_v4) := by
  refine Dat.arrAt_eq_of_cover _ 2 _ (fun t _ => ?_) (fun i => ?_)
  · show (cfg0.win 2).cut (grid0.coords t) ((dat0 V c).after 2 t) = _
    rw [after0_2]
    unfold out0_2
    rw [View.canon_unit_zero hz, View.ld_unit_zero hz, View.ld_unit_zero hz, in0_1]
    refine (rms_stored (m := 512) _ _ _ _ _ _ _ _ _ _).trans (mat_ext fun r j => (rms_row _ j fun j => in0_0 V c t r j).trans ?_)
    exact congrArg (rms (V c main_v3) (V c main_v4)) (out0 t r j).symm
  · obtain ⟨t, ht, r, hr, e⟩ := stretch (A := 16) (B := 512) (i 0).isLt
    let t' : Fin grid0.N := ⟨t, ht.trans_eq N_0.symm⟩
    have e' : (win0_2.rect t').emb (ix2 (⟨r, hr⟩ : Fin 512) (⟨(i 1 : ℕ), (i 1).isLt⟩ : Fin 4096)) = i :=
      (out0 t' ⟨r, hr⟩ _).trans (Shape.idx_ext₂ e rfl)
    exact ⟨t', flush0_2 t', Finset.mem_map.mpr ⟨_, Finset.mem_univ _, e'⟩⟩

/-! ## The gated in-projection, at the prompt -/

/-- Where the blocks start: the two blocks of the weight's rows at an element offset of their own. -/
theorem start1 : ∀ t : Fin grid1.N, (start win1_0 t 0 = t.val / 8 * 2048 ∧ start win1_0 t 1 = 0)
    ∧ (start win1_1 t 0 = 6592 + t.val % 8 * 256 ∧ start win1_1 t 1 = 0)
    ∧ (start win1_2 t 0 = 8640 + t.val % 8 * 256 ∧ start win1_2 t 1 = 0)
    ∧ (start win1_3 t 0 = t.val / 8 * 2048 ∧ start win1_3 t 1 = t.val % 8 * 256) := by decide +kernel

/-- The array row that row `r` of block `t` is. -/
abbrev row1 (t : Fin grid1.N) (r : Fin 2048) : Fin 8192 := shift (t.val / 8 * 2048) r (by have := Nat.lt_of_lt_of_eq t.isLt N_1; omega)

/-- The array column that column `j` of block `t` is. -/
abbrev col1 (t : Fin grid1.N) (j : Fin 256) : Fin 2048 := shift (t.val % 8 * 256) j (by omega)

/-- The block of rows at point `t`. -/
theorem in1_0 (c : Dev nD) (t : Fin grid1.N) (r : Fin 2048) (j : Fin 4096) :
    iblk1 V c 0 t (ix2 r j) = V c main_v5 (ix2 (row1 t r) j) :=
  congrArg (V c main_v5) (Shape.idx_ext₂ (emb_add win1_0 t _ 0 (start1 t).1.1) (emb_zero win1_0 t _ 1 (start1 t).1.2))

/-- The block of the weight's value rows. -/
theorem in1_1 (c : Dev nD) (t : Fin grid1.N) (r : Fin 256) (j : Fin 4096) :
    iblk1 V c 1 t (ix2 r j) = V c main_v2 (ix2 (shift 6592 (col1 t r) (by decide)) j) :=
  congrArg (V c main_v2) (Shape.idx_ext₂ ((emb_add win1_1 t _ 0 (start1 t).2.1.1).trans (Nat.add_assoc _ _ _))
    (emb_zero win1_1 t _ 1 (start1 t).2.1.2))

/-- The block of the weight's gate rows. -/
theorem in1_2 (c : Dev nD) (t : Fin grid1.N) (r : Fin 256) (j : Fin 4096) :
    iblk1 V c 2 t (ix2 r j) = V c main_v2 (ix2 (shift 8640 (col1 t r) (by decide)) j) :=
  congrArg (V c main_v2) (Shape.idx_ext₂ ((emb_add win1_2 t _ 0 (start1 t).2.2.1.1).trans (Nat.add_assoc _ _ _))
    (emb_zero win1_2 t _ 1 (start1 t).2.2.1.2))

/-- Where an element of the result's block lies. -/
theorem out1 (t : Fin grid1.N) (r : Fin 2048) (j : Fin 256) : (win1_3.rect t).emb (ix2 r j) = ix2 (row1 t r) (col1 t j) :=
  Shape.idx_ext₂ (emb_add win1_3 t _ 0 (start1 t).2.2.2.1) (emb_add win1_3 t _ 1 (start1 t).2.2.2.2)

/-- The result array is the gated product. -/
theorem final1 (c : Dev nD) : (dat1 V c).arrAt 3 cfg1.N = glu (m := 8192) (V c main_v5) (V c main_v2) := by
  refine Dat.arrAt_eq_of_cover _ 3 _ (fun t _ => ?_) (fun i => ?_)
  · show (cfg1.win 3).cut (grid1.coords t) ((dat1 V c).after 3 t) = _
    rw [after1_3]
    unfold out1_3
    rw [View.canon_unit_zero hz, View.ld_unit_zero hz, View.ld_unit_zero hz, View.ld_unit_zero hz]
    refine mat_ext fun r j => (glu_stored (m := 2048) _ _ _ _ _ _ _ r j).trans ?_
    refine (congrArg₂ (· * ·) (rowRow_congr (in1_0 V c t r) (in1_1 V c t j))
      (congrArg Ideal.logistic (rowRow_congr (in1_0 V c t r) (in1_2 V c t j)))).trans ?_
    exact congrArg (glu (m := 8192) (V c main_v5) (V c main_v2)) (out1 t r j).symm
  · obtain ⟨t, ht, r, hr, j, hj, e0, e1⟩ := tile (A := 4) (b := 8) (B := 2048) (C := 256) (i 0).isLt (i 1).isLt
    let t' : Fin grid1.N := ⟨t, ht.trans_eq N_1.symm⟩
    have e' : (win1_3.rect t').emb (ix2 (⟨r, hr⟩ : Fin 2048) (⟨j, hj⟩ : Fin 256)) = i :=
      (out1 t' ⟨r, hr⟩ ⟨j, hj⟩).trans (Shape.idx_ext₂ e0 e1)
    exact ⟨t', flush1_3 t', Finset.mem_map.mpr ⟨_, Finset.mem_univ _, e'⟩⟩

/-! ## The norm of the last rows, at the prompt -/

/-- Where the blocks start. -/
theorem start2 : ∀ t : Fin grid2.N, (start win2_0 t 0 = t.val * 4 ∧ start win2_0 t 1 = 0)
    ∧ (start win2_1 t 0 = 0 ∧ start win2_1 t 1 = 0) ∧ (start win2_2 t 0 = t.val * 4 ∧ start win2_2 t 1 = 0) := by decide +kernel

/-- The array row that row `r` of block `t` is. -/
abbrev row2 (t : Fin grid2.N) (r : Fin 4) : Fin 4 := shift (t.val * 4) r (by have := Nat.lt_of_lt_of_eq t.isLt N_2; omega)

/-- The block of rows at point `t`. -/
theorem in2_0 (c : Dev nD) (t : Fin grid2.N) (r : Fin 4) (j : Fin 4096) :
    iblk2 V c 0 t (ix2 r j) = V c main_v8 (ix2 (row2 t r) j) :=
  congrArg (V c main_v8) (Shape.idx_ext₂ (emb_add win2_0 t _ 0 (start2 t).1.1) (emb_zero win2_0 t _ 1 (start2 t).1.2))

/-- The gain, whole at every point. -/
theorem in2_1 (c : Dev nD) (t : Fin grid2.N) : iblk2 V c 1 t = V c main_v9 :=
  mat_ext fun _ _ => congrArg (V c main_v9)
    (Shape.idx_ext₂ (emb_zero win2_1 t _ 0 (start2 t).2.1.1) (emb_zero win2_1 t _ 1 (start2 t).2.1.2))

/-- Where an element of the result's block lies. -/
theorem out2 (t : Fin grid2.N) (r : Fin 4) (j : Fin 4096) : (win2_2.rect t).emb (ix2 r j) = ix2 (row2 t r) j :=
  Shape.idx_ext₂ (emb_add win2_2 t _ 0 (start2 t).2.2.1) (emb_zero win2_2 t _ 1 (start2 t).2.2.2)

/-- The result array is the normalised rows. -/
theorem final2 (c : Dev nD) : (dat2 V c).arrAt 2 cfg2.N = rms (V c main_v8) (V c main_v9) := by
  refine Dat.arrAt_eq_of_cover _ 2 _ (fun t _ => ?_) (fun i => ?_)
  · show (cfg2.win 2).cut (grid2.coords t) ((dat2 V c).after 2 t) = _
    rw [after2_2]
    unfold out2_2
    rw [View.canon_unit_zero hz, View.ld_unit_zero hz, View.ld_unit_zero hz, in2_1]
    refine (rms_stored (m := 4) _ _ _ _ _ _ _ _ _ _).trans (mat_ext fun r j => (rms_row _ j fun j => in2_0 V c t r j).trans ?_)
    exact congrArg (rms (V c main_v8) (V c main_v9)) (out2 t r j).symm
  · obtain ⟨t, ht, r, hr, e⟩ := stretch (A := 1) (B := 4) (i 0).isLt
    let t' : Fin grid2.N := ⟨t, ht.trans_eq N_2.symm⟩
    have e' : (win2_2.rect t').emb (ix2 (⟨r, hr⟩ : Fin 4) (⟨(i 1 : ℕ), (i 1).isLt⟩ : Fin 4096)) = i :=
      (out2 t' ⟨r, hr⟩ _).trans (Shape.idx_ext₂ e rfl)
    exact ⟨t', flush2_2 t', Finset.mem_map.mpr ⟨_, Finset.mem_univ _, e'⟩⟩

/-! ## The norm before the in-projection, at the samples -/

/-- Where the blocks start. -/
theorem start3 : ∀ t : Fin grid3.N, (start win3_0 t 0 = t.val * 512 ∧ start win3_0 t 1 = 0)
    ∧ (start win3_1 t 0 = 0 ∧ start win3_1 t 1 = 0) ∧ (start win3_2 t 0 = t.val * 512 ∧ start win3_2 t 1 = 0) := by decide +kernel

/-- The array row that row `r` of block `t` is. -/
abbrev row3 (t : Fin grid3.N) (r : Fin 512) : Fin 1024 := shift (t.val * 512) r (by have := Nat.lt_of_lt_of_eq t.isLt N_3; omega)

/-- The block of rows at point `t`. -/
theorem in3_0 (c : Dev nD) (t : Fin grid3.N) (r : Fin 512) (j : Fin 4096) :
    iblk3 V c 0 t (ix2 r j) = V c main_v14 (ix2 (row3 t r) j) :=
  congrArg (V c main_v14) (Shape.idx_ext₂ (emb_add win3_0 t _ 0 (start3 t).1.1) (emb_zero win3_0 t _ 1 (start3 t).1.2))

/-- The gain, whole at every point. -/
theorem in3_1 (c : Dev nD) (t : Fin grid3.N) : iblk3 V c 1 t = V c main_v15 :=
  mat_ext fun _ _ => congrArg (V c main_v15)
    (Shape.idx_ext₂ (emb_zero win3_1 t _ 0 (start3 t).2.1.1) (emb_zero win3_1 t _ 1 (start3 t).2.1.2))

/-- Where an element of the result's block lies. -/
theorem out3 (t : Fin grid3.N) (r : Fin 512) (j : Fin 4096) : (win3_2.rect t).emb (ix2 r j) = ix2 (row3 t r) j :=
  Shape.idx_ext₂ (emb_add win3_2 t _ 0 (start3 t).2.2.1) (emb_zero win3_2 t _ 1 (start3 t).2.2.2)

/-- The result array is the normalised rows. -/
theorem final3 (c : Dev nD) : (dat3 V c).arrAt 2 cfg3.N = rms (V c main_v14) (V c main_v15) := by
  refine Dat.arrAt_eq_of_cover _ 2 _ (fun t _ => ?_) (fun i => ?_)
  · show (cfg3.win 2).cut (grid3.coords t) ((dat3 V c).after 2 t) = _
    rw [after3_2]
    unfold out3_2
    rw [View.canon_unit_zero hz, View.ld_unit_zero hz, View.ld_unit_zero hz, in3_1]
    refine (rms_stored (m := 512) _ _ _ _ _ _ _ _ _ _).trans (mat_ext fun r j => (rms_row _ j fun j => in3_0 V c t r j).trans ?_)
    exact congrArg (rms (V c main_v14) (V c main_v15)) (out3 t r j).symm
  · obtain ⟨t, ht, r, hr, e⟩ := stretch (A := 2) (B := 512) (i 0).isLt
    let t' : Fin grid3.N := ⟨t, ht.trans_eq N_3.symm⟩
    have e' : (win3_2.rect t').emb (ix2 (⟨r, hr⟩ : Fin 512) (⟨(i 1 : ℕ), (i 1).isLt⟩ : Fin 4096)) = i :=
      (out3 t' ⟨r, hr⟩ _).trans (Shape.idx_ext₂ e rfl)
    exact ⟨t', flush3_2 t', Finset.mem_map.mpr ⟨_, Finset.mem_univ _, e'⟩⟩

/-! ## The gated in-projection, at the samples -/

/-- Where the blocks start: the two blocks of the weight's rows at an element offset of their own. -/
theorem start4 : ∀ t : Fin grid4.N, (start win4_0 t 0 = t.val / 8 * 1024 ∧ start win4_0 t 1 = 0)
    ∧ (start win4_1 t 0 = 6592 + t.val % 8 * 256 ∧ start win4_1 t 1 = 0)
    ∧ (start win4_2 t 0 = 8640 + t.val % 8 * 256 ∧ start win4_2 t 1 = 0)
    ∧ (start win4_3 t 0 = t.val / 8 * 1024 ∧ start win4_3 t 1 = t.val % 8 * 256) := by decide +kernel

/-- The array row that row `r` of block `t` is. -/
abbrev row4 (t : Fin grid4.N) (r : Fin 1024) : Fin 1024 := shift (t.val / 8 * 1024) r (by have := Nat.lt_of_lt_of_eq t.isLt N_4; omega)

/-- The array column that column `j` of block `t` is. -/
abbrev col4 (t : Fin grid4.N) (j : Fin 256) : Fin 2048 := shift (t.val % 8 * 256) j (by omega)

/-- The block of rows at point `t`. -/
theorem in4_0 (c : Dev nD) (t : Fin grid4.N) (r : Fin 1024) (j : Fin 4096) :
    iblk4 V c 0 t (ix2 r j) = V c main_v16 (ix2 (row4 t r) j) :=
  congrArg (V c main_v16) (Shape.idx_ext₂ (emb_add win4_0 t _ 0 (start4 t).1.1) (emb_zero win4_0 t _ 1 (start4 t).1.2))

/-- The block of the weight's value rows. -/
theorem in4_1 (c : Dev nD) (t : Fin grid4.N) (r : Fin 256) (j : Fin 4096) :
    iblk4 V c 1 t (ix2 r j) = V c main_v2 (ix2 (shift 6592 (col4 t r) (by decide)) j) :=
  congrArg (V c main_v2) (Shape.idx_ext₂ ((emb_add win4_1 t _ 0 (start4 t).2.1.1).trans (Nat.add_assoc _ _ _))
    (emb_zero win4_1 t _ 1 (start4 t).2.1.2))

/-- The block of the weight's gate rows. -/
theorem in4_2 (c : Dev nD) (t : Fin grid4.N) (r : Fin 256) (j : Fin 4096) :
    iblk4 V c 2 t (ix2 r j) = V c main_v2 (ix2 (shift 8640 (col4 t r) (by decide)) j) :=
  congrArg (V c main_v2) (Shape.idx_ext₂ ((emb_add win4_2 t _ 0 (start4 t).2.2.1.1).trans (Nat.add_assoc _ _ _))
    (emb_zero win4_2 t _ 1 (start4 t).2.2.1.2))

/-- Where an element of the result's block lies. -/
theorem out4 (t : Fin grid4.N) (r : Fin 1024) (j : Fin 256) : (win4_3.rect t).emb (ix2 r j) = ix2 (row4 t r) (col4 t j) :=
  Shape.idx_ext₂ (emb_add win4_3 t _ 0 (start4 t).2.2.2.1) (emb_add win4_3 t _ 1 (start4 t).2.2.2.2)

/-- The result array is the gated product. -/
theorem final4 (c : Dev nD) : (dat4 V c).arrAt 3 cfg4.N = glu (m := 1024) (V c main_v16) (V c main_v2) := by
  refine Dat.arrAt_eq_of_cover _ 3 _ (fun t _ => ?_) (fun i => ?_)
  · show (cfg4.win 3).cut (grid4.coords t) ((dat4 V c).after 3 t) = _
    rw [after4_3]
    unfold out4_3
    rw [View.canon_unit_zero hz, View.ld_unit_zero hz, View.ld_unit_zero hz, View.ld_unit_zero hz]
    refine mat_ext fun r j => (glu_stored (m := 1024) _ _ _ _ _ _ _ r j).trans ?_
    refine (congrArg₂ (· * ·) (rowRow_congr (in4_0 V c t r) (in4_1 V c t j))
      (congrArg Ideal.logistic (rowRow_congr (in4_0 V c t r) (in4_2 V c t j)))).trans ?_
    exact congrArg (glu (m := 1024) (V c main_v16) (V c main_v2)) (out4 t r j).symm
  · obtain ⟨t, ht, r, hr, j, hj, e0, e1⟩ := tile (A := 1) (b := 8) (B := 1024) (C := 256) (i 0).isLt (i 1).isLt
    let t' : Fin grid4.N := ⟨t, ht.trans_eq N_4.symm⟩
    have e' : (win4_3.rect t').emb (ix2 (⟨r, hr⟩ : Fin 1024) (⟨j, hj⟩ : Fin 256)) = i :=
      (out4 t' ⟨r, hr⟩ ⟨j, hj⟩).trans (Shape.idx_ext₂ e0 e1)
    exact ⟨t', flush4_3 t', Finset.mem_map.mpr ⟨_, Finset.mem_univ _, e'⟩⟩

/-! ## The norm of the last rows, at the samples -/

/-- Where the blocks start. -/
theorem start5 : ∀ t : Fin grid5.N, (start win5_0 t 0 = t.val * 128 ∧ start win5_0 t 1 = 0)
    ∧ (start win5_1 t 0 = 0 ∧ start win5_1 t 1 = 0) ∧ (start win5_2 t 0 = t.val * 128 ∧ start win5_2 t 1 = 0) := by decide +kernel

/-- The array row that row `r` of block `t` is. -/
abbrev row5 (t : Fin grid5.N) (r : Fin 128) : Fin 128 := shift (t.val * 128) r (by have := Nat.lt_of_lt_of_eq t.isLt N_5; omega)

/-- The block of rows at point `t`. -/
theorem in5_0 (c : Dev nD) (t : Fin grid5.N) (r : Fin 128) (j : Fin 4096) :
    iblk5 V c 0 t (ix2 r j) = V c main_v19 (ix2 (row5 t r) j) :=
  congrArg (V c main_v19) (Shape.idx_ext₂ (emb_add win5_0 t _ 0 (start5 t).1.1) (emb_zero win5_0 t _ 1 (start5 t).1.2))

/-- The gain, whole at every point. -/
theorem in5_1 (c : Dev nD) (t : Fin grid5.N) : iblk5 V c 1 t = V c main_v20 :=
  mat_ext fun _ _ => congrArg (V c main_v20)
    (Shape.idx_ext₂ (emb_zero win5_1 t _ 0 (start5 t).2.1.1) (emb_zero win5_1 t _ 1 (start5 t).2.1.2))

/-- Where an element of the result's block lies. -/
theorem out5 (t : Fin grid5.N) (r : Fin 128) (j : Fin 4096) : (win5_2.rect t).emb (ix2 r j) = ix2 (row5 t r) j :=
  Shape.idx_ext₂ (emb_add win5_2 t _ 0 (start5 t).2.2.1) (emb_zero win5_2 t _ 1 (start5 t).2.2.2)

/-- The result array is the normalised rows. -/
theorem final5 (c : Dev nD) : (dat5 V c).arrAt 2 cfg5.N = rms (V c main_v19) (V c main_v20) := by
  refine Dat.arrAt_eq_of_cover _ 2 _ (fun t _ => ?_) (fun i => ?_)
  · show (cfg5.win 2).cut (grid5.coords t) ((dat5 V c).after 2 t) = _
    rw [after5_2]
    unfold out5_2
    rw [View.canon_unit_zero hz, View.ld_unit_zero hz, View.ld_unit_zero hz, in5_1]
    refine (rms_stored (m := 128) _ _ _ _ _ _ _ _ _ _).trans (mat_ext fun r j => (rms_row _ j fun j => in5_0 V c t r j).trans ?_)
    exact congrArg (rms (V c main_v19) (V c main_v20)) (out5 t r j).symm
  · obtain ⟨t, ht, r, hr, e⟩ := stretch (A := 1) (B := 128) (i 0).isLt
    let t' : Fin grid5.N := ⟨t, ht.trans_eq N_5.symm⟩
    have e' : (win5_2.rect t').emb (ix2 (⟨r, hr⟩ : Fin 128) (⟨(i 1 : ℕ), (i 1).isLt⟩ : Fin 4096)) = i :=
      (out5 t' ⟨r, hr⟩ _).trans (Shape.idx_ext₂ e rfl)
    exact ⟨t', flush5_2 t', Finset.mem_map.mpr ⟨_, Finset.mem_univ _, e'⟩⟩

end Cert.MixIdeal.Regions
-- ==== Proof.MixValue.lean ====
/-
  The results of the mixing half, each as a function of the program's arguments.
-/
module

public import proofs.«01_k».proof.Proof.MixRegions

@[expose] public section

set_option maxRecDepth 16384

noncomputable section

namespace Cert.MixIdeal.Values

open Idealize.ShloMosaic Idealize.ShloMosaic.TcCoe Idealize.SL.Sem Idealize.ShloMosaic.ValueIdx
open Cert.MixIdeal Cert.MixIdeal.Gen Cert.MixIdeal.Regions Layer

/-! ## The host steps, from any contents -/

section Hosts

variable (v : Valuation τ sig (Elt Ideal))

theorem host0_v0 : StableHlo.after hostOps0 v (Proc.devRef .tc main_v0) = shapeCast S4096 (v (Proc.devRef .tc main_arg3)) shapeCasts_S1x4096_S4096 := by
  after_results_simp; rfl

theorem host0_v2 : StableHlo.after hostOps0 v (Proc.devRef .tc main_v2) = transpose S10688x4096 [1, 0]
    (shapeCast S4096x10688 (v (Proc.devRef .tc main_arg4)) shapeCasts_S1x4096x10688_S4096x10688) transposes_S4096x10688_S10688x4096_1_0 := by
  after_results_simp; rfl

theorem host0_v3 : StableHlo.after hostOps0 v (Proc.devRef .tc main_v3) = shapeCast S8192x4096 (v (Proc.devRef .tc main_arg0)) shapeCasts_S4x2048x4096_S8192x4096 := by
  after_results_simp; rfl

theorem host0_v4 : StableHlo.after hostOps0 v (Proc.devRef .tc main_v4) = v (Proc.devRef .tc main_arg3) := by
  after_results_simp; exact shapeCast_shapeCast _ _ _

theorem host2_v8 : StableHlo.after hostOps2 v (Proc.devRef .tc main_v8) = shapeCast S4x4096
    (extractStridedSlice S4x1x4096 ![0, 2047, 0] (v (Proc.devRef .tc main_arg0)) slices_S4x2048x4096_S4x1x4096_0_2047_0) shapeCasts_S4x1x4096_S4x4096 := by
  after_results_simp; rfl

theorem host2_v9 : StableHlo.after hostOps2 v (Proc.devRef .tc main_v9) = shapeCast S1x4096 (v (Proc.devRef .tc main_v0)) shapeCasts_S4096_S1x4096 := by
  after_results_simp; rfl

theorem host3_v12 : StableHlo.after hostOps3 v (Proc.devRef .tc main_v12) = extractStridedSlice S4x30x2048 ![0, 2018, 0]
    (shapeCast S4x2048x2048 (v (Proc.devRef .tc main_v6)) shapeCasts_S8192x2048_S4x2048x2048) slices_S4x2048x2048_S4x30x2048_0_2018_0 := by
  after_results_simp; rfl

theorem host3_v13 : StableHlo.after hostOps3 v (Proc.devRef .tc main_v13) = shapeCast S128x30x2048 (v (Proc.devRef .tc main_arg2)) shapeCasts_S1x128x30x2048_S128x30x2048 := by
  after_results_simp; rfl

theorem host3_v14 : StableHlo.after hostOps3 v (Proc.devRef .tc main_v14) = shapeCast S1024x4096 (v (Proc.devRef .tc main_arg1)) shapeCasts_S128x8x4096_S1024x4096 := by
  after_results_simp; rfl

theorem host3_v15 : StableHlo.after hostOps3 v (Proc.devRef .tc main_v15) = shapeCast S1x4096 (v (Proc.devRef .tc main_v0)) shapeCasts_S4096_S1x4096 := by
  after_results_simp; rfl

theorem host5_v19 : StableHlo.after hostOps5 v (Proc.devRef .tc main_v19) = shapeCast S128x4096
    (extractStridedSlice S128x1x4096 ![0, 7, 0] (v (Proc.devRef .tc main_arg1)) slices_S128x8x4096_S128x1x4096_0_7_0) shapeCasts_S128x1x4096_S128x4096 := by
  after_results_simp; rfl

theorem host5_v20 : StableHlo.after hostOps5 v (Proc.devRef .tc main_v20) = shapeCast S1x4096 (v (Proc.devRef .tc main_v0)) shapeCasts_S4096_S1x4096 := by
  after_results_simp; rfl

theorem host6_v25 : StableHlo.after hostOps6 v (Proc.devRef .tc main_v25) = broadcastInDim S1x4x4096 ![1, 2] bcast_S4x4096_S1x4x4096_1_2 (v (Proc.devRef .tc main_v10)) := by
  after_results_simp

theorem host6_v26 : StableHlo.after hostOps6 v (Proc.devRef .tc main_v26) = broadcastInDim S1x4x30x2048 ![1, 2, 3] bcast_S4x30x2048_S1x4x30x2048_1_2_3 (v (Proc.devRef .tc main_v12)) := by
  after_results_simp

theorem host6_v27 : StableHlo.after hostOps6 v (Proc.devRef .tc main_v27) = broadcastInDim S1x128x4096 ![1, 2] bcast_S128x4096_S1x128x4096_1_2 (v (Proc.devRef .tc main_v21)) := by
  after_results_simp

theorem host6_v28 : StableHlo.after hostOps6 v (Proc.devRef .tc main_v28) = broadcastInDim S1x128x30x2048 ![1, 2, 3] bcast_S128x30x2048_S1x128x30x2048_1_2_3
    (extractStridedSlice S128x30x2048 ![0, 8, 0] (concatenate S128x38x2048 1 [⟨S128x30x2048, v (Proc.devRef .tc main_v13)⟩,
      ⟨S128x8x2048, shapeCast S128x8x2048 (v (Proc.devRef .tc main_v17)) shapeCasts_S1024x2048_S128x8x2048⟩]
      concatenates_S128x30x2048_S128x8x2048_S128x38x2048_d1) slices_S128x38x2048_S128x30x2048_0_8_0) := by
  after_results_simp; rfl

end Hosts

variable (m : (ℓ : Loc nD τ sig) → Buf (Elt Ideal) ℓ) (ρ : Dev nD → PrngReg) (c : Dev nD)

/-- The prompt's rows, the samples' rows, the gain and the weight's rows, as matrices. -/
abbrev xPrompt : Mat 8192 4096 := shapeCast S8192x4096 (m ((c : Thread nD τ).loc main_arg0)) shapeCasts_S4x2048x4096_S8192x4096
abbrev xSample : Mat 1024 4096 := shapeCast S1024x4096 (m ((c : Thread nD τ).loc main_arg1)) shapeCasts_S128x8x4096_S1024x4096
abbrev gain : Mat 1 4096 := m ((c : Thread nD τ).loc main_arg3)
abbrev weight : Mat 10688 4096 := transpose S10688x4096 [1, 0]
  (shapeCast S4096x10688 (m ((c : Thread nD τ).loc main_arg4)) shapeCasts_S1x4096x10688_S4096x10688) transposes_S4096x10688_S10688x4096_1_0
abbrev lastPrompt : Mat 4 4096 := shapeCast S4x4096
  (extractStridedSlice S4x1x4096 ![0, 2047, 0] (m ((c : Thread nD τ).loc main_arg0)) slices_S4x2048x4096_S4x1x4096_0_2047_0) shapeCasts_S4x1x4096_S4x4096
abbrev lastSample : Mat 128 4096 := shapeCast S128x4096
  (extractStridedSlice S128x1x4096 ![0, 7, 0] (m ((c : Thread nD τ).loc main_arg1)) slices_S128x8x4096_S128x1x4096_0_7_0) shapeCasts_S128x1x4096_S128x4096

/-! ## The gain and the weight where the calls read them -/

theorem flat3 : W3 m ρ c (Proc.devRef .tc main_v0) = shapeCast S4096 (gain m c) shapeCasts_S1x4096_S4096 :=
  (W3_of m ρ c _ (by decide)).trans ((W2_of m ρ c _ (by decide)).trans (host0_v0 _))

theorem flat5 : W5 m ρ c (Proc.devRef .tc main_v0) = shapeCast S4096 (gain m c) shapeCasts_S1x4096_S4096 :=
  (W5_of m ρ c _ (by decide)).trans ((W4_of m ρ c _ (by decide)).trans (flat3 m ρ c))

theorem flat8 : W8 m ρ c (Proc.devRef .tc main_v0) = shapeCast S4096 (gain m c) shapeCasts_S1x4096_S4096 :=
  (W8_of m ρ c _ (by decide)).trans ((W7_of m ρ c _ (by decide)).trans ((W6_of m ρ c _ (by decide)).trans (flat5 m ρ c)))

/-- The gain flattened and put back into one row is the gain. -/
theorem unflat (x : Vec Ideal S4096 .f32) (h : x = shapeCast S4096 (gain m c) shapeCasts_S1x4096_S4096) :
    shapeCast S1x4096 x shapeCasts_S4096_S1x4096 = gain m c := by
  subst h; exact shapeCast_shapeCast _ _ _

theorem weight2 : W2 m ρ c (Proc.devRef .tc main_v2) = weight m c := (W2_of m ρ c _ (by decide)).trans (host0_v2 _)

theorem weight7 : W7 m ρ c (Proc.devRef .tc main_v2) = weight m c :=
  (W7_of m ρ c _ (by decide)).trans ((W6_of m ρ c _ (by decide)).trans ((W5_of m ρ c _ (by decide)).trans
    ((W4_of m ρ c _ (by decide)).trans ((W3_of m ρ c _ (by decide)).trans (weight2 m ρ c)))))

/-! ## What each call leaves -/

theorem norm_prompt : W2 m ρ c (Proc.devRef .tc main_v5) = rms (xPrompt m c) (gain m c) :=
  (W2_arr m ρ c 2).trans ((final0 (V1 m ρ) c).trans (congrArg₂ rms (host0_v3 _) (host0_v4 _)))

theorem glu_prompt : W3 m ρ c (Proc.devRef .tc main_v6) = glu (m := 8192) (rms (xPrompt m c) (gain m c)) (weight m c) :=
  (W3_arr m ρ c 3).trans ((final1 (V2 m ρ) c).trans (congrArg₂ (glu (m := 8192)) (norm_prompt m ρ c) (weight2 m ρ c)))

theorem last_prompt : W5 m ρ c (Proc.devRef .tc main_v10) = rms (lastPrompt m c) (gain m c) :=
  (W5_arr m ρ c 2).trans ((final2 (V4 m ρ) c).trans (congrArg₂ rms
    ((host2_v8 _).trans (by rw [W3_args m ρ c main_arg0 (by decide)]))
    ((host2_v9 _).trans (unflat m c _ (flat3 m ρ c)))))

theorem norm_sample : W7 m ρ c (Proc.devRef .tc main_v16) = rms (xSample m c) (gain m c) :=
  (W7_arr m ρ c 2).trans ((final3 (V6 m ρ) c).trans (congrArg₂ rms
    ((host3_v14 _).trans (by rw [W5_args m ρ c main_arg1 (by decide)]))
    ((host3_v15 _).trans (unflat m c _ (flat5 m ρ c)))))

theorem glu_sample : W8 m ρ c (Proc.devRef .tc main_v17) = glu (m := 1024) (rms (xSample m c) (gain m c)) (weight m c) :=
  (W8_arr m ρ c 3).trans ((final4 (V7 m ρ) c).trans (congrArg₂ (glu (m := 1024)) (norm_sample m ρ c) (weight7 m ρ c)))

theorem last_sample : W10 m ρ c (Proc.devRef .tc main_v21) = rms (lastSample m c) (gain m c) :=
  (W10_arr m ρ c 2).trans ((final5 (V9 m ρ) c).trans (congrArg₂ rms
    ((host5_v19 _).trans (by rw [W8_args m ρ c main_arg1 (by decide)]))
    ((host5_v20 _).trans (unflat m c _ (flat8 m ρ c)))))

/-! ## The four results -/

/-- The prompt's last rows, normalised. -/
theorem shift_prompt : W11 m ρ c (Proc.devRef .tc main_v25)
    = broadcastInDim S1x4x4096 ![1, 2] bcast_S4x4096_S1x4x4096_1_2 (rms (lastPrompt m c) (gain m c)) :=
  (host6_v25 _).trans (congrArg _ ((W10_of m ρ c _ (by decide)).trans ((W9_of m ρ c _ (by decide)).trans ((W8_of m ρ c _ (by decide)).trans
    ((W7_of m ρ c _ (by decide)).trans ((W6_of m ρ c _ (by decide)).trans (last_prompt m ρ c)))))))

/-- The prompt's last thirty rows of the gated product. -/
theorem conv_prompt : W11 m ρ c (Proc.devRef .tc main_v26)
    = broadcastInDim S1x4x30x2048 ![1, 2, 3] bcast_S4x30x2048_S1x4x30x2048_1_2_3 (extractStridedSlice S4x30x2048 ![0, 2018, 0]
      (shapeCast S4x2048x2048 (glu (m := 8192) (rms (xPrompt m c) (gain m c)) (weight m c)) shapeCasts_S8192x2048_S4x2048x2048)
      slices_S4x2048x2048_S4x30x2048_0_2018_0) :=
  (host6_v26 _).trans (congrArg _ ((W10_of m ρ c _ (by decide)).trans ((W9_of m ρ c _ (by decide)).trans ((W8_of m ρ c _ (by decide)).trans
    ((W7_of m ρ c _ (by decide)).trans ((host3_v12 _).trans (by
      rw [W5_of m ρ c main_v6 (by decide), W4_of m ρ c main_v6 (by decide), glu_prompt])))))))

/-- The samples' last rows, normalised. -/
theorem shift_sample : W11 m ρ c (Proc.devRef .tc main_v27)
    = broadcastInDim S1x128x4096 ![1, 2] bcast_S128x4096_S1x128x4096_1_2 (rms (lastSample m c) (gain m c)) :=
  (host6_v27 _).trans (congrArg _ (last_sample m ρ c))

/-- The samples' history with the gated product behind it, its last thirty rows. -/
theorem conv_sample : W11 m ρ c (Proc.devRef .tc main_v28)
    = broadcastInDim S1x128x30x2048 ![1, 2, 3] bcast_S128x30x2048_S1x128x30x2048_1_2_3
      (extractStridedSlice S128x30x2048 ![0, 8, 0] (concatenate S128x38x2048 1
        [⟨S128x30x2048, shapeCast S128x30x2048 (m ((c : Thread nD τ).loc main_arg2)) shapeCasts_S1x128x30x2048_S128x30x2048⟩,
        ⟨S128x8x2048, shapeCast S128x8x2048 (glu (m := 1024) (rms (xSample m c) (gain m c)) (weight m c)) shapeCasts_S1024x2048_S128x8x2048⟩]
        concatenates_S128x30x2048_S128x8x2048_S128x38x2048_d1) slices_S128x38x2048_S128x30x2048_0_8_0) := by
  refine (host6_v28 _).trans ?_
  rw [W10_of m ρ c main_v17 (by decide), W9_of m ρ c main_v17 (by decide), glu_sample,
    W10_of m ρ c main_v13 (by decide), W9_of m ρ c main_v13 (by decide), W8_of m ρ c main_v13 (by decide), W7_of m ρ c main_v13 (by decide),
    show W6 m ρ c (Proc.devRef .tc main_v13) = _ from host3_v13 _, W5_args m ρ c main_arg2 (by decide)]

end Cert.MixIdeal.Values
-- ==== Proof.Grouped.lean ====
/-
  Arrays whose rows come in groups, against matrices holding the same rows one group after another: the host's
  reshapes, slices, normalisation and products of the one are the block operations of the other.
-/
module

public import proofs.«01_k».proof.Proof.Blocks
public import Idealize.ShloMosaic.Lib.Pipeline.Value
public import Idealize.ShloMosaic.PureOps.Ideal.Laws
public import Idealize.ShloMosaic.Lib.IdealHost

@[expose] public section

noncomputable section

namespace Layer

open Idealize.ShloMosaic Idealize.ShloMosaic.ValueIdx

/-- Groups of rows of extended reals: one value at each group, row and column. -/
abbrev Cube (a t n : ℕ) : Type := (⟨3, ![a, t, n]⟩ : Shape).Idx → EReal

variable {A T M n k : ℕ}

/-- Row `t` of group `b`, the groups laid one after another. -/
abbrev groupRow (b : Fin A) (t : Fin T) (h : A * T = M) : Fin M :=
  ⟨b.val * T + t.val, by
    have := Nat.mul_le_mul_right T (Nat.succ_le_of_lt b.isLt)
    have := t.isLt
    rw [Nat.succ_mul] at *
    omega⟩

/-- `x` holds the rows of `y` in groups. -/
def Grouped (h : A * T = M) (x : Cube A T n) (y : Mat M n) : Prop :=
  ∀ b t c, x (ix3 b t c) = y (ix2 (groupRow b t h) c)

/-- Two three-axis indices that agree on each axis are equal. -/
theorem cube_idx {i j : (⟨3, ![A, T, n]⟩ : Shape).Idx} (h0 : i 0 = j 0) (h1 : i 1 = j 1) (h2 : i 2 = j 2) : i = j :=
  funext fun a => match a with
    | ⟨0, _⟩ => h0
    | ⟨1, _⟩ => h1
    | ⟨2, _⟩ => h2

theorem cube_ext {α : Type} {f g : (⟨3, ![A, T, n]⟩ : Shape).Idx → α} (h : ∀ b t c, f (ix3 b t c) = g (ix3 b t c)) : f = g :=
  funext fun i => (congrArg f (eq_ix3 i)).trans ((h (i 0) (i 1) (i 2)).trans (congrArg g (eq_ix3 i)).symm)

/-- Flattening the groups keeps the rows. -/
theorem Grouped.flat (hM : A * T = M) (x : Cube A T n) (h : (⟨3, ![A, T, n]⟩ : Shape).ShapeCasts ⟨2, ![M, n]⟩) :
    Grouped hM x (shapeCast ⟨2, ![M, n]⟩ x h) := fun b t c =>
  (shapeCast_apply x h (ix2 (groupRow b t hM) c) (ix3 b t c)
    (by rewrite [Shape.rowMajor_val_three, Shape.rowMajor_val_two]; rfl)).symm

/-- Cutting a matrix into groups gives the array that holds its rows in groups. -/
theorem Grouped.cut {hM : A * T = M} {x : Cube A T n} {y : Mat M n} (hx : Grouped hM x y)
    (h : (⟨2, ![M, n]⟩ : Shape).ShapeCasts ⟨3, ![A, T, n]⟩) : shapeCast ⟨3, ![A, T, n]⟩ y h = x :=
  cube_ext fun b t c => (shapeCast_apply y h (ix3 b t c) (ix2 (groupRow b t hM) c)
    (by rewrite [Shape.rowMajor_val_three, Shape.rowMajor_val_two]; rfl)).trans (hx b t c).symm

/-- Cut into groups, a matrix's rows are held in groups. -/
theorem Grouped.of_cut (hM : A * T = M) (y : Mat M n) (h : (⟨2, ![M, n]⟩ : Shape).ShapeCasts ⟨3, ![A, T, n]⟩) :
    Grouped hM (shapeCast ⟨3, ![A, T, n]⟩ y h) y := fun b t c =>
  shapeCast_apply y h (ix3 b t c) (ix2 (groupRow b t hM) c)
    (by rewrite [Shape.rowMajor_val_three, Shape.rowMajor_val_two]; rfl)

/-- Row `o` of every group, as a matrix. -/
theorem slab_apply {α : Type} (x : (⟨3, ![A, T, n]⟩ : Shape).Idx → α) (o : Fin T)
    (h : (⟨3, ![A, T, n]⟩ : Shape).Slices ![0, o.val, 0] ⟨3, ![A, 1, n]⟩)
    (h' : (⟨3, ![A, 1, n]⟩ : Shape).ShapeCasts ⟨2, ![A, n]⟩) (b : Fin A) (c : Fin n) :
    shapeCast ⟨2, ![A, n]⟩ (extractStridedSlice ⟨3, ![A, 1, n]⟩ ![0, o.val, 0] x h) h' (ix2 b c) = x (ix3 b o c) := by
  refine (shapeCast_apply _ h' (ix2 b c) (ix3 b 0 c) ?_).trans (extractStridedSlice_apply _ x h _ _ fun a => ?_)
  · rewrite [Shape.rowMajor_val_three, Shape.rowMajor_val_two]
    exact congrArg (· * n + c.val) (Nat.mul_one b.val)
  · match a with
    | ⟨0, _⟩ => exact (Nat.zero_add _).symm
    | ⟨1, _⟩ => rfl
    | ⟨2, _⟩ => exact (Nat.zero_add _).symm

/-- The host's sum over the columns, at a group and a row. -/
theorem host_sum (x : FVec Ideal ⟨3, ![A, T, n]⟩ .f32) (z : FVec Ideal ⟨0, ![]⟩ .f32)
    (hr : (⟨3, ![A, T, n]⟩ : Shape).ReducesTo [2] ⟨2, ![A, T]⟩) (hs : (⟨3, ![A, T, n]⟩ : Shape).Reduces [2] ⟨2, ![A, T]⟩)
    (hz : 0 < (⟨0, ![]⟩ : Shape).numel) (hz0 : ∀ i, z i = (0 : EReal)) (b : Fin A) (t : Fin T) :
    Host.reduceAdd x z hr hz (ix2 b t) = ∑ c : Fin n, x (ix3 b t c) := by
  simp only [Host.reduceAdd, Ideal.hostReduceAdd_def]
  rw [Ideal.hostReduceAdd_single hr hs, hz0, zero_add]
  exact Finset.sum_congr rfl fun c _ => congrArg x (cube_idx rfl rfl rfl)

/-- A column per group spread over all columns. -/
theorem spread_group {α : Type} (v : (⟨3, ![A, T, 1]⟩ : Shape).Idx → α)
    (h : (⟨3, ![A, T, 1]⟩ : Shape).BroadcastsInDim ⟨3, ![A, T, n]⟩ ![0, 1, 2]) (b : Fin A) (t : Fin T) (c : Fin n) :
    broadcastInDim ⟨3, ![A, T, n]⟩ ![0, 1, 2] h v (ix3 b t c) = v (ix3 b t 0) := by
  refine broadcastInDim_apply _ h v _ _ fun a => ?_
  match a with
  | ⟨0, _⟩ =>
    show b.val = if A = 1 then 0 else b.val
    have := b.isLt
    split <;> omega
  | ⟨1, _⟩ =>
    show t.val = if T = 1 then 0 else t.val
    have := t.isLt
    split <;> omega
  | ⟨2, _⟩ => rfl

/-- One value per group and row, as a column. -/
theorem column_group {α : Type} (v : (⟨2, ![A, T]⟩ : Shape).Idx → α)
    (h : (⟨2, ![A, T]⟩ : Shape).BroadcastsInDim ⟨3, ![A, T, 1]⟩ ![0, 1]) (b : Fin A) (t : Fin T) :
    broadcastInDim ⟨3, ![A, T, 1]⟩ ![0, 1] h v (ix3 b t 0) = v (ix2 b t) := by
  refine broadcastInDim_apply _ h v _ _ fun a => ?_
  match a with
  | ⟨0, _⟩ =>
    show b.val = if A = 1 then 0 else b.val
    have := b.isLt
    split <;> omega
  | ⟨1, _⟩ =>
    show t.val = if T = 1 then 0 else t.val
    have := t.isLt
    split <;> omega

/-- One value per column, spread over all groups and rows. -/
theorem gain_group {α : Type} (g : (⟨1, ![n]⟩ : Shape).Idx → α)
    (h : (⟨1, ![n]⟩ : Shape).BroadcastsInDim ⟨3, ![1, 1, n]⟩ ![2])
    (h' : (⟨3, ![1, 1, n]⟩ : Shape).BroadcastsInDim ⟨3, ![A, T, n]⟩ ![0, 1, 2]) (b : Fin A) (t : Fin T) (c : Fin n) :
    broadcastInDim ⟨3, ![A, T, n]⟩ ![0, 1, 2] h' (broadcastInDim ⟨3, ![1, 1, n]⟩ ![2] h g) (ix3 b t c) = g (ix1 c) := by
  refine (broadcastInDim_apply _ h' _ _ (ix3 0 0 c) fun a => ?_).trans (broadcastInDim_apply _ h g _ _ fun a => ?_)
  · match a with
    | ⟨0, _⟩ => rfl
    | ⟨1, _⟩ => rfl
    | ⟨2, _⟩ =>
      show c.val = if n = 1 then 0 else c.val
      have := c.isLt
      split <;> omega
  · match a with
    | ⟨0, _⟩ =>
      show c.val = if n = 1 then 0 else c.val
      have := c.isLt
      split <;> omega

/-- The host's normalisation of grouped rows is `rms` of the rows. -/
theorem Grouped.rms {hM : A * T = M} {x : FVec Ideal ⟨3, ![A, T, 4096]⟩ .f32} {y : Mat M 4096} (hx : Grouped hM x y)
    (g : FVec Ideal ⟨1, ![4096]⟩ .f32) (g' : Mat 1 4096) (hg : ∀ c, g (ix1 c) = g' (ix2 0 c))
    (hr : (⟨3, ![A, T, 4096]⟩ : Shape).ReducesTo [2] ⟨2, ![A, T]⟩)
    (hs : (⟨3, ![A, T, 4096]⟩ : Shape).Reduces [2] ⟨2, ![A, T]⟩) (hz : 0 < (⟨0, ![]⟩ : Shape).numel)
    (h1 : (⟨3, ![A, T, 1]⟩ : Shape).BroadcastsInDim ⟨3, ![A, T, 4096]⟩ ![0, 1, 2])
    (h2 : (⟨2, ![A, T]⟩ : Shape).BroadcastsInDim ⟨3, ![A, T, 1]⟩ ![0, 1])
    (h3 : (⟨0, ![]⟩ : Shape).BroadcastsInDim ⟨3, ![A, T, 1]⟩ ![])
    (h4 : (⟨1, ![4096]⟩ : Shape).BroadcastsInDim ⟨3, ![1, 1, 4096]⟩ ![2])
    (h5 : (⟨3, ![1, 1, 4096]⟩ : Shape).BroadcastsInDim ⟨3, ![A, T, 4096]⟩ ![0, 1, 2]) :
    Grouped hM (mulf (mulf x (broadcastInDim ⟨3, ![A, T, 4096]⟩ ![0, 1, 2] h1 (Host.rsqrt (addf
        (Host.divf (broadcastInDim ⟨3, ![A, T, 1]⟩ ![0, 1] h2 (Host.reduceAdd (mulf x x)
          (constant (F := Ideal) ⟨0, ![]⟩ .f32 0x00000000#32) hr hz))
          (broadcastInDim ⟨3, ![A, T, 1]⟩ ![] h3 (constant (F := Ideal) ⟨0, ![]⟩ .f32 0x45800000#32)))
        (broadcastInDim ⟨3, ![A, T, 1]⟩ ![] h3 (constant (F := Ideal) ⟨0, ![]⟩ .f32 0x358637BD#32))))))
      (broadcastInDim ⟨3, ![A, T, 4096]⟩ ![0, 1, 2] h5 (broadcastInDim ⟨3, ![1, 1, 4096]⟩ ![2] h4 g)))
      (Layer.rms y g') := by
  intro b t c
  have hsum : Host.reduceAdd (mulf x x) (constant (F := Ideal) ⟨0, ![]⟩ .f32 0x00000000#32) hr hz (ix2 b t)
      = ∑ c : Fin 4096, y (ix2 (groupRow b t hM) c) * y (ix2 (groupRow b t hM) c) :=
    (host_sum _ _ hr hs hz (fun _ => Ideal.ofBits_zero_f32) b t).trans
      (Finset.sum_congr rfl fun c _ => congrArg₂ (fun u v : EReal => u * v) (hx b t c) (hx b t c))
  have hscale := (spread_group (n := 4096) (Host.rsqrt (addf
        (Host.divf (broadcastInDim ⟨3, ![A, T, 1]⟩ ![0, 1] h2 (Host.reduceAdd (mulf x x)
          (constant (F := Ideal) ⟨0, ![]⟩ .f32 0x00000000#32) hr hz))
          (broadcastInDim ⟨3, ![A, T, 1]⟩ ![] h3 (constant (F := Ideal) ⟨0, ![]⟩ .f32 0x45800000#32)))
        (broadcastInDim ⟨3, ![A, T, 1]⟩ ![] h3 (constant (F := Ideal) ⟨0, ![]⟩ .f32 0x358637BD#32)))) h1 b t c).trans
    (congrArg (fun s : EReal => Ideal.rsqrt (Ideal.div s (Ideal.ofBits .f32 0x45800000#32) + Ideal.ofBits .f32 0x358637BD#32))
      ((column_group _ h2 b t).trans hsum))
  exact congrArg₂ (fun u v : EReal => u * v) (congrArg₂ (fun u v : EReal => u * v) (hx b t c) hscale)
    ((gain_group g h4 h5 b t c).trans (hg c))

/-- Sums over the columns of grouped rows against a column of `w`, `w` given by its columns. -/
theorem Grouped.col {hM : A * T = M} {x : Cube A T k} {y : Mat M k} (hx : Grouped hM x y) {w w' : Mat k n}
    (hw : ∀ j c, w (ix2 j c) = w' (ix2 j c)) (b : Fin A) (t : Fin T) (c : Fin n) :
    (∑ j : Fin k, x (ix3 b t j) * w (ix2 j c)) = rowCol y w' (groupRow b t hM) c :=
  Finset.sum_congr rfl fun j _ => congrArg₂ _ (hx b t j) (hw j c)

/-- The host's spelling of the logistic, element by element. -/
theorem host_logistic {s : Shape} (x : FVec Ideal s .f32) (h : (⟨0, ![]⟩ : Shape).BroadcastsInDim s ![]) (i : s.Idx) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf x))) i
      = Ideal.logistic (x i) := by
  show Ideal.div (Ideal.ofBits .f32 0x3F800000#32) (Ideal.ofBits .f32 0x3F800000#32 + Ideal.exp (-(x i))) = _
  rw [Ideal.ofBits_one_f32]
  rfl

/-- A slice of a slice, both along the columns. -/
theorem slice_cols {α : Type} {p q : ℕ} (z : (⟨3, ![A, T, n]⟩ : Shape).Idx → α) (o o' : ℕ)
    (h : (⟨3, ![A, T, n]⟩ : Shape).Slices ![0, 0, o] ⟨3, ![A, T, p]⟩)
    (h' : (⟨3, ![A, T, p]⟩ : Shape).Slices ![0, 0, o'] ⟨3, ![A, T, q]⟩) (b : Fin A) (t : Fin T) (c : Fin q)
    (h1 : o' + q ≤ p) (h2 : o + o' + q ≤ n) :
    extractStridedSlice ⟨3, ![A, T, q]⟩ ![0, 0, o'] (extractStridedSlice ⟨3, ![A, T, p]⟩ ![0, 0, o] z h) h' (ix3 b t c)
      = z (ix3 b t (shift (o + o') c h2)) := by
  refine (extractStridedSlice_apply _ _ h' _ (ix3 b t (shift o' c h1)) fun a => ?_).trans
    (extractStridedSlice_apply _ z h _ _ fun a => ?_)
  · match a with
    | ⟨0, _⟩ => exact (Nat.zero_add _).symm
    | ⟨1, _⟩ => exact (Nat.zero_add _).symm
    | ⟨2, _⟩ => rfl
  · match a with
    | ⟨0, _⟩ => exact (Nat.zero_add _).symm
    | ⟨1, _⟩ => exact (Nat.zero_add _).symm
    | ⟨2, _⟩ => exact Nat.add_assoc _ _ _

/-- The host's gated product of grouped rows is `glu` of the rows. -/
theorem Grouped.glu {hM : A * T = M} {z : FVec Ideal ⟨3, ![A, T, 10688]⟩ .f32} {y : Mat M 4096} {w : Mat 10688 4096}
    (hz : ∀ b t c, z (ix3 b t c) = rowRow y w (groupRow b t hM) c)
    (h : (⟨3, ![A, T, 10688]⟩ : Shape).Slices ![0, 0, 6592] ⟨3, ![A, T, 4096]⟩)
    (h0 : (⟨3, ![A, T, 4096]⟩ : Shape).Slices ![0, 0, 0] ⟨3, ![A, T, 2048]⟩)
    (h1 : (⟨3, ![A, T, 4096]⟩ : Shape).Slices ![0, 0, 2048] ⟨3, ![A, T, 2048]⟩)
    (h2 : (⟨0, ![]⟩ : Shape).BroadcastsInDim ⟨3, ![A, T, 2048]⟩ ![]) :
    Grouped hM (mulf (extractStridedSlice ⟨3, ![A, T, 2048]⟩ ![0, 0, 0] (extractStridedSlice ⟨3, ![A, T, 4096]⟩ ![0, 0, 6592] z h) h0)
      (Host.divf (broadcastInDim ⟨3, ![A, T, 2048]⟩ ![] h2 (constant (F := Ideal) ⟨0, ![]⟩ .f32 0x3F800000#32))
        (addf (broadcastInDim ⟨3, ![A, T, 2048]⟩ ![] h2 (constant (F := Ideal) ⟨0, ![]⟩ .f32 0x3F800000#32))
          (Host.exp (Host.negf (extractStridedSlice ⟨3, ![A, T, 2048]⟩ ![0, 0, 2048]
            (extractStridedSlice ⟨3, ![A, T, 4096]⟩ ![0, 0, 6592] z h) h1))))))
      (Layer.glu y w) := fun b t c =>
  congrArg₂ (fun u v : EReal => u * v)
    ((slice_cols z 6592 0 h h0 b t c (by decide) (by decide)).trans (hz _ _ _))
    ((host_logistic _ h2 _).trans (congrArg Ideal.logistic
      ((slice_cols z 6592 2048 h h1 b t c (by decide) (by decide)).trans (hz _ _ _))))

/-- The rows from `p` on of two arrays joined along the rows, within the second. -/
theorem slice_joined {α : Type} {p q r N : ℕ} (x : (⟨3, ![A, p, n]⟩ : Shape).Idx → α) (y : (⟨3, ![A, q, n]⟩ : Shape).Idx → α)
    (o o' : ℕ) (ho : p + o = o')
    (hc : Shape.Concatenates [⟨3, ![A, p, n]⟩, ⟨3, ![A, q, n]⟩] ⟨3, ![A, N, n]⟩ 1)
    (h : (⟨3, ![A, N, n]⟩ : Shape).Slices ![0, o', 0] ⟨3, ![A, r, n]⟩)
    (h' : (⟨3, ![A, q, n]⟩ : Shape).Slices ![0, o, 0] ⟨3, ![A, r, n]⟩) (hq : o + r ≤ q) (hN : o' + r ≤ N) :
    extractStridedSlice ⟨3, ![A, r, n]⟩ ![0, o', 0] (concatenate ⟨3, ![A, N, n]⟩ 1 [⟨⟨3, ![A, p, n]⟩, x⟩, ⟨⟨3, ![A, q, n]⟩, y⟩] hc) h
      = extractStridedSlice ⟨3, ![A, r, n]⟩ ![0, o, 0] y h' := by
  subst ho
  refine cube_ext fun b t c => ?_
  refine (extractStridedSlice_apply _ _ h _ (ix3 b (shift (p + o) t hN) c) fun a => ?_).trans
    ((concatenate_pair_apply_right 1 x y hc _ rfl rfl (ix3 b (shift o t hq) c) (fun a ha => ?_) ?_).trans
      (extractStridedSlice_apply _ y h' _ _ fun a => ?_).symm)
  · match a with
    | ⟨0, _⟩ => exact (Nat.zero_add _).symm
    | ⟨1, _⟩ => rfl
    | ⟨2, _⟩ => exact (Nat.zero_add _).symm
  · match a with
    | ⟨0, _⟩ => rfl
    | ⟨1, _⟩ => exact absurd rfl ha
    | ⟨2, _⟩ => rfl
  · show o + t.val + p = p + o + t.val
    omega
  · match a with
    | ⟨0, _⟩ => exact (Nat.zero_add _).symm
    | ⟨1, _⟩ => rfl
    | ⟨2, _⟩ => exact (Nat.zero_add _).symm

end Layer
-- ==== Proof.MixEq.lean ====
/-
  The reference's four results, stage by stage, are the four arrays the kernel leaves.
-/
module

public import proofs.«01_k».proof.Proof.MixValue
public import proofs.«01_k».proof.Proof.Grouped
public import proofs.«01_k».proof.Proof.Gen.MixRefIdeal.Read

@[expose] public section

set_option maxRecDepth 16384

noncomputable section

namespace Cert.MixIdeal.Values

open Idealize.ShloMosaic Idealize.ShloMosaic.TcCoe Idealize.SL.Sem Idealize.ShloMosaic.ValueIdx
open Cert.MixIdeal Cert.MixIdeal.Gen Layer
open Cert.MixRefIdeal.Read

variable (m : (ℓ : Loc nD τ sig) → Buf (Elt Ideal) ℓ) (c : Dev nD)

/-- The arguments, as arrays. -/
abbrev a0 : Cube 4 2048 4096 := m ((c : Thread nD τ).loc main_arg0)
abbrev a1 : Cube 128 8 4096 := m ((c : Thread nD τ).loc main_arg1)
abbrev a2 : FVec Ideal ⟨4, ![1, 128, 30, 2048]⟩ .f32 := m ((c : Thread nD τ).loc main_arg2)
abbrev a4 : FVec Ideal ⟨3, ![1, 4096, 10688]⟩ .f32 := m ((c : Thread nD τ).loc main_arg4)

/-- The reference's flattened gain, read at a column. -/
theorem gain_at (j : Fin 4096) : val_main_v1 (F := Ideal) (gain m c) (ix1 j) = gain m c (ix2 0 j) :=
  (val_main_v1_apply (F := Ideal) (gain m c) (ix1 j)).trans
    (congrArg (gain m c) (Shape.idx_ext₂ rfl (Nat.mod_eq_of_lt j.isLt)))

/-- The kernel's transposed weight is the reference's weight read across. -/
theorem weight_at (j : Fin 4096) (r : Fin 10688) : val_main_v2 (F := Ideal) (a4 m c) (ix2 j r) = weight m c (ix2 r j) :=
  (transpose_ix2_apply (val_main_v2 (F := Ideal) (a4 m c)) _ r j).symm

/-- The prompt's rows normalised. -/
theorem norm_prompt_ref : Grouped (M := 8192) rfl (val_main_v15 (F := Ideal) (a0 m c) (gain m c)) (rms (xPrompt m c) (gain m c)) :=
  (Grouped.flat rfl (a0 m c) _).rms _ _ (gain_at m c) _ (by decide) _ _ _ _ _ _

theorem norm_sample_ref : Grouped (M := 1024) rfl (val_main_v46 (F := Ideal) (a1 m c) (gain m c)) (rms (xSample m c) (gain m c)) :=
  (Grouped.flat rfl (a1 m c) _).rms _ _ (gain_at m c) _ (by decide) _ _ _ _ _ _

/-- The prompt's gated product. -/
theorem glu_prompt_ref : Grouped (M := 8192) rfl (val_main_v26 (F := Ideal) (a0 m c) (gain m c) (a4 m c))
    (glu (m := 8192) (rms (xPrompt m c) (gain m c)) (weight m c)) :=
  Grouped.glu (z := val_main_v16 (F := Ideal) (a0 m c) (gain m c) (a4 m c)) (fun b t j =>
    (val_main_v16_apply _ _ _ (ix3 b t j)).trans (Finset.sum_congr rfl fun k _ => congrArg₂ (fun u v : EReal => u * v)
      ((congrArg (val_main_v15 (F := Ideal) (a0 m c) (gain m c)) (show lidx_main_v16 (ix3 b t j) k = ix3 b t k from cube_idx rfl rfl rfl)).trans (norm_prompt_ref m c b t k))
      ((congrArg (val_main_v2 (F := Ideal) (a4 m c)) (show ridx_main_v16 (ix3 b t j) k = ix2 k j from Shape.idx_ext₂ rfl rfl)).trans (weight_at m c k j)))) _ _ _ _

theorem glu_sample_ref : Grouped (M := 1024) rfl (val_main_v57 (F := Ideal) (a1 m c) (gain m c) (a4 m c))
    (glu (m := 1024) (rms (xSample m c) (gain m c)) (weight m c)) :=
  Grouped.glu (z := val_main_v47 (F := Ideal) (a1 m c) (gain m c) (a4 m c)) (fun b t j =>
    (val_main_v47_apply _ _ _ (ix3 b t j)).trans (Finset.sum_congr rfl fun k _ => congrArg₂ (fun u v : EReal => u * v)
      ((congrArg (val_main_v46 (F := Ideal) (a1 m c) (gain m c)) (show lidx_main_v47 (ix3 b t j) k = ix3 b t k from cube_idx rfl rfl rfl)).trans (norm_sample_ref m c b t k))
      ((congrArg (val_main_v33 (F := Ideal) (a4 m c)) (show ridx_main_v47 (ix3 b t j) k = ix2 k j from Shape.idx_ext₂ rfl rfl)).trans (weight_at m c k j)))) _ _ _ _

/-! ## The results -/

theorem shift_prompt_ref : val_main_v62 (F := Ideal) (a0 m c) (gain m c)
    = broadcastInDim S1x4x4096 ![1, 2] bcast_S4x4096_S1x4x4096_1_2 (rms (lastPrompt m c) (gain m c)) := by
  refine congrArg (broadcastInDim S1x4x4096 ![1, 2] bcast_S4x4096_S1x4x4096_1_2) (mat_ext fun b j => ?_)
  refine (slab_apply (val_main_v15 (F := Ideal) (a0 m c) (gain m c)) 2047 _ _ b j).trans ((norm_prompt_ref m c b 2047 j).trans ?_)
  exact rms_row _ _ fun k => (Grouped.flat (M := 8192) rfl (a0 m c) _ b 2047 k).symm.trans (slab_apply (a0 m c) 2047 _ _ b k).symm

theorem shift_sample_ref : val_main_v64 (F := Ideal) (a1 m c) (gain m c)
    = broadcastInDim S1x128x4096 ![1, 2] bcast_S128x4096_S1x128x4096_1_2 (rms (lastSample m c) (gain m c)) := by
  refine congrArg (broadcastInDim S1x128x4096 ![1, 2] bcast_S128x4096_S1x128x4096_1_2) (mat_ext fun b j => ?_)
  refine (slab_apply (val_main_v46 (F := Ideal) (a1 m c) (gain m c)) 7 _ _ b j).trans ((norm_sample_ref m c b 7 j).trans ?_)
  exact rms_row _ _ fun k => (Grouped.flat (M := 1024) rfl (a1 m c) _ b 7 k).symm.trans (slab_apply (a1 m c) 7 _ _ b k).symm

theorem conv_prompt_ref : val_main_v63 (F := Ideal) (a0 m c) (gain m c) (a4 m c)
    = broadcastInDim S1x4x30x2048 ![1, 2, 3] bcast_S4x30x2048_S1x4x30x2048_1_2_3 (extractStridedSlice S4x30x2048 ![0, 2018, 0]
      (shapeCast S4x2048x2048 (glu (m := 8192) (rms (xPrompt m c) (gain m c)) (weight m c)) shapeCasts_S8192x2048_S4x2048x2048)
      slices_S4x2048x2048_S4x30x2048_0_2018_0) := by
  have e : val_main_v30 (F := Ideal) (a0 m c) (gain m c) (a4 m c) = extractStridedSlice S4x30x2048 ![0, 2018, 0]
      (val_main_v26 (F := Ideal) (a0 m c) (gain m c) (a4 m c)) slices_S4x2048x2048_S4x30x2048_0_2018_0 := by
    unfold val_main_v30 val_main_v27
    generalize val_main_v26 (F := Ideal) (a0 m c) (gain m c) (a4 m c) = u
    generalize val_main_v0 (F := Ideal) = z
    exact slice_joined (A := 4) (p := 30) (q := 2048) (r := 30) (N := 2078) (n := 2048) z u 2018 2048 rfl _ _ _ (by decide) (by decide)
  unfold val_main_v63
  rw [e, (glu_prompt_ref m c).cut shapeCasts_S8192x2048_S4x2048x2048]

theorem conv_sample_ref : val_main_v65 (F := Ideal) (a1 m c) (a2 m c) (gain m c) (a4 m c)
    = broadcastInDim S1x128x30x2048 ![1, 2, 3] bcast_S128x30x2048_S1x128x30x2048_1_2_3
      (extractStridedSlice S128x30x2048 ![0, 8, 0] (concatenate S128x38x2048 1
        [⟨S128x30x2048, shapeCast S128x30x2048 (m ((c : Thread nD τ).loc main_arg2)) shapeCasts_S1x128x30x2048_S128x30x2048⟩,
        ⟨S128x8x2048, shapeCast S128x8x2048 (glu (m := 1024) (rms (xSample m c) (gain m c)) (weight m c)) shapeCasts_S1024x2048_S128x8x2048⟩]
        concatenates_S128x30x2048_S128x8x2048_S128x38x2048_d1) slices_S128x38x2048_S128x30x2048_0_8_0) := by
  rw [(glu_sample_ref m c).cut shapeCasts_S1024x2048_S128x8x2048]
  rfl

end Cert.MixIdeal.Values
-- ==== Proof.MixRun.lean ====
/-
  The run of the mixing half: every buffer outside the calls ends at the contents its last step leaves.
-/
module

public import proofs.«01_k».proof.Proof.Gen.MixIdeal.Frame

@[expose] public section

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixIdeal Cert.MixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run from `m` ends, with each buffer outside the calls at its contents after the last step. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ c b hb => h c b hb)

end Cert.MixIdeal.Run
-- ==== Proof.MixClaim.lean ====
/-
  The kernel and the reference of the normalisation and gated product, run from memories that agree on the arguments,
  end with the same four results.
-/
module

public import proofs.«01_k».proof.Defs
public import proofs.«01_k».proof.Proof.MixEq
public import proofs.«01_k».proof.Proof.MixRun

@[expose] public section

set_option maxRecDepth 16384

noncomputable section

namespace Cert.MixIdeal.Values

open Idealize.ShloMosaic Idealize.ShloMosaic.TcCoe Idealize.SL.Sem
open Cert.MixIdeal Cert.MixIdeal.Gen
open Cert.MixRefIdeal.Read

/-- Over the extended reals the kernel's four results are the reference's. -/
theorem algebraic : Cert.algebraic_MixIdeal_MixRefIdeal := by
  intro m g m' g' _ hm
  refine ⟨fun c => W11 m g c (Proc.devRef .tc main_v25), fun c => W11 m g c (Proc.devRef .tc main_v26),
    fun c => W11 m g c (Proc.devRef .tc main_v27), fun c => W11 m g c (Proc.devRef .tc main_v28), ?_, ?_⟩
  · refine (θ_run _ _ _).mono (fun r h c => ?_) (Run.run m g)
    exact ⟨h c _ (mem_uc main_v25 (by decide)), h c _ (mem_uc main_v26 (by decide)),
      h c _ (mem_uc main_v27 (by decide)), h c _ (mem_uc main_v28 (by decide)),
      (h c _ (mem_uc main_arg0 (by decide))).trans (W11_main_arg0 m g c),
      (h c _ (mem_uc main_arg1 (by decide))).trans (W11_main_arg1 m g c),
      (h c _ (mem_uc main_arg2 (by decide))).trans (W11_main_arg2 m g c),
      (h c _ (mem_uc main_arg3 (by decide))).trans (W11_main_arg3 m g c),
      (h c _ (mem_uc main_arg4 (by decide))).trans (W11_main_arg4 m g c)⟩
  · refine (θ_run _ _ _).mono (fun r h c => ?_) (Cert.MixRefIdeal.Value.run m' g')
    obtain ⟨h0, h1, h2, h3, h4, h5, h6, h7, h8⟩ := h c
    obtain ⟨e0, e1, e2, e3, e4⟩ := hm c
    refine ⟨h0.trans ((val_main_v62_eq _ _).trans ?_), h1.trans ((val_main_v63_eq _ _ _).trans ?_),
      h2.trans ((val_main_v64_eq _ _).trans ?_), h3.trans ((val_main_v65_eq _ _ _ _).trans ?_), h4, h5, h6, h7, h8⟩
    · rw [e0, e3]; exact (shift_prompt_ref m c).trans (shift_prompt m g c).symm
    · rw [e0, e3, e4]; exact (conv_prompt_ref m c).trans (conv_prompt m g c).symm
    · rw [e1, e3]; exact (shift_sample_ref m c).trans (shift_sample m g c).symm
    · rw [e1, e2, e3, e4]; exact (conv_sample_ref m c).trans (conv_sample m g c).symm

end Cert.MixIdeal.Values
-- ==== Proof.Feed.lean ====
/-
  The block operations of the layer's second half over the extended reals, by rows and columns, at any number of
  rows: the output projection, the feed-forward layer's gated product and its projection back, the embedding gate;
  and what a block of each kernel stores, shown to be a block of these.
-/
module

public import proofs.«01_k».proof.Proof.Blocks

@[expose] public section

noncomputable section

namespace Layer

open Idealize.ShloMosaic Idealize.ShloMosaic.ValueIdx

variable {m m' n k M N : ℕ}

/-- The `k` rows of `w` from row `o` on. -/
def rowsFrom (o : ℕ) (w : Mat M n) (h : o + k ≤ M) : Mat k n := fun i => w (ix2 (shift o (i 0) h) (i 1))

/-- The output projection: the two halves of a row against the two halves of the weight's rows, on top of `x`. -/
def outProj (a b : Mat m 2048) (w : Mat 4096 4096) (x : Mat m 4096) : Mat m 4096 := fun i =>
  x i + (rowCol a (rowsFrom 0 w (by decide)) (i 0) (i 1) + rowCol b (rowsFrom 2048 w (by decide)) (i 0) (i 1))

/-- The feed-forward layer's gated product: `g · logistic g · u`, with `g` against column `c` and `u` against column
    `11008 + c` of the weight. -/
def swiglu (x : Mat m 4096) (w : Mat 4096 22016) : Mat m 11008 := fun i =>
  rowCol x w (i 0) (shift (b := 11008) 0 (i 1) (by decide))
    * Ideal.logistic (rowCol x w (i 0) (shift (b := 11008) 0 (i 1) (by decide)))
    * rowCol x w (i 0) (shift (b := 11008) 11008 (i 1) (by decide))

/-- The projection back from the feed-forward layer, on top of `x`. -/
def down (a : Mat m 11008) (w : Mat 11008 4096) (x : Mat m 4096) : Mat m 4096 := fun i => x i + rowCol a w (i 0) (i 1)

/-- The embedding gate: the projected embedding by the logistic of the gate's product, on top of `x`. -/
def ple (a : Mat m 4096) (p : Mat m 256) (w : Mat 4096 4096) (v : Mat 256 4096) (x : Mat m 4096) : Mat m 4096 := fun i =>
  x i + Ideal.logistic (rowCol a w (i 0) (i 1)) * rowCol p v (i 0) (i 1)

/-- The feed-forward layer on top of its input: normalised, through the gated product and back. -/
def feed (x : Mat m 4096) (g : Mat 1 4096) (w : Mat 4096 22016) (v : Mat 11008 4096) : Mat m 4096 :=
  down (swiglu (rms x g) w) v x

/-- The embedding gate on top of its input, the gate's operand normalised. -/
def gate (x : Mat m 4096) (p : Mat m 256) (g : Mat 1 4096) (w : Mat 4096 4096) (v : Mat 256 4096) : Mat m 4096 :=
  ple (rms x g) p w v x

/-! ## What a block of each kernel stores

  The block's row `r` is row `row r` of the whole array and its column `c` is column `col c`; the hypotheses say that
  each operand's block holds the entries that those name. -/

section Stored

variable (row : Fin m → Fin M)

/-- The product of a rounded matrix with the columns of a matrix, from nothing. -/
theorem product_rounded_cols (x : FVec Ideal ⟨2, ![m, k]⟩ .f32) (hx : (⟨2, ![m, k]⟩ : Shape).ShapeCasts ⟨2, ![m, k]⟩)
    (w : FVec Ideal ⟨2, ![k, n]⟩ .bf16) (hw : (⟨2, ![k, n]⟩ : Shape).ShapeCasts ⟨2, ![k, n]⟩)
    (hb : FTy.bits .bf16 < FTy.bits .f32) (r : Fin m) (c : Fin n) :
    FloatOps.matmul (DotDims.plain m k n) none (truncf (F := Ideal) .bf16 (shapeCast ⟨2, ![m, k]⟩ x hx) hb)
      (shapeCast ⟨2, ![k, n]⟩ w hw) (constant (F := Ideal) ⟨2, ![m, n]⟩ .f32 0x00000000#32) (ix2 r c)
      = rowCol x w r c := by
  rw [Ideal.matmul_plain_apply, shapeCast_self, shapeCast_self, constant_apply, Ideal.ofBits_zero_f32, zero_add]
  rfl

variable {s : Shape} {A B C : FVec Ideal s .f32} {i : s.Idx} {a b d : EReal}

/-- A value by its logistic by another value, rounded. -/
theorem gated_at (ha : A i = a) (hb : B i = b) (h : FTy.bits .bf16 < FTy.bits .f32) :
    truncf (F := Ideal) .bf16 (mulf (mulf A (logistic A)) B) h i = a * Ideal.logistic a * b := by subst ha hb; rfl

/-- A value by the logistic of another, on top of a third. -/
theorem gate_at (hd : C i = d) (ha : A i = a) (hb : B i = b) :
    addf C (mulf (logistic A) B) i = d + Ideal.logistic a * b := by subst ha hb hd; rfl

/-- A block of the output projection. -/
theorem outProj_block (col : Fin n → Fin 4096) {a' b' : FVec Ideal ⟨2, ![m, 2048]⟩ .bf16} {w' v' : FVec Ideal ⟨2, ![2048, n]⟩ .bf16}
    {x' : FVec Ideal ⟨2, ![m, n]⟩ .f32} {a b : Mat M 2048} {w x}
    (ha : ∀ r j, a' (ix2 r j) = a (ix2 (row r) j)) (hb : ∀ r j, b' (ix2 r j) = b (ix2 (row r) j))
    (hw : ∀ j c, w' (ix2 j c) = w (ix2 (shift 0 j (by decide)) (col c)))
    (hv : ∀ j c, v' (ix2 j c) = w (ix2 (shift 2048 j (by decide)) (col c)))
    (hx : ∀ r c, x' (ix2 r c) = x (ix2 (row r) (col c)))
    (h1 : (⟨2, ![m, 2048]⟩ : Shape).ShapeCasts ⟨2, ![m, 2048]⟩) (h2 : (⟨2, ![2048, n]⟩ : Shape).ShapeCasts ⟨2, ![2048, n]⟩)
    (h3 : (⟨2, ![m, n]⟩ : Shape).ShapeCasts ⟨2, ![m, n]⟩) (r : Fin m) (c : Fin n) :
    addf (shapeCast ⟨2, ![m, n]⟩ x' h3) (addf
      (FloatOps.matmul (DotDims.plain m 2048 n) none (shapeCast ⟨2, ![m, 2048]⟩ a' h1) (shapeCast ⟨2, ![2048, n]⟩ w' h2)
        (constant (F := Ideal) ⟨2, ![m, n]⟩ .f32 0x00000000#32))
      (FloatOps.matmul (DotDims.plain m 2048 n) none (shapeCast ⟨2, ![m, 2048]⟩ b' h1) (shapeCast ⟨2, ![2048, n]⟩ v' h2)
        (constant (F := Ideal) ⟨2, ![m, n]⟩ .f32 0x00000000#32))) (ix2 r c)
      = outProj a b w x (ix2 (row r) (col c)) := by
  rw [shapeCast_self x']
  refine congrArg₂ (· + ·) (hx r c) (congrArg₂ (· + ·) ?_ ?_)
  · exact (product_cols a' h1 w' h2 r c).trans (rowCol_congr (ha r) fun j => hw j c)
  · exact (product_cols b' h1 v' h2 r c).trans (rowCol_congr (hb r) fun j => hv j c)

/-- A block of the gated product. -/
theorem swiglu_block (col : Fin n → Fin 11008) {x' : FVec Ideal ⟨2, ![m, 4096]⟩ .bf16} {w' v' : FVec Ideal ⟨2, ![4096, n]⟩ .f32}
    {x : Mat M 4096} {w} (hx : ∀ r j, x' (ix2 r j) = x (ix2 (row r) j))
    (hw : ∀ j c, w' (ix2 j c) = w (ix2 j (shift 0 (col c) (by decide))))
    (hv : ∀ j c, v' (ix2 j c) = w (ix2 j (shift 11008 (col c) (by decide))))
    (h1 : (⟨2, ![m, 4096]⟩ : Shape).ShapeCasts ⟨2, ![m, 4096]⟩) (h2 : (⟨2, ![4096, n]⟩ : Shape).ShapeCasts ⟨2, ![4096, n]⟩)
    (hb1 hb2 hb3 : FTy.bits .bf16 < FTy.bits .f32) (r : Fin m) (c : Fin n) :
    truncf (F := Ideal) .bf16 (mulf (mulf
      (FloatOps.matmul (DotDims.plain m 4096 n) none (shapeCast ⟨2, ![m, 4096]⟩ x' h1)
        (truncf (F := Ideal) .bf16 (shapeCast ⟨2, ![4096, n]⟩ w' h2) hb1) (constant (F := Ideal) ⟨2, ![m, n]⟩ .f32 0x00000000#32))
      (logistic (FloatOps.matmul (DotDims.plain m 4096 n) none (shapeCast ⟨2, ![m, 4096]⟩ x' h1)
        (truncf (F := Ideal) .bf16 (shapeCast ⟨2, ![4096, n]⟩ w' h2) hb1) (constant (F := Ideal) ⟨2, ![m, n]⟩ .f32 0x00000000#32))))
      (FloatOps.matmul (DotDims.plain m 4096 n) none (shapeCast ⟨2, ![m, 4096]⟩ x' h1)
        (truncf (F := Ideal) .bf16 (shapeCast ⟨2, ![4096, n]⟩ v' h2) hb2) (constant (F := Ideal) ⟨2, ![m, n]⟩ .f32 0x00000000#32))) hb3 (ix2 r c)
      = swiglu x w (ix2 (row r) (col c)) := by
  have e := (product_cols_rounded x' h1 w' h2 hb1 r c).trans (rowCol_congr (hx r) fun j => hw j c)
  exact gated_at e ((product_cols_rounded x' h1 v' h2 hb2 r c).trans (rowCol_congr (hx r) fun j => hv j c)) hb3

/-- A block of the projection back. -/
theorem down_block (col : Fin n → Fin 4096) {a' : FVec Ideal ⟨2, ![m, 11008]⟩ .bf16} {w' : FVec Ideal ⟨2, ![11008, n]⟩ .bf16}
    {x' : FVec Ideal ⟨2, ![m, n]⟩ .f32} {a : Mat M 11008} {w x}
    (ha : ∀ r j, a' (ix2 r j) = a (ix2 (row r) j)) (hw : ∀ j c, w' (ix2 j c) = w (ix2 j (col c)))
    (hx : ∀ r c, x' (ix2 r c) = x (ix2 (row r) (col c)))
    (h1 : (⟨2, ![m, 11008]⟩ : Shape).ShapeCasts ⟨2, ![m, 11008]⟩) (h2 : (⟨2, ![11008, n]⟩ : Shape).ShapeCasts ⟨2, ![11008, n]⟩)
    (h3 : (⟨2, ![m, n]⟩ : Shape).ShapeCasts ⟨2, ![m, n]⟩) (r : Fin m) (c : Fin n) :
    addf (shapeCast ⟨2, ![m, n]⟩ x' h3)
      (FloatOps.matmul (DotDims.plain m 11008 n) none (shapeCast ⟨2, ![m, 11008]⟩ a' h1) (shapeCast ⟨2, ![11008, n]⟩ w' h2)
        (constant (F := Ideal) ⟨2, ![m, n]⟩ .f32 0x00000000#32)) (ix2 r c)
      = down a w x (ix2 (row r) (col c)) := by
  rw [shapeCast_self x']
  exact congrArg₂ (· + ·) (hx r c) ((product_cols a' h1 w' h2 r c).trans (rowCol_congr (ha r) fun j => hw j c))

/-- A block of the embedding gate. -/
theorem ple_block (col : Fin n → Fin 4096) {a' : FVec Ideal ⟨2, ![m, 4096]⟩ .bf16} {p' : FVec Ideal ⟨2, ![m, 256]⟩ .f32}
    {w' : FVec Ideal ⟨2, ![4096, n]⟩ .bf16} {v' : FVec Ideal ⟨2, ![256, n]⟩ .bf16} {x' : FVec Ideal ⟨2, ![m, n]⟩ .f32}
    {a : Mat M 4096} {p w v x}
    (ha : ∀ r j, a' (ix2 r j) = a (ix2 (row r) j)) (hp : ∀ r j, p' (ix2 r j) = p (ix2 (row r) j))
    (hw : ∀ j c, w' (ix2 j c) = w (ix2 j (col c))) (hv : ∀ j c, v' (ix2 j c) = v (ix2 j (col c)))
    (hx : ∀ r c, x' (ix2 r c) = x (ix2 (row r) (col c)))
    (h1 : (⟨2, ![m, 4096]⟩ : Shape).ShapeCasts ⟨2, ![m, 4096]⟩) (h2 : (⟨2, ![4096, n]⟩ : Shape).ShapeCasts ⟨2, ![4096, n]⟩)
    (h3 : (⟨2, ![m, n]⟩ : Shape).ShapeCasts ⟨2, ![m, n]⟩) (h4 : (⟨2, ![m, 256]⟩ : Shape).ShapeCasts ⟨2, ![m, 256]⟩)
    (h5 : (⟨2, ![256, n]⟩ : Shape).ShapeCasts ⟨2, ![256, n]⟩) (hb : FTy.bits .bf16 < FTy.bits .f32) (r : Fin m) (c : Fin n) :
    addf (shapeCast ⟨2, ![m, n]⟩ x' h3) (mulf
      (logistic (FloatOps.matmul (DotDims.plain m 4096 n) none (shapeCast ⟨2, ![m, 4096]⟩ a' h1) (shapeCast ⟨2, ![4096, n]⟩ w' h2)
        (constant (F := Ideal) ⟨2, ![m, n]⟩ .f32 0x00000000#32)))
      (FloatOps.matmul (DotDims.plain m 256 n) none (truncf (F := Ideal) .bf16 (shapeCast ⟨2, ![m, 256]⟩ p' h4) hb)
        (shapeCast ⟨2, ![256, n]⟩ v' h5) (constant (F := Ideal) ⟨2, ![m, n]⟩ .f32 0x00000000#32))) (ix2 r c)
      = ple a p w v x (ix2 (row r) (col c)) := by
  rw [shapeCast_self x']
  refine gate_at (hx r c) ?_ ?_
  · exact (product_cols a' h1 w' h2 r c).trans (rowCol_congr (ha r) fun j => hw j c)
  · exact (product_rounded_cols p' h4 v' h5 hb r c).trans (rowCol_congr (hp r) fun j => hv j c)

end Stored

end Layer
-- ==== Proof.TailPrompt.lean ====
/-
  What each call of the layer's second half leaves, at the prompt, in its result array, as a function of the arrays it reads.
-/
module

public import proofs.«01_k».proof.Proof.Gen.TailIdeal.Frame
public import proofs.«01_k».proof.Proof.Feed
public import Idealize.ShloMosaic.Lib.Pipeline.ValueKit.Geometry

@[expose] public section

set_option maxRecDepth 16384

noncomputable section

namespace Cert.TailIdeal.Prompt

open Idealize.ShloMosaic Idealize.ShloMosaic.TcCoe Idealize.SL.Sem Idealize.ShloMosaic.ValueIdx
open Idealize.ShloMosaic.Pipeline (Dat Window)
open Cert.TailIdeal Cert.TailIdeal.Gen Layer

variable (V : (c : Dev nD) → (b : Ref sig .tc) → Buf (Elt Ideal) ((c : Thread nD τ).loc b))

theorem hz : (![0, 0] : Fin 2 → Nat) = fun _ => 0 := funext fun a => by fin_cases a <;> rfl

/-! ## The output projection, at the prompt -/

/-- Where the blocks start. -/
theorem start0 : ∀ t : Fin grid0.N, (start win0_0 t 0 = t.val / 8 * 1024 ∧ start win0_0 t 1 = 0)
    ∧ (start win0_1 t 0 = t.val / 8 * 1024 ∧ start win0_1 t 1 = 0)
    ∧ (start win0_2 t 0 = 0 ∧ start win0_2 t 1 = t.val % 8 * 512)
    ∧ (start win0_3 t 0 = 2048 ∧ start win0_3 t 1 = t.val % 8 * 512)
    ∧ (start win0_4 t 0 = t.val / 8 * 1024 ∧ start win0_4 t 1 = t.val % 8 * 512)
    ∧ (start win0_5 t 0 = t.val / 8 * 1024 ∧ start win0_5 t 1 = t.val % 8 * 512) := by decide +kernel

/-- The array row that row `r` of block `t` is. -/
abbrev row0 (t : Fin grid0.N) (r : Fin 1024) : Fin 8192 := shift (t.val / 8 * 1024) r (by have := Nat.lt_of_lt_of_eq t.isLt N_0; omega)

/-- The array column that column `j` of block `t` is. -/
abbrev col0 (t : Fin grid0.N) (j : Fin 512) : Fin 4096 := shift (t.val % 8 * 512) j (by omega)

/-- Where an element of the result's block lies. -/
theorem out0 (t : Fin grid0.N) (r : Fin 1024) (j : Fin 512) : (win0_5.rect t).emb (ix2 r j) = ix2 (row0 t r) (col0 t j) :=
  Shape.idx_ext₂ (emb_add win0_5 t _ 0 (start0 t).2.2.2.2.2.1) (emb_add win0_5 t _ 1 (start0 t).2.2.2.2.2.2)

/-- The result array is the output projection. -/
theorem final0 (c : Dev nD) : (dat0 V c).arrAt 5 cfg0.N = outProj (m := 8192) (V c main_v13) (V c main_v14) (V c main_v1) (V c main_v12) := by
  refine Dat.arrAt_eq_of_cover _ 5 _ (fun t _ => ?_) (Window.Covers.cover win0_5 (by decide +kernel) (Memref.isWhole_whole _))
  show (cfg0.win 5).cut (grid0.coords t) ((dat0 V c).after 5 t) = _
  rw [after0_5]
  unfold out0_5
  rw [View.canon_unit_zero hz, View.ld_unit_zero hz, View.ld_unit_zero hz, View.ld_unit_zero hz, View.ld_unit_zero hz, View.ld_unit_zero hz]
  refine mat_ext fun r j => (outProj_block (m := 1024) (row0 t) (col0 t) (a' := iblk0 V c 0 t) (b' := iblk0 V c 1 t) (w' := iblk0 V c 2 t) (v' := iblk0 V c 3 t) (x' := iblk0 V c 4 t)
    (fun _ _ => congrArg (V c main_v13) (Shape.idx_ext₂ (emb_add win0_0 t _ 0 (start0 t).1.1) (emb_zero win0_0 t _ 1 (start0 t).1.2)))
    (fun _ _ => congrArg (V c main_v14) (Shape.idx_ext₂ (emb_add win0_1 t _ 0 (start0 t).2.1.1) (emb_zero win0_1 t _ 1 (start0 t).2.1.2)))
    (fun _ _ => congrArg (V c main_v1) (Shape.idx_ext₂ (emb_add win0_2 t _ 0 (start0 t).2.2.1.1) (emb_add win0_2 t _ 1 (start0 t).2.2.1.2)))
    (fun _ _ => congrArg (V c main_v1) (Shape.idx_ext₂ (emb_add win0_3 t _ 0 (start0 t).2.2.2.1.1) (emb_add win0_3 t _ 1 (start0 t).2.2.2.1.2)))
    (fun _ _ => congrArg (V c main_v12) (Shape.idx_ext₂ (emb_add win0_4 t _ 0 (start0 t).2.2.2.2.1.1) (emb_add win0_4 t _ 1 (start0 t).2.2.2.2.1.2)))
    _ _ _ r j).trans ?_
  exact congrArg (outProj (m := 8192) (V c main_v13) (V c main_v14) (V c main_v1) (V c main_v12)) (out0 t r j).symm

/-! ## The norm before the feed-forward layer, at the prompt -/

/-- Where the blocks start. -/
theorem start1 : ∀ t : Fin grid1.N, (start win1_0 t 0 = t.val * 512 ∧ start win1_0 t 1 = 0)
    ∧ (start win1_1 t 0 = 0 ∧ start win1_1 t 1 = 0)
    ∧ (start win1_2 t 0 = t.val * 512 ∧ start win1_2 t 1 = 0) := by decide +kernel

/-- The array row that row `r` of block `t` is. -/
abbrev row1 (t : Fin grid1.N) (r : Fin 512) : Fin 8192 := shift (t.val * 512) r (by have := Nat.lt_of_lt_of_eq t.isLt N_1; omega)

/-- Where an element of the result's block lies. -/
theorem out1 (t : Fin grid1.N) (r : Fin 512) (j : Fin 4096) : (win1_2.rect t).emb (ix2 r j) = ix2 (row1 t r) j :=
  Shape.idx_ext₂ (emb_add win1_2 t _ 0 (start1 t).2.2.1) (emb_zero win1_2 t _ 1 (start1 t).2.2.2)

/-- The result array is the normalised rows. -/
theorem final1 (c : Dev nD) : (dat1 V c).arrAt 2 cfg1.N = rms (m := 8192) (V c main_v15) (V c main_v16) := by
  refine Dat.arrAt_eq_of_cover _ 2 _ (fun t _ => ?_) (Window.Covers.cover win1_2 (by decide +kernel) (Memref.isWhole_whole _))
  show (cfg1.win 2).cut (grid1.coords t) ((dat1 V c).after 2 t) = _
  rw [after1_2]
  unfold out1_2
  rw [View.canon_unit_zero hz, View.ld_unit_zero hz, View.ld_unit_zero hz]
  refine (rms_stored (m := 512) _ _ _ _ _ _ _ _ _ _).trans (mat_ext fun r j => ?_)
  rw [show iblk1 V c 1 t = V c main_v16 from mat_ext fun _ _ => congrArg (V c main_v16) (Shape.idx_ext₂ (emb_zero win1_1 t _ 0 (start1 t).2.1.1) (emb_zero win1_1 t _ 1 (start1 t).2.1.2))]
  refine (rms_row _ j fun _ => ?_).trans (congrArg (rms (m := 8192) (V c main_v15) (V c main_v16)) (out1 t r j).symm)
  exact congrArg (V c main_v15) (Shape.idx_ext₂ (emb_add win1_0 t _ 0 (start1 t).1.1) (emb_zero win1_0 t _ 1 (start1 t).1.2))

/-! ## The gated product, at the prompt -/

/-- Where the blocks start. -/
theorem start2 : ∀ t : Fin grid2.N, (start win2_0 t 0 = t.val / 43 * 2048 ∧ start win2_0 t 1 = 0)
    ∧ (start win2_1 t 0 = 0 ∧ start win2_1 t 1 = 0 + t.val % 43 * 256)
    ∧ (start win2_2 t 0 = 0 ∧ start win2_2 t 1 = 11008 + t.val % 43 * 256)
    ∧ (start win2_3 t 0 = t.val / 43 * 2048 ∧ start win2_3 t 1 = t.val % 43 * 256) := by decide +kernel

/-- The array row that row `r` of block `t` is. -/
abbrev row2 (t : Fin grid2.N) (r : Fin 2048) : Fin 8192 := shift (t.val / 43 * 2048) r (by have := Nat.lt_of_lt_of_eq t.isLt N_2; omega)

/-- The array column that column `j` of block `t` is. -/
abbrev col2 (t : Fin grid2.N) (j : Fin 256) : Fin 11008 := shift (t.val % 43 * 256) j (by omega)

/-- Where an element of the result's block lies. -/
theorem out2 (t : Fin grid2.N) (r : Fin 2048) (j : Fin 256) : (win2_3.rect t).emb (ix2 r j) = ix2 (row2 t r) (col2 t j) :=
  Shape.idx_ext₂ (emb_add win2_3 t _ 0 (start2 t).2.2.2.1) (emb_add win2_3 t _ 1 (start2 t).2.2.2.2)

/-- The result array is the gated product. -/
theorem final2 (c : Dev nD) : (dat2 V c).arrAt 3 cfg2.N = swiglu (m := 8192) (V c main_v17) (V c main_v3) := by
  refine Dat.arrAt_eq_of_cover _ 3 _ (fun t _ => ?_) (Window.Covers.cover win2_3 (by decide +kernel) (Memref.isWhole_whole _))
  show (cfg2.win 3).cut (grid2.coords t) ((dat2 V c).after 3 t) = _
  rw [after2_3]
  unfold out2_3
  rw [View.canon_unit_zero hz, View.ld_unit_zero hz, View.ld_unit_zero hz, View.ld_unit_zero hz]
  refine mat_ext fun r j => (swiglu_block (m := 2048) (row2 t) (col2 t) (x' := iblk2 V c 0 t) (w' := iblk2 V c 1 t) (v' := iblk2 V c 2 t)
    (fun _ _ => congrArg (V c main_v17) (Shape.idx_ext₂ (emb_add win2_0 t _ 0 (start2 t).1.1) (emb_zero win2_0 t _ 1 (start2 t).1.2)))
    (fun _ _ => congrArg (V c main_v3) (Shape.idx_ext₂ (emb_zero win2_1 t _ 0 (start2 t).2.1.1) ((emb_add win2_1 t _ 1 (start2 t).2.1.2).trans (Nat.add_assoc _ _ _))))
    (fun _ _ => congrArg (V c main_v3) (Shape.idx_ext₂ (emb_zero win2_2 t _ 0 (start2 t).2.2.1.1) ((emb_add win2_2 t _ 1 (start2 t).2.2.1.2).trans (Nat.add_assoc _ _ _))))
    _ _ _ _ _ r j).trans ?_
  exact congrArg (swiglu (m := 8192) (V c main_v17) (V c main_v3)) (out2 t r j).symm

/-! ## The projection back, at the prompt -/

/-- Where the blocks start. -/
theorem start3 : ∀ t : Fin grid3.N, (start win3_0 t 0 = t.val / 8 * 512 ∧ start win3_0 t 1 = 0)
    ∧ (start win3_1 t 0 = 0 ∧ start win3_1 t 1 = t.val % 8 * 512)
    ∧ (start win3_2 t 0 = t.val / 8 * 512 ∧ start win3_2 t 1 = t.val % 8 * 512)
    ∧ (start win3_3 t 0 = t.val / 8 * 512 ∧ start win3_3 t 1 = t.val % 8 * 512) := by decide +kernel

/-- The array row that row `r` of block `t` is. -/
abbrev row3 (t : Fin grid3.N) (r : Fin 512) : Fin 8192 := shift (t.val / 8 * 512) r (by have := Nat.lt_of_lt_of_eq t.isLt N_3; omega)

/-- The array column that column `j` of block `t` is. -/
abbrev col3 (t : Fin grid3.N) (j : Fin 512) : Fin 4096 := shift (t.val % 8 * 512) j (by omega)

/-- Where an element of the result's block lies. -/
theorem out3 (t : Fin grid3.N) (r : Fin 512) (j : Fin 512) : (win3_3.rect t).emb (ix2 r j) = ix2 (row3 t r) (col3 t j) :=
  Shape.idx_ext₂ (emb_add win3_3 t _ 0 (start3 t).2.2.2.1) (emb_add win3_3 t _ 1 (start3 t).2.2.2.2)

/-- The result array is the projection back. -/
theorem final3 (c : Dev nD) : (dat3 V c).arrAt 3 cfg3.N = down (m := 8192) (V c main_v18) (V c main_v5) (V c main_v15) := by
  refine Dat.arrAt_eq_of_cover _ 3 _ (fun t _ => ?_) (Window.Covers.cover win3_3 (by decide +kernel) (Memref.isWhole_whole _))
  show (cfg3.win 3).cut (grid3.coords t) ((dat3 V c).after 3 t) = _
  rw [after3_3]
  unfold out3_3
  rw [View.canon_unit_zero hz, View.ld_unit_zero hz, View.ld_unit_zero hz, View.ld_unit_zero hz]
  refine mat_ext fun r j => (down_block (m := 512) (row3 t) (col3 t) (a' := iblk3 V c 0 t) (w' := iblk3 V c 1 t) (x' := iblk3 V c 2 t)
    (fun _ _ => congrArg (V c main_v18) (Shape.idx_ext₂ (emb_add win3_0 t _ 0 (start3 t).1.1) (emb_zero win3_0 t _ 1 (start3 t).1.2)))
    (fun _ _ => congrArg (V c main_v5) (Shape.idx_ext₂ (emb_zero win3_1 t _ 0 (start3 t).2.1.1) (emb_add win3_1 t _ 1 (start3 t).2.1.2)))
    (fun _ _ => congrArg (V c main_v15) (Shape.idx_ext₂ (emb_add win3_2 t _ 0 (start3 t).2.2.1.1) (emb_add win3_2 t _ 1 (start3 t).2.2.1.2)))
    _ _ _ r j).trans ?_
  exact congrArg (down (m := 8192) (V c main_v18) (V c main_v5) (V c main_v15)) (out3 t r j).symm

/-! ## The norm before the embedding gate, at the prompt -/

/-- Where the blocks start. -/
theorem start4 : ∀ t : Fin grid4.N, (start win4_0 t 0 = t.val * 512 ∧ start win4_0 t 1 = 0)
    ∧ (start win4_1 t 0 = 0 ∧ start win4_1 t 1 = 0)
    ∧ (start win4_2 t 0 = t.val * 512 ∧ start win4_2 t 1 = 0) := by decide +kernel

/-- The array row that row `r` of block `t` is. -/
abbrev row4 (t : Fin grid4.N) (r : Fin 512) : Fin 8192 := shift (t.val * 512) r (by have := Nat.lt_of_lt_of_eq t.isLt N_4; omega)

/-- Where an element of the result's block lies. -/
theorem out4 (t : Fin grid4.N) (r : Fin 512) (j : Fin 4096) : (win4_2.rect t).emb (ix2 r j) = ix2 (row4 t r) j :=
  Shape.idx_ext₂ (emb_add win4_2 t _ 0 (start4 t).2.2.1) (emb_zero win4_2 t _ 1 (start4 t).2.2.2)

/-- The result array is the normalised rows. -/
theorem final4 (c : Dev nD) : (dat4 V c).arrAt 2 cfg4.N = rms (m := 8192) (V c main_v19) (V c main_v20) := by
  refine Dat.arrAt_eq_of_cover _ 2 _ (fun t _ => ?_) (Window.Covers.cover win4_2 (by decide +kernel) (Memref.isWhole_whole _))
  show (cfg4.win 2).cut (grid4.coords t) ((dat4 V c).after 2 t) = _
  rw [after4_2]
  unfold out4_2
  rw [View.canon_unit_zero hz, View.ld_unit_zero hz, View.ld_unit_zero hz]
  refine (rms_stored (m := 512) _ _ _ _ _ _ _ _ _ _).trans (mat_ext fun r j => ?_)
  rw [show iblk4 V c 1 t = V c main_v20 from mat_ext fun _ _ => congrArg (V c main_v20) (Shape.idx_ext₂ (emb_zero win4_1 t _ 0 (start4 t).2.1.1) (emb_zero win4_1 t _ 1 (start4 t).2.1.2))]
  refine (rms_row _ j fun _ => ?_).trans (congrArg (rms (m := 8192) (V c main_v19) (V c main_v20)) (out4 t r j).symm)
  exact congrArg (V c main_v19) (Shape.idx_ext₂ (emb_add win4_0 t _ 0 (start4 t).1.1) (emb_zero win4_0 t _ 1 (start4 t).1.2))

/-! ## The embedding gate, at the prompt -/

/-- Where the blocks start. -/
theorem start5 : ∀ t : Fin grid5.N, (start win5_0 t 0 = t.val / 8 * 1024 ∧ start win5_0 t 1 = 0)
    ∧ (start win5_1 t 0 = t.val / 8 * 1024 ∧ start win5_1 t 1 = 0)
    ∧ (start win5_2 t 0 = 0 ∧ start win5_2 t 1 = t.val % 8 * 512)
    ∧ (start win5_3 t 0 = 0 ∧ start win5_3 t 1 = t.val % 8 * 512)
    ∧ (start win5_4 t 0 = t.val / 8 * 1024 ∧ start win5_4 t 1 = t.val % 8 * 512)
    ∧ (start win5_5 t 0 = t.val / 8 * 1024 ∧ start win5_5 t 1 = t.val % 8 * 512) := by decide +kernel

/-- The array row that row `r` of block `t` is. -/
abbrev row5 (t : Fin grid5.N) (r : Fin 1024) : Fin 8192 := shift (t.val / 8 * 1024) r (by have := Nat.lt_of_lt_of_eq t.isLt N_5; omega)

/-- The array column that column `j` of block `t` is. -/
abbrev col5 (t : Fin grid5.N) (j : Fin 512) : Fin 4096 := shift (t.val % 8 * 512) j (by omega)

/-- Where an element of the result's block lies. -/
theorem out5 (t : Fin grid5.N) (r : Fin 1024) (j : Fin 512) : (win5_5.rect t).emb (ix2 r j) = ix2 (row5 t r) (col5 t j) :=
  Shape.idx_ext₂ (emb_add win5_5 t _ 0 (start5 t).2.2.2.2.2.1) (emb_add win5_5 t _ 1 (start5 t).2.2.2.2.2.2)

/-- The result array is the embedding gate. -/
theorem final5 (c : Dev nD) : (dat5 V c).arrAt 5 cfg5.N = ple (m := 8192) (V c main_v21) (V c main_v22) (V c main_v8) (V c main_v10) (V c main_v19) := by
  refine Dat.arrAt_eq_of_cover _ 5 _ (fun t _ => ?_) (Window.Covers.cover win5_5 (by decide +kernel) (Memref.isWhole_whole _))
  show (cfg5.win 5).cut (grid5.coords t) ((dat5 V c).after 5 t) = _
  rw [after5_5]
  unfold out5_5
  rw [View.canon_unit_zero hz, View.ld_unit_zero hz, View.ld_unit_zero hz, View.ld_unit_zero hz, View.ld_unit_zero hz, View.ld_unit_zero hz]
  refine mat_ext fun r j => (ple_block (m := 1024) (row5 t) (col5 t) (a' := iblk5 V c 0 t) (p' := iblk5 V c 1 t) (w' := iblk5 V c 2 t) (v' := iblk5 V c 3 t) (x' := iblk5 V c 4 t)
    (fun _ _ => congrArg (V c main_v21) (Shape.idx_ext₂ (emb_add win5_0 t _ 0 (start5 t).1.1) (emb_zero win5_0 t _ 1 (start5 t).1.2)))
    (fun _ _ => congrArg (V c main_v22) (Shape.idx_ext₂ (emb_add win5_1 t _ 0 (start5 t).2.1.1) (emb_zero win5_1 t _ 1 (start5 t).2.1.2)))
    (fun _ _ => congrArg (V c main_v8) (Shape.idx_ext₂ (emb_zero win5_2 t _ 0 (start5 t).2.2.1.1) (emb_add win5_2 t _ 1 (start5 t).2.2.1.2)))
    (fun _ _ => congrArg (V c main_v10) (Shape.idx_ext₂ (emb_zero win5_3 t _ 0 (start5 t).2.2.2.1.1) (emb_add win5_3 t _ 1 (start5 t).2.2.2.1.2)))
    (fun _ _ => congrArg (V c main_v19) (Shape.idx_ext₂ (emb_add win5_4 t _ 0 (start5 t).2.2.2.2.1.1) (emb_add win5_4 t _ 1 (start5 t).2.2.2.2.1.2)))
    _ _ _ _ _ _ r j).trans ?_
  exact congrArg (ple (m := 8192) (V c main_v21) (V c main_v22) (V c main_v8) (V c main_v10) (V c main_v19)) (out5 t r j).symm

/-! ## The last norm, at the prompt -/

/-- Where the blocks start. -/
theorem start12 : ∀ t : Fin grid12.N, (start win12_0 t 0 = t.val * 512 ∧ start win12_0 t 1 = 0)
    ∧ (start win12_1 t 0 = 0 ∧ start win12_1 t 1 = 0)
    ∧ (start win12_2 t 0 = t.val * 512 ∧ start win12_2 t 1 = 0) := by decide +kernel

/-- The array row that row `r` of block `t` is. -/
abbrev row12 (t : Fin grid12.N) (r : Fin 512) : Fin 8192 := shift (t.val * 512) r (by have := Nat.lt_of_lt_of_eq t.isLt N_12; omega)

/-- Where an element of the result's block lies. -/
theorem out12 (t : Fin grid12.N) (r : Fin 512) (j : Fin 4096) : (win12_2.rect t).emb (ix2 r j) = ix2 (row12 t r) j :=
  Shape.idx_ext₂ (emb_add win12_2 t _ 0 (start12 t).2.2.1) (emb_zero win12_2 t _ 1 (start12 t).2.2.2)

/-- The result array is the normalised rows. -/
theorem final12 (c : Dev nD) : (dat12 V c).arrAt 2 cfg12.N = rms (m := 8192) (V c main_v39) (V c main_v40) := by
  refine Dat.arrAt_eq_of_cover _ 2 _ (fun t _ => ?_) (Window.Covers.cover win12_2 (by decide +kernel) (Memref.isWhole_whole _))
  show (cfg12.win 2).cut (grid12.coords t) ((dat12 V c).after 2 t) = _
  rw [after12_2]
  unfold out12_2
  rw [View.canon_unit_zero hz, View.ld_unit_zero hz, View.ld_unit_zero hz]
  refine (rms_stored (m := 512) _ _ _ _ _ _ _ _ _ _).trans (mat_ext fun r j => ?_)
  rw [show iblk12 V c 1 t = V c main_v40 from mat_ext fun _ _ => congrArg (V c main_v40) (Shape.idx_ext₂ (emb_zero win12_1 t _ 0 (start12 t).2.1.1) (emb_zero win12_1 t _ 1 (start12 t).2.1.2))]
  refine (rms_row _ j fun _ => ?_).trans (congrArg (rms (m := 8192) (V c main_v39) (V c main_v40)) (out12 t r j).symm)
  exact congrArg (V c main_v39) (Shape.idx_ext₂ (emb_add win12_0 t _ 0 (start12 t).1.1) (emb_zero win12_0 t _ 1 (start12 t).1.2))

end Cert.TailIdeal.Prompt
-- ==== Proof.TailSample.lean ====
/-
  What each call of the layer's second half leaves, at the sample, in its result array, as a function of the arrays it reads.
-/
module

public import proofs.«01_k».proof.Proof.Gen.TailIdeal.Frame
public import proofs.«01_k».proof.Proof.Feed
public import Idealize.ShloMosaic.Lib.Pipeline.ValueKit.Geometry

@[expose] public section

set_option maxRecDepth 16384

noncomputable section

namespace Cert.TailIdeal.Sample

open Idealize.ShloMosaic Idealize.ShloMosaic.TcCoe Idealize.SL.Sem Idealize.ShloMosaic.ValueIdx
open Idealize.ShloMosaic.Pipeline (Dat Window)
open Cert.TailIdeal Cert.TailIdeal.Gen Layer

variable (V : (c : Dev nD) → (b : Ref sig .tc) → Buf (Elt Ideal) ((c : Thread nD τ).loc b))

theorem hz : (![0, 0] : Fin 2 → Nat) = fun _ => 0 := funext fun a => by fin_cases a <;> rfl

/-! ## The output projection, at the sample -/

/-- Where the blocks start. -/
theorem start6 : ∀ t : Fin grid6.N, (start win6_0 t 0 = t.val / 8 * 1024 ∧ start win6_0 t 1 = 0)
    ∧ (start win6_1 t 0 = t.val / 8 * 1024 ∧ start win6_1 t 1 = 0)
    ∧ (start win6_2 t 0 = 0 ∧ start win6_2 t 1 = t.val % 8 * 512)
    ∧ (start win6_3 t 0 = 2048 ∧ start win6_3 t 1 = t.val % 8 * 512)
    ∧ (start win6_4 t 0 = t.val / 8 * 1024 ∧ start win6_4 t 1 = t.val % 8 * 512)
    ∧ (start win6_5 t 0 = t.val / 8 * 1024 ∧ start win6_5 t 1 = t.val % 8 * 512) := by decide +kernel

/-- The array row that row `r` of block `t` is. -/
abbrev row6 (t : Fin grid6.N) (r : Fin 1024) : Fin 1024 := shift (t.val / 8 * 1024) r (by have := Nat.lt_of_lt_of_eq t.isLt N_6; omega)

/-- The array column that column `j` of block `t` is. -/
abbrev col6 (t : Fin grid6.N) (j : Fin 512) : Fin 4096 := shift (t.val % 8 * 512) j (by omega)

/-- Where an element of the result's block lies. -/
theorem out6 (t : Fin grid6.N) (r : Fin 1024) (j : Fin 512) : (win6_5.rect t).emb (ix2 r j) = ix2 (row6 t r) (col6 t j) :=
  Shape.idx_ext₂ (emb_add win6_5 t _ 0 (start6 t).2.2.2.2.2.1) (emb_add win6_5 t _ 1 (start6 t).2.2.2.2.2.2)

/-- The result array is the output projection. -/
theorem final6 (c : Dev nD) : (dat6 V c).arrAt 5 cfg6.N = outProj (m := 1024) (V c main_v27) (V c main_v28) (V c main_v1) (V c main_v26) := by
  refine Dat.arrAt_eq_of_cover _ 5 _ (fun t _ => ?_) (Window.Covers.cover win6_5 (by decide +kernel) (Memref.isWhole_whole _))
  show (cfg6.win 5).cut (grid6.coords t) ((dat6 V c).after 5 t) = _
  rw [after6_5]
  unfold out6_5
  rw [View.canon_unit_zero hz, View.ld_unit_zero hz, View.ld_unit_zero hz, View.ld_unit_zero hz, View.ld_unit_zero hz, View.ld_unit_zero hz]
  refine mat_ext fun r j => (outProj_block (m := 1024) (row6 t) (col6 t) (a' := iblk6 V c 0 t) (b' := iblk6 V c 1 t) (w' := iblk6 V c 2 t) (v' := iblk6 V c 3 t) (x' := iblk6 V c 4 t)
    (fun _ _ => congrArg (V c main_v27) (Shape.idx_ext₂ (emb_add win6_0 t _ 0 (start6 t).1.1) (emb_zero win6_0 t _ 1 (start6 t).1.2)))
    (fun _ _ => congrArg (V c main_v28) (Shape.idx_ext₂ (emb_add win6_1 t _ 0 (start6 t).2.1.1) (emb_zero win6_1 t _ 1 (start6 t).2.1.2)))
    (fun _ _ => congrArg (V c main_v1) (Shape.idx_ext₂ (emb_add win6_2 t _ 0 (start6 t).2.2.1.1) (emb_add win6_2 t _ 1 (start6 t).2.2.1.2)))
    (fun _ _ => congrArg (V c main_v1) (Shape.idx_ext₂ (emb_add win6_3 t _ 0 (start6 t).2.2.2.1.1) (emb_add win6_3 t _ 1 (start6 t).2.2.2.1.2)))
    (fun _ _ => congrArg (V c main_v26) (Shape.idx_ext₂ (emb_add win6_4 t _ 0 (start6 t).2.2.2.2.1.1) (emb_add win6_4 t _ 1 (start6 t).2.2.2.2.1.2)))
    _ _ _ r j).trans ?_
  exact congrArg (outProj (m := 1024) (V c main_v27) (V c main_v28) (V c main_v1) (V c main_v26)) (out6 t r j).symm

/-! ## The norm before the feed-forward layer, at the sample -/

/-- Where the blocks start. -/
theorem start7 : ∀ t : Fin grid7.N, (start win7_0 t 0 = t.val * 512 ∧ start win7_0 t 1 = 0)
    ∧ (start win7_1 t 0 = 0 ∧ start win7_1 t 1 = 0)
    ∧ (start win7_2 t 0 = t.val * 512 ∧ start win7_2 t 1 = 0) := by decide +kernel

/-- The array row that row `r` of block `t` is. -/
abbrev row7 (t : Fin grid7.N) (r : Fin 512) : Fin 1024 := shift (t.val * 512) r (by have := Nat.lt_of_lt_of_eq t.isLt N_7; omega)

/-- Where an element of the result's block lies. -/
theorem out7 (t : Fin grid7.N) (r : Fin 512) (j : Fin 4096) : (win7_2.rect t).emb (ix2 r j) = ix2 (row7 t r) j :=
  Shape.idx_ext₂ (emb_add win7_2 t _ 0 (start7 t).2.2.1) (emb_zero win7_2 t _ 1 (start7 t).2.2.2)

/-- The result array is the normalised rows. -/
theorem final7 (c : Dev nD) : (dat7 V c).arrAt 2 cfg7.N = rms (m := 1024) (V c main_v29) (V c main_v30) := by
  refine Dat.arrAt_eq_of_cover _ 2 _ (fun t _ => ?_) (Window.Covers.cover win7_2 (by decide +kernel) (Memref.isWhole_whole _))
  show (cfg7.win 2).cut (grid7.coords t) ((dat7 V c).after 2 t) = _
  rw [after7_2]
  unfold out7_2
  rw [View.canon_unit_zero hz, View.ld_unit_zero hz, View.ld_unit_zero hz]
  refine (rms_stored (m := 512) _ _ _ _ _ _ _ _ _ _).trans (mat_ext fun r j => ?_)
  rw [show iblk7 V c 1 t = V c main_v30 from mat_ext fun _ _ => congrArg (V c main_v30) (Shape.idx_ext₂ (emb_zero win7_1 t _ 0 (start7 t).2.1.1) (emb_zero win7_1 t _ 1 (start7 t).2.1.2))]
  refine (rms_row _ j fun _ => ?_).trans (congrArg (rms (m := 1024) (V c main_v29) (V c main_v30)) (out7 t r j).symm)
  exact congrArg (V c main_v29) (Shape.idx_ext₂ (emb_add win7_0 t _ 0 (start7 t).1.1) (emb_zero win7_0 t _ 1 (start7 t).1.2))

/-! ## The gated product, at the sample -/

/-- Where the blocks start. -/
theorem start8 : ∀ t : Fin grid8.N, (start win8_0 t 0 = t.val / 43 * 1024 ∧ start win8_0 t 1 = 0)
    ∧ (start win8_1 t 0 = 0 ∧ start win8_1 t 1 = 0 + t.val % 43 * 256)
    ∧ (start win8_2 t 0 = 0 ∧ start win8_2 t 1 = 11008 + t.val % 43 * 256)
    ∧ (start win8_3 t 0 = t.val / 43 * 1024 ∧ start win8_3 t 1 = t.val % 43 * 256) := by decide +kernel

/-- The array row that row `r` of block `t` is. -/
abbrev row8 (t : Fin grid8.N) (r : Fin 1024) : Fin 1024 := shift (t.val / 43 * 1024) r (by have := Nat.lt_of_lt_of_eq t.isLt N_8; omega)

/-- The array column that column `j` of block `t` is. -/
abbrev col8 (t : Fin grid8.N) (j : Fin 256) : Fin 11008 := shift (t.val % 43 * 256) j (by omega)

/-- Where an element of the result's block lies. -/
theorem out8 (t : Fin grid8.N) (r : Fin 1024) (j : Fin 256) : (win8_3.rect t).emb (ix2 r j) = ix2 (row8 t r) (col8 t j) :=
  Shape.idx_ext₂ (emb_add win8_3 t _ 0 (start8 t).2.2.2.1) (emb_add win8_3 t _ 1 (start8 t).2.2.2.2)

/-- The result array is the gated product. -/
theorem final8 (c : Dev nD) : (dat8 V c).arrAt 3 cfg8.N = swiglu (m := 1024) (V c main_v31) (V c main_v3) := by
  refine Dat.arrAt_eq_of_cover _ 3 _ (fun t _ => ?_) (Window.Covers.cover win8_3 (by decide +kernel) (Memref.isWhole_whole _))
  show (cfg8.win 3).cut (grid8.coords t) ((dat8 V c).after 3 t) = _
  rw [after8_3]
  unfold out8_3
  rw [View.canon_unit_zero hz, View.ld_unit_zero hz, View.ld_unit_zero hz, View.ld_unit_zero hz]
  refine mat_ext fun r j => (swiglu_block (m := 1024) (row8 t) (col8 t) (x' := iblk8 V c 0 t) (w' := iblk8 V c 1 t) (v' := iblk8 V c 2 t)
    (fun _ _ => congrArg (V c main_v31) (Shape.idx_ext₂ (emb_add win8_0 t _ 0 (start8 t).1.1) (emb_zero win8_0 t _ 1 (start8 t).1.2)))
    (fun _ _ => congrArg (V c main_v3) (Shape.idx_ext₂ (emb_zero win8_1 t _ 0 (start8 t).2.1.1) ((emb_add win8_1 t _ 1 (start8 t).2.1.2).trans (Nat.add_assoc _ _ _))))
    (fun _ _ => congrArg (V c main_v3) (Shape.idx_ext₂ (emb_zero win8_2 t _ 0 (start8 t).2.2.1.1) ((emb_add win8_2 t _ 1 (start8 t).2.2.1.2).trans (Nat.add_assoc _ _ _))))
    _ _ _ _ _ r j).trans ?_
  exact congrArg (swiglu (m := 1024) (V c main_v31) (V c main_v3)) (out8 t r j).symm

/-! ## The projection back, at the sample -/

/-- Where the blocks start. -/
theorem start9 : ∀ t : Fin grid9.N, (start win9_0 t 0 = t.val / 8 * 512 ∧ start win9_0 t 1 = 0)
    ∧ (start win9_1 t 0 = 0 ∧ start win9_1 t 1 = t.val % 8 * 512)
    ∧ (start win9_2 t 0 = t.val / 8 * 512 ∧ start win9_2 t 1 = t.val % 8 * 512)
    ∧ (start win9_3 t 0 = t.val / 8 * 512 ∧ start win9_3 t 1 = t.val % 8 * 512) := by decide +kernel

/-- The array row that row `r` of block `t` is. -/
abbrev row9 (t : Fin grid9.N) (r : Fin 512) : Fin 1024 := shift (t.val / 8 * 512) r (by have := Nat.lt_of_lt_of_eq t.isLt N_9; omega)

/-- The array column that column `j` of block `t` is. -/
abbrev col9 (t : Fin grid9.N) (j : Fin 512) : Fin 4096 := shift (t.val % 8 * 512) j (by omega)

/-- Where an element of the result's block lies. -/
theorem out9 (t : Fin grid9.N) (r : Fin 512) (j : Fin 512) : (win9_3.rect t).emb (ix2 r j) = ix2 (row9 t r) (col9 t j) :=
  Shape.idx_ext₂ (emb_add win9_3 t _ 0 (start9 t).2.2.2.1) (emb_add win9_3 t _ 1 (start9 t).2.2.2.2)

/-- The result array is the projection back. -/
theorem final9 (c : Dev nD) : (dat9 V c).arrAt 3 cfg9.N = down (m := 1024) (V c main_v32) (V c main_v5) (V c main_v29) := by
  refine Dat.arrAt_eq_of_cover _ 3 _ (fun t _ => ?_) (Window.Covers.cover win9_3 (by decide +kernel) (Memref.isWhole_whole _))
  show (cfg9.win 3).cut (grid9.coords t) ((dat9 V c).after 3 t) = _
  rw [after9_3]
  unfold out9_3
  rw [View.canon_unit_zero hz, View.ld_unit_zero hz, View.ld_unit_zero hz, View.ld_unit_zero hz]
  refine mat_ext fun r j => (down_block (m := 512) (row9 t) (col9 t) (a' := iblk9 V c 0 t) (w' := iblk9 V c 1 t) (x' := iblk9 V c 2 t)
    (fun _ _ => congrArg (V c main_v32) (Shape.idx_ext₂ (emb_add win9_0 t _ 0 (start9 t).1.1) (emb_zero win9_0 t _ 1 (start9 t).1.2)))
    (fun _ _ => congrArg (V c main_v5) (Shape.idx_ext₂ (emb_zero win9_1 t _ 0 (start9 t).2.1.1) (emb_add win9_1 t _ 1 (start9 t).2.1.2)))
    (fun _ _ => congrArg (V c main_v29) (Shape.idx_ext₂ (emb_add win9_2 t _ 0 (start9 t).2.2.1.1) (emb_add win9_2 t _ 1 (start9 t).2.2.1.2)))
    _ _ _ r j).trans ?_
  exact congrArg (down (m := 1024) (V c main_v32) (V c main_v5) (V c main_v29)) (out9 t r j).symm

/-! ## The norm before the embedding gate, at the sample -/

/-- Where the blocks start. -/
theorem start10 : ∀ t : Fin grid10.N, (start win10_0 t 0 = t.val * 512 ∧ start win10_0 t 1 = 0)
    ∧ (start win10_1 t 0 = 0 ∧ start win10_1 t 1 = 0)
    ∧ (start win10_2 t 0 = t.val * 512 ∧ start win10_2 t 1 = 0) := by decide +kernel

/-- The array row that row `r` of block `t` is. -/
abbrev row10 (t : Fin grid10.N) (r : Fin 512) : Fin 1024 := shift (t.val * 512) r (by have := Nat.lt_of_lt_of_eq t.isLt N_10; omega)

/-- Where an element of the result's block lies. -/
theorem out10 (t : Fin grid10.N) (r : Fin 512) (j : Fin 4096) : (win10_2.rect t).emb (ix2 r j) = ix2 (row10 t r) j :=
  Shape.idx_ext₂ (emb_add win10_2 t _ 0 (start10 t).2.2.1) (emb_zero win10_2 t _ 1 (start10 t).2.2.2)

/-- The result array is the normalised rows. -/
theorem final10 (c : Dev nD) : (dat10 V c).arrAt 2 cfg10.N = rms (m := 1024) (V c main_v33) (V c main_v34) := by
  refine Dat.arrAt_eq_of_cover _ 2 _ (fun t _ => ?_) (Window.Covers.cover win10_2 (by decide +kernel) (Memref.isWhole_whole _))
  show (cfg10.win 2).cut (grid10.coords t) ((dat10 V c).after 2 t) = _
  rw [after10_2]
  unfold out10_2
  rw [View.canon_unit_zero hz, View.ld_unit_zero hz, View.ld_unit_zero hz]
  refine (rms_stored (m := 512) _ _ _ _ _ _ _ _ _ _).trans (mat_ext fun r j => ?_)
  rw [show iblk10 V c 1 t = V c main_v34 from mat_ext fun _ _ => congrArg (V c main_v34) (Shape.idx_ext₂ (emb_zero win10_1 t _ 0 (start10 t).2.1.1) (emb_zero win10_1 t _ 1 (start10 t).2.1.2))]
  refine (rms_row _ j fun _ => ?_).trans (congrArg (rms (m := 1024) (V c main_v33) (V c main_v34)) (out10 t r j).symm)
  exact congrArg (V c main_v33) (Shape.idx_ext₂ (emb_add win10_0 t _ 0 (start10 t).1.1) (emb_zero win10_0 t _ 1 (start10 t).1.2))

/-! ## The embedding gate, at the sample -/

/-- Where the blocks start. -/
theorem start11 : ∀ t : Fin grid11.N, (start win11_0 t 0 = t.val / 8 * 1024 ∧ start win11_0 t 1 = 0)
    ∧ (start win11_1 t 0 = t.val / 8 * 1024 ∧ start win11_1 t 1 = 0)
    ∧ (start win11_2 t 0 = 0 ∧ start win11_2 t 1 = t.val % 8 * 512)
    ∧ (start win11_3 t 0 = 0 ∧ start win11_3 t 1 = t.val % 8 * 512)
    ∧ (start win11_4 t 0 = t.val / 8 * 1024 ∧ start win11_4 t 1 = t.val % 8 * 512)
    ∧ (start win11_5 t 0 = t.val / 8 * 1024 ∧ start win11_5 t 1 = t.val % 8 * 512) := by decide +kernel

/-- The array row that row `r` of block `t` is. -/
abbrev row11 (t : Fin grid11.N) (r : Fin 1024) : Fin 1024 := shift (t.val / 8 * 1024) r (by have := Nat.lt_of_lt_of_eq t.isLt N_11; omega)

/-- The array column that column `j` of block `t` is. -/
abbrev col11 (t : Fin grid11.N) (j : Fin 512) : Fin 4096 := shift (t.val % 8 * 512) j (by omega)

/-- Where an element of the result's block lies. -/
theorem out11 (t : Fin grid11.N) (r : Fin 1024) (j : Fin 512) : (win11_5.rect t).emb (ix2 r j) = ix2 (row11 t r) (col11 t j) :=
  Shape.idx_ext₂ (emb_add win11_5 t _ 0 (start11 t).2.2.2.2.2.1) (emb_add win11_5 t _ 1 (start11 t).2.2.2.2.2.2)

/-- The result array is the embedding gate. -/
theorem final11 (c : Dev nD) : (dat11 V c).arrAt 5 cfg11.N = ple (m := 1024) (V c main_v35) (V c main_v36) (V c main_v8) (V c main_v10) (V c main_v33) := by
  refine Dat.arrAt_eq_of_cover _ 5 _ (fun t _ => ?_) (Window.Covers.cover win11_5 (by decide +kernel) (Memref.isWhole_whole _))
  show (cfg11.win 5).cut (grid11.coords t) ((dat11 V c).after 5 t) = _
  rw [after11_5]
  unfold out11_5
  rw [View.canon_unit_zero hz, View.ld_unit_zero hz, View.ld_unit_zero hz, View.ld_unit_zero hz, View.ld_unit_zero hz, View.ld_unit_zero hz]
  refine mat_ext fun r j => (ple_block (m := 1024) (row11 t) (col11 t) (a' := iblk11 V c 0 t) (p' := iblk11 V c 1 t) (w' := iblk11 V c 2 t) (v' := iblk11 V c 3 t) (x' := iblk11 V c 4 t)
    (fun _ _ => congrArg (V c main_v35) (Shape.idx_ext₂ (emb_add win11_0 t _ 0 (start11 t).1.1) (emb_zero win11_0 t _ 1 (start11 t).1.2)))
    (fun _ _ => congrArg (V c main_v36) (Shape.idx_ext₂ (emb_add win11_1 t _ 0 (start11 t).2.1.1) (emb_zero win11_1 t _ 1 (start11 t).2.1.2)))
    (fun _ _ => congrArg (V c main_v8) (Shape.idx_ext₂ (emb_zero win11_2 t _ 0 (start11 t).2.2.1.1) (emb_add win11_2 t _ 1 (start11 t).2.2.1.2)))
    (fun _ _ => congrArg (V c main_v10) (Shape.idx_ext₂ (emb_zero win11_3 t _ 0 (start11 t).2.2.2.1.1) (emb_add win11_3 t _ 1 (start11 t).2.2.2.1.2)))
    (fun _ _ => congrArg (V c main_v33) (Shape.idx_ext₂ (emb_add win11_4 t _ 0 (start11 t).2.2.2.2.1.1) (emb_add win11_4 t _ 1 (start11 t).2.2.2.2.1.2)))
    _ _ _ _ _ _ r j).trans ?_
  exact congrArg (ple (m := 1024) (V c main_v35) (V c main_v36) (V c main_v8) (V c main_v10) (V c main_v33)) (out11 t r j).symm

/-! ## The last norm, at the sample -/

/-- Where the blocks start. -/
theorem start13 : ∀ t : Fin grid13.N, (start win13_0 t 0 = t.val * 512 ∧ start win13_0 t 1 = 0)
    ∧ (start win13_1 t 0 = 0 ∧ start win13_1 t 1 = 0)
    ∧ (start win13_2 t 0 = t.val * 512 ∧ start win13_2 t 1 = 0) := by decide +kernel

/-- The array row that row `r` of block `t` is. -/
abbrev row13 (t : Fin grid13.N) (r : Fin 512) : Fin 1024 := shift (t.val * 512) r (by have := Nat.lt_of_lt_of_eq t.isLt N_13; omega)

/-- Where an element of the result's block lies. -/
theorem out13 (t : Fin grid13.N) (r : Fin 512) (j : Fin 4096) : (win13_2.rect t).emb (ix2 r j) = ix2 (row13 t r) j :=
  Shape.idx_ext₂ (emb_add win13_2 t _ 0 (start13 t).2.2.1) (emb_zero win13_2 t _ 1 (start13 t).2.2.2)

/-- The result array is the normalised rows. -/
theorem final13 (c : Dev nD) : (dat13 V c).arrAt 2 cfg13.N = rms (m := 1024) (V c main_v43) (V c main_v44) := by
  refine Dat.arrAt_eq_of_cover _ 2 _ (fun t _ => ?_) (Window.Covers.cover win13_2 (by decide +kernel) (Memref.isWhole_whole _))
  show (cfg13.win 2).cut (grid13.coords t) ((dat13 V c).after 2 t) = _
  rw [after13_2]
  unfold out13_2
  rw [View.canon_unit_zero hz, View.ld_unit_zero hz, View.ld_unit_zero hz]
  refine (rms_stored (m := 512) _ _ _ _ _ _ _ _ _ _).trans (mat_ext fun r j => ?_)
  rw [show iblk13 V c 1 t = V c main_v44 from mat_ext fun _ _ => congrArg (V c main_v44) (Shape.idx_ext₂ (emb_zero win13_1 t _ 0 (start13 t).2.1.1) (emb_zero win13_1 t _ 1 (start13 t).2.1.2))]
  refine (rms_row _ j fun _ => ?_).trans (congrArg (rms (m := 1024) (V c main_v43) (V c main_v44)) (out13 t r j).symm)
  exact congrArg (V c main_v43) (Shape.idx_ext₂ (emb_add win13_0 t _ 0 (start13 t).1.1) (emb_zero win13_0 t _ 1 (start13 t).1.2))

end Cert.TailIdeal.Sample
-- ==== Proof.TailValue.lean ====
/-
  The two results of the layer's second half, each as a function of the program's arguments.
-/
module

public import proofs.«01_k».proof.Proof.TailPrompt
public import proofs.«01_k».proof.Proof.TailSample

@[expose] public section

set_option maxRecDepth 16384

noncomputable section

namespace Cert.TailIdeal.Values

open Idealize.ShloMosaic Idealize.ShloMosaic.TcCoe Idealize.SL.Sem Idealize.ShloMosaic.ValueIdx
open Cert.TailIdeal Cert.TailIdeal.Gen Layer

/-! ## The host steps, from any contents -/

section Hosts

variable (v : Valuation τ sig (Elt Ideal))

theorem host0_v1 : StableHlo.after hostOps0 v (Proc.devRef .tc main_v1) = (shapeCast S4096x4096 (v (Proc.devRef .tc main_arg8)) shapeCasts_S1x4096x4096_S4096x4096 : Mat 4096 4096) := by
  after_results_simp; rfl

theorem host0_v2 : StableHlo.after hostOps0 v (Proc.devRef .tc main_v2) = shapeCast S4096 (v (Proc.devRef .tc main_arg9)) shapeCasts_S1x4096_S4096 := by
  after_results_simp; rfl

theorem host0_v3 : StableHlo.after hostOps0 v (Proc.devRef .tc main_v3) = shapeCast S4096x22016 (v (Proc.devRef .tc main_arg10)) shapeCasts_S1x4096x22016_S4096x22016 := by
  after_results_simp; rfl

theorem host0_v5 : StableHlo.after hostOps0 v (Proc.devRef .tc main_v5) = (shapeCast S11008x4096 (v (Proc.devRef .tc main_arg11)) shapeCasts_S1x11008x4096_S11008x4096 : Mat 11008 4096) := by
  after_results_simp; rfl

theorem host0_v6 : StableHlo.after hostOps0 v (Proc.devRef .tc main_v6) = shapeCast S4096 (v (Proc.devRef .tc main_arg12)) shapeCasts_S1x4096_S4096 := by
  after_results_simp; rfl

theorem host0_v8 : StableHlo.after hostOps0 v (Proc.devRef .tc main_v8) = (shapeCast S4096x4096 (v (Proc.devRef .tc main_arg13)) shapeCasts_S1x4096x4096_S4096x4096 : Mat 4096 4096) := by
  after_results_simp; rfl

theorem host0_v10 : StableHlo.after hostOps0 v (Proc.devRef .tc main_v10) = (shapeCast S256x4096 (v (Proc.devRef .tc main_arg14)) shapeCasts_S1x256x4096_S256x4096 : Mat 256 4096) := by
  after_results_simp; rfl

theorem host0_v11 : StableHlo.after hostOps0 v (Proc.devRef .tc main_v11) = shapeCast S4x2048x256 (v (Proc.devRef .tc main_arg6)) shapeCasts_S1x4x2048x256_S4x2048x256 := by
  after_results_simp; rfl

theorem host0_v12 : StableHlo.after hostOps0 v (Proc.devRef .tc main_v12) = shapeCast S8192x4096 (v (Proc.devRef .tc main_arg0)) shapeCasts_S4x2048x4096_S8192x4096 := by
  after_results_simp; rfl

theorem host0_v13 : StableHlo.after hostOps0 v (Proc.devRef .tc main_v13) = shapeCast S8192x2048 (v (Proc.devRef .tc main_arg2)) shapeCasts_S4x2048x2048_S8192x2048 := by
  after_results_simp; rfl

theorem host0_v14 : StableHlo.after hostOps0 v (Proc.devRef .tc main_v14) = shapeCast S8192x2048 (v (Proc.devRef .tc main_arg3)) shapeCasts_S4x2048x2048_S8192x2048 := by
  after_results_simp; rfl

theorem host1_v16 : StableHlo.after hostOps1 v (Proc.devRef .tc main_v16) = shapeCast S1x4096 (v (Proc.devRef .tc main_v2)) shapeCasts_S4096_S1x4096 := by
  after_results_simp; rfl

theorem host4_v20 : StableHlo.after hostOps4 v (Proc.devRef .tc main_v20) = shapeCast S1x4096 (v (Proc.devRef .tc main_v6)) shapeCasts_S4096_S1x4096 := by
  after_results_simp; rfl

theorem host7_v30 : StableHlo.after hostOps7 v (Proc.devRef .tc main_v30) = shapeCast S1x4096 (v (Proc.devRef .tc main_v2)) shapeCasts_S4096_S1x4096 := by
  after_results_simp; rfl

theorem host10_v34 : StableHlo.after hostOps10 v (Proc.devRef .tc main_v34) = shapeCast S1x4096 (v (Proc.devRef .tc main_v6)) shapeCasts_S4096_S1x4096 := by
  after_results_simp; rfl

theorem host5_v22 : StableHlo.after hostOps5 v (Proc.devRef .tc main_v22) = shapeCast S8192x256 (v (Proc.devRef .tc main_v11)) shapeCasts_S4x2048x256_S8192x256 := by
  after_results_simp; rfl

theorem host6_v24 : StableHlo.after hostOps6 v (Proc.devRef .tc main_v24) = shapeCast S4x2048x4096 (v (Proc.devRef .tc main_v23)) shapeCasts_S8192x4096_S4x2048x4096 := by
  after_results_simp; rfl

theorem host6_v25 : StableHlo.after hostOps6 v (Proc.devRef .tc main_v25) = shapeCast S128x8x256 (v (Proc.devRef .tc main_arg7)) shapeCasts_S1x128x8x256_S128x8x256 := by
  after_results_simp; rfl

theorem host6_v26 : StableHlo.after hostOps6 v (Proc.devRef .tc main_v26) = shapeCast S1024x4096 (v (Proc.devRef .tc main_arg1)) shapeCasts_S128x8x4096_S1024x4096 := by
  after_results_simp; rfl

theorem host6_v27 : StableHlo.after hostOps6 v (Proc.devRef .tc main_v27) = shapeCast S1024x2048 (v (Proc.devRef .tc main_arg4)) shapeCasts_S128x8x2048_S1024x2048 := by
  after_results_simp; rfl

theorem host6_v28 : StableHlo.after hostOps6 v (Proc.devRef .tc main_v28) = shapeCast S1024x2048 (v (Proc.devRef .tc main_arg5)) shapeCasts_S128x8x2048_S1024x2048 := by
  after_results_simp; rfl

theorem host11_v36 : StableHlo.after hostOps11 v (Proc.devRef .tc main_v36) = shapeCast S1024x256 (v (Proc.devRef .tc main_v25)) shapeCasts_S128x8x256_S1024x256 := by
  after_results_simp; rfl

theorem host12_v38 : StableHlo.after hostOps12 v (Proc.devRef .tc main_v38) = shapeCast S128x8x4096 (v (Proc.devRef .tc main_v37)) shapeCasts_S1024x4096_S128x8x4096 := by
  after_results_simp; rfl

theorem host12_v39 : StableHlo.after hostOps12 v (Proc.devRef .tc main_v39) = shapeCast S8192x4096 (v (Proc.devRef .tc main_v24)) shapeCasts_S4x2048x4096_S8192x4096 := by
  after_results_simp; rfl

theorem host12_v40 : StableHlo.after hostOps12 v (Proc.devRef .tc main_v40) = shapeCast S1x4096 (v (Proc.devRef .tc main_arg15)) shapeCasts_S4096_S1x4096 := by
  after_results_simp; rfl

theorem host13_v42 : StableHlo.after hostOps13 v (Proc.devRef .tc main_v42) = shapeCast S4x2048x4096 (v (Proc.devRef .tc main_v41)) shapeCasts_S8192x4096_S4x2048x4096 := by
  after_results_simp; rfl

theorem host13_v43 : StableHlo.after hostOps13 v (Proc.devRef .tc main_v43) = shapeCast S1024x4096 (v (Proc.devRef .tc main_v38)) shapeCasts_S128x8x4096_S1024x4096 := by
  after_results_simp; rfl

theorem host13_v44 : StableHlo.after hostOps13 v (Proc.devRef .tc main_v44) = shapeCast S1x4096 (v (Proc.devRef .tc main_arg15)) shapeCasts_S4096_S1x4096 := by
  after_results_simp; rfl

theorem host14_v46 : StableHlo.after hostOps14 v (Proc.devRef .tc main_v46) = shapeCast S128x8x4096 (v (Proc.devRef .tc main_v45)) shapeCasts_S1024x4096_S128x8x4096 := by
  after_results_simp; rfl

end Hosts

variable (m : (ℓ : Loc nD τ sig) → Buf (Elt Ideal) ℓ) (ρ : Dev nD → PrngReg) (c : Dev nD)

/-! ## The arguments, as matrices -/

abbrev wOut : Mat 4096 4096 := shapeCast S4096x4096 (m ((c : Thread nD τ).loc main_arg8)) shapeCasts_S1x4096x4096_S4096x4096
abbrev gFeed : Mat 1 4096 := m ((c : Thread nD τ).loc main_arg9)
abbrev wUp : Mat 4096 22016 := shapeCast S4096x22016 (m ((c : Thread nD τ).loc main_arg10)) shapeCasts_S1x4096x22016_S4096x22016
abbrev wDown : Mat 11008 4096 := shapeCast S11008x4096 (m ((c : Thread nD τ).loc main_arg11)) shapeCasts_S1x11008x4096_S11008x4096
abbrev gGate : Mat 1 4096 := m ((c : Thread nD τ).loc main_arg12)
abbrev wGate : Mat 4096 4096 := shapeCast S4096x4096 (m ((c : Thread nD τ).loc main_arg13)) shapeCasts_S1x4096x4096_S4096x4096
abbrev wEmbed : Mat 256 4096 := shapeCast S256x4096 (m ((c : Thread nD τ).loc main_arg14)) shapeCasts_S1x256x4096_S256x4096
abbrev gLast : Mat 1 4096 := shapeCast S1x4096 (m ((c : Thread nD τ).loc main_arg15)) shapeCasts_S4096_S1x4096

/-- At the prompt: the layer's input, the two mixed halves and the embedding. -/
abbrev xPrompt : Mat 8192 4096 := shapeCast S8192x4096 (m ((c : Thread nD τ).loc main_arg0)) shapeCasts_S4x2048x4096_S8192x4096
abbrev rPrompt : Mat 8192 2048 := shapeCast S8192x2048 (m ((c : Thread nD τ).loc main_arg2)) shapeCasts_S4x2048x2048_S8192x2048
abbrev cPrompt : Mat 8192 2048 := shapeCast S8192x2048 (m ((c : Thread nD τ).loc main_arg3)) shapeCasts_S4x2048x2048_S8192x2048
abbrev pPrompt : Mat 8192 256 := shapeCast S8192x256 (shapeCast S4x2048x256 (m ((c : Thread nD τ).loc main_arg6)) shapeCasts_S1x4x2048x256_S4x2048x256) shapeCasts_S4x2048x256_S8192x256

/-- At the prompt: after the output projection, after the feed-forward layer, after the embedding gate. -/
abbrev mixedPrompt : Mat 8192 4096 := outProj (rPrompt m c) (cPrompt m c) (wOut m c) (xPrompt m c)
abbrev fedPrompt : Mat 8192 4096 := feed (mixedPrompt m c) (gFeed m c) (wUp m c) (wDown m c)
abbrev gatedPrompt : Mat 8192 4096 := gate (fedPrompt m c) (pPrompt m c) (gGate m c) (wGate m c) (wEmbed m c)

/-- At the sample: the layer's input, the two mixed halves and the embedding. -/
abbrev xSample : Mat 1024 4096 := shapeCast S1024x4096 (m ((c : Thread nD τ).loc main_arg1)) shapeCasts_S128x8x4096_S1024x4096
abbrev rSample : Mat 1024 2048 := shapeCast S1024x2048 (m ((c : Thread nD τ).loc main_arg4)) shapeCasts_S128x8x2048_S1024x2048
abbrev cSample : Mat 1024 2048 := shapeCast S1024x2048 (m ((c : Thread nD τ).loc main_arg5)) shapeCasts_S128x8x2048_S1024x2048
abbrev pSample : Mat 1024 256 := shapeCast S1024x256 (shapeCast S128x8x256 (m ((c : Thread nD τ).loc main_arg7)) shapeCasts_S1x128x8x256_S128x8x256) shapeCasts_S128x8x256_S1024x256

/-- At the sample: after the output projection, after the feed-forward layer, after the embedding gate. -/
abbrev mixedSample : Mat 1024 4096 := outProj (rSample m c) (cSample m c) (wOut m c) (xSample m c)
abbrev fedSample : Mat 1024 4096 := feed (mixedSample m c) (gFeed m c) (wUp m c) (wDown m c)
abbrev gatedSample : Mat 1024 4096 := gate (fedSample m c) (pSample m c) (gGate m c) (wGate m c) (wEmbed m c)

/-! ## What the first step prepares stays where it is -/

/-- What the first step prepares and later calls read. -/
abbrev prepared : List (Ref sig .tc) := [main_v1, main_v2, main_v3, main_v5, main_v6, main_v8, main_v10, main_v11]

variable (r : Ref sig .tc) (h : r ∈ prepared)
include h

theorem kept2 : W2 m ρ c (Proc.devRef .tc r) = W1 m ρ c (Proc.devRef .tc r) :=
  W2_of m ρ c r ((by decide : ∀ r ∈ prepared, ∀ w : Fin cfg0.W, Pipeline.arrRef spec0 w = r → (cfg0.win w).isOut = false) r h)

theorem kept3 : W3 m ρ c (Proc.devRef .tc r) = W1 m ρ c (Proc.devRef .tc r) :=
  (W3_of m ρ c r ((by decide : ∀ r ∈ prepared, r ∉ hostOps1_W) r h)).trans (kept2 m ρ c r h)

theorem kept4 : W4 m ρ c (Proc.devRef .tc r) = W1 m ρ c (Proc.devRef .tc r) :=
  (W4_of m ρ c r ((by decide : ∀ r ∈ prepared, ∀ w : Fin cfg1.W, Pipeline.arrRef spec1 w = r → (cfg1.win w).isOut = false) r h)).trans (kept3 m ρ c r h)

theorem kept5 : W5 m ρ c (Proc.devRef .tc r) = W1 m ρ c (Proc.devRef .tc r) :=
  (W5_of m ρ c r ((by decide : ∀ r ∈ prepared, ∀ w : Fin cfg2.W, Pipeline.arrRef spec2 w = r → (cfg2.win w).isOut = false) r h)).trans (kept4 m ρ c r h)

theorem kept6 : W6 m ρ c (Proc.devRef .tc r) = W1 m ρ c (Proc.devRef .tc r) :=
  (W6_of m ρ c r ((by decide : ∀ r ∈ prepared, ∀ w : Fin cfg3.W, Pipeline.arrRef spec3 w = r → (cfg3.win w).isOut = false) r h)).trans (kept5 m ρ c r h)

theorem kept7 : W7 m ρ c (Proc.devRef .tc r) = W1 m ρ c (Proc.devRef .tc r) :=
  (W7_of m ρ c r ((by decide : ∀ r ∈ prepared, r ∉ hostOps4_W) r h)).trans (kept6 m ρ c r h)

theorem kept8 : W8 m ρ c (Proc.devRef .tc r) = W1 m ρ c (Proc.devRef .tc r) :=
  (W8_of m ρ c r ((by decide : ∀ r ∈ prepared, ∀ w : Fin cfg4.W, Pipeline.arrRef spec4 w = r → (cfg4.win w).isOut = false) r h)).trans (kept7 m ρ c r h)

theorem kept9 : W9 m ρ c (Proc.devRef .tc r) = W1 m ρ c (Proc.devRef .tc r) :=
  (W9_of m ρ c r ((by decide : ∀ r ∈ prepared, r ∉ hostOps5_W) r h)).trans (kept8 m ρ c r h)

theorem kept10 : W10 m ρ c (Proc.devRef .tc r) = W1 m ρ c (Proc.devRef .tc r) :=
  (W10_of m ρ c r ((by decide : ∀ r ∈ prepared, ∀ w : Fin cfg5.W, Pipeline.arrRef spec5 w = r → (cfg5.win w).isOut = false) r h)).trans (kept9 m ρ c r h)

theorem kept11 : W11 m ρ c (Proc.devRef .tc r) = W1 m ρ c (Proc.devRef .tc r) :=
  (W11_of m ρ c r ((by decide : ∀ r ∈ prepared, r ∉ hostOps6_W) r h)).trans (kept10 m ρ c r h)

theorem kept12 : W12 m ρ c (Proc.devRef .tc r) = W1 m ρ c (Proc.devRef .tc r) :=
  (W12_of m ρ c r ((by decide : ∀ r ∈ prepared, ∀ w : Fin cfg6.W, Pipeline.arrRef spec6 w = r → (cfg6.win w).isOut = false) r h)).trans (kept11 m ρ c r h)

theorem kept13 : W13 m ρ c (Proc.devRef .tc r) = W1 m ρ c (Proc.devRef .tc r) :=
  (W13_of m ρ c r ((by decide : ∀ r ∈ prepared, r ∉ hostOps7_W) r h)).trans (kept12 m ρ c r h)

theorem kept14 : W14 m ρ c (Proc.devRef .tc r) = W1 m ρ c (Proc.devRef .tc r) :=
  (W14_of m ρ c r ((by decide : ∀ r ∈ prepared, ∀ w : Fin cfg7.W, Pipeline.arrRef spec7 w = r → (cfg7.win w).isOut = false) r h)).trans (kept13 m ρ c r h)

theorem kept15 : W15 m ρ c (Proc.devRef .tc r) = W1 m ρ c (Proc.devRef .tc r) :=
  (W15_of m ρ c r ((by decide : ∀ r ∈ prepared, ∀ w : Fin cfg8.W, Pipeline.arrRef spec8 w = r → (cfg8.win w).isOut = false) r h)).trans (kept14 m ρ c r h)

theorem kept16 : W16 m ρ c (Proc.devRef .tc r) = W1 m ρ c (Proc.devRef .tc r) :=
  (W16_of m ρ c r ((by decide : ∀ r ∈ prepared, ∀ w : Fin cfg9.W, Pipeline.arrRef spec9 w = r → (cfg9.win w).isOut = false) r h)).trans (kept15 m ρ c r h)

theorem kept17 : W17 m ρ c (Proc.devRef .tc r) = W1 m ρ c (Proc.devRef .tc r) :=
  (W17_of m ρ c r ((by decide : ∀ r ∈ prepared, r ∉ hostOps10_W) r h)).trans (kept16 m ρ c r h)

theorem kept18 : W18 m ρ c (Proc.devRef .tc r) = W1 m ρ c (Proc.devRef .tc r) :=
  (W18_of m ρ c r ((by decide : ∀ r ∈ prepared, ∀ w : Fin cfg10.W, Pipeline.arrRef spec10 w = r → (cfg10.win w).isOut = false) r h)).trans (kept17 m ρ c r h)

theorem kept19 : W19 m ρ c (Proc.devRef .tc r) = W1 m ρ c (Proc.devRef .tc r) :=
  (W19_of m ρ c r ((by decide : ∀ r ∈ prepared, r ∉ hostOps11_W) r h)).trans (kept18 m ρ c r h)

omit h

/-- A gain flattened and put back into one row is the gain. -/
theorem unflat {x : Vec Ideal S4096 .f32} {g : Mat 1 4096} (h : x = shapeCast S4096 g shapeCasts_S1x4096_S4096) :
    shapeCast S1x4096 x shapeCasts_S4096_S1x4096 = g := by
  subst h; exact shapeCast_shapeCast _ _ _

/-- Equal operands, equal results, for the operations of four and of five operands. -/
theorem out_congr {M : ℕ} {a a' b b' : Mat M 2048} {w w' : Mat 4096 4096} {x x' : Mat M 4096} (h1 : a = a') (h2 : b = b')
    (h3 : w = w') (h4 : x = x') : outProj a b w x = outProj a' b' w' x' := by subst h1 h2 h3 h4; rfl

theorem down_congr {M : ℕ} {a a' : Mat M 11008} {w w' : Mat 11008 4096} {x x' : Mat M 4096} (h1 : a = a')
    (h2 : w = w') (h3 : x = x') : down a w x = down a' w' x' := by subst h1 h2 h3; rfl

theorem ple_congr {M : ℕ} {a a' : Mat M 4096} {p p' : Mat M 256} {w w' : Mat 4096 4096} {v v' : Mat 256 4096} {x x' : Mat M 4096}
    (h1 : a = a') (h2 : p = p') (h3 : w = w') (h4 : v = v') (h5 : x = x') : ple a p w v x = ple a' p' w' v' x' := by
  subst h1 h2 h3 h4 h5; rfl

/-! ## What each call leaves, at the prompt -/

theorem mixed_prompt : W2 m ρ c (Proc.devRef .tc main_v15) = mixedPrompt m c :=
  (W2_arr m ρ c 5).trans ((Prompt.final0 (V1 m ρ) c).trans (out_congr (host0_v13 _) (host0_v14 _)
    (host0_v1 _) (host0_v12 _)))

theorem normed_prompt : W4 m ρ c (Proc.devRef .tc main_v17) = rms (mixedPrompt m c) (gFeed m c) :=
  (W4_arr m ρ c 2).trans ((Prompt.final1 (V3 m ρ) c).trans (congrArg₂ rms
    ((W3_of m ρ c main_v15 (by decide)).trans (mixed_prompt m ρ c))
    ((host1_v16 _).trans (unflat ((kept2 m ρ c main_v2 (by decide)).trans (host0_v2 _))))))

theorem glu_prompt : W5 m ρ c (Proc.devRef .tc main_v18) = swiglu (rms (mixedPrompt m c) (gFeed m c)) (wUp m c) :=
  (W5_arr m ρ c 3).trans ((Prompt.final2 (V4 m ρ) c).trans (congrArg₂ swiglu (normed_prompt m ρ c)
    ((kept4 m ρ c main_v3 (by decide)).trans (host0_v3 _))))

theorem fed_prompt : W6 m ρ c (Proc.devRef .tc main_v19) = fedPrompt m c :=
  (W6_arr m ρ c 3).trans ((Prompt.final3 (V5 m ρ) c).trans (down_congr (glu_prompt m ρ c)
    ((kept5 m ρ c main_v5 (by decide)).trans (host0_v5 _))
    ((W5_of m ρ c main_v15 (by decide)).trans ((W4_of m ρ c main_v15 (by decide)).trans ((W3_of m ρ c main_v15 (by decide)).trans (mixed_prompt m ρ c))))))

theorem fed_normed_prompt : W8 m ρ c (Proc.devRef .tc main_v21) = rms (fedPrompt m c) (gGate m c) :=
  (W8_arr m ρ c 2).trans ((Prompt.final4 (V7 m ρ) c).trans (congrArg₂ rms
    ((W7_of m ρ c main_v19 (by decide)).trans (fed_prompt m ρ c))
    ((host4_v20 _).trans (unflat ((kept6 m ρ c main_v6 (by decide)).trans (host0_v6 _))))))

theorem gated_prompt : W10 m ρ c (Proc.devRef .tc main_v23) = gatedPrompt m c :=
  (W10_arr m ρ c 5).trans ((Prompt.final5 (V9 m ρ) c).trans (ple_congr
    ((W9_of m ρ c main_v21 (by decide)).trans (fed_normed_prompt m ρ c))
    ((host5_v22 _).trans (congrArg (shapeCast S8192x256 · shapeCasts_S4x2048x256_S8192x256) ((kept8 m ρ c main_v11 (by decide)).trans (host0_v11 _))))
    ((kept9 m ρ c main_v8 (by decide)).trans (host0_v8 _))
    ((kept9 m ρ c main_v10 (by decide)).trans (host0_v10 _))
    ((W9_of m ρ c main_v19 (by decide)).trans ((W8_of m ρ c main_v19 (by decide)).trans ((W7_of m ρ c main_v19 (by decide)).trans (fed_prompt m ρ c))))))

/-! ## What each call leaves, at the sample -/

theorem mixed_sample : W12 m ρ c (Proc.devRef .tc main_v29) = mixedSample m c :=
  (W12_arr m ρ c 5).trans ((Sample.final6 (V11 m ρ) c).trans (out_congr ((host6_v27 _).trans (by rw [W10_args m ρ c main_arg4 (by decide)])) ((host6_v28 _).trans (by rw [W10_args m ρ c main_arg5 (by decide)]))
    ((kept11 m ρ c main_v1 (by decide)).trans (host0_v1 _)) ((host6_v26 _).trans (by rw [W10_args m ρ c main_arg1 (by decide)]))))

theorem normed_sample : W14 m ρ c (Proc.devRef .tc main_v31) = rms (mixedSample m c) (gFeed m c) :=
  (W14_arr m ρ c 2).trans ((Sample.final7 (V13 m ρ) c).trans (congrArg₂ rms
    ((W13_of m ρ c main_v29 (by decide)).trans (mixed_sample m ρ c))
    ((host7_v30 _).trans (unflat ((kept12 m ρ c main_v2 (by decide)).trans (host0_v2 _))))))

theorem glu_sample : W15 m ρ c (Proc.devRef .tc main_v32) = swiglu (rms (mixedSample m c) (gFeed m c)) (wUp m c) :=
  (W15_arr m ρ c 3).trans ((Sample.final8 (V14 m ρ) c).trans (congrArg₂ swiglu (normed_sample m ρ c)
    ((kept14 m ρ c main_v3 (by decide)).trans (host0_v3 _))))

theorem fed_sample : W16 m ρ c (Proc.devRef .tc main_v33) = fedSample m c :=
  (W16_arr m ρ c 3).trans ((Sample.final9 (V15 m ρ) c).trans (down_congr (glu_sample m ρ c)
    ((kept15 m ρ c main_v5 (by decide)).trans (host0_v5 _))
    ((W15_of m ρ c main_v29 (by decide)).trans ((W14_of m ρ c main_v29 (by decide)).trans ((W13_of m ρ c main_v29 (by decide)).trans (mixed_sample m ρ c))))))

theorem fed_normed_sample : W18 m ρ c (Proc.devRef .tc main_v35) = rms (fedSample m c) (gGate m c) :=
  (W18_arr m ρ c 2).trans ((Sample.final10 (V17 m ρ) c).trans (congrArg₂ rms
    ((W17_of m ρ c main_v33 (by decide)).trans (fed_sample m ρ c))
    ((host10_v34 _).trans (unflat ((kept16 m ρ c main_v6 (by decide)).trans (host0_v6 _))))))

theorem gated_sample : W20 m ρ c (Proc.devRef .tc main_v37) = gatedSample m c :=
  (W20_arr m ρ c 5).trans ((Sample.final11 (V19 m ρ) c).trans (ple_congr
    ((W19_of m ρ c main_v35 (by decide)).trans (fed_normed_sample m ρ c))
    ((host11_v36 _).trans (congrArg (shapeCast S1024x256 · shapeCasts_S128x8x256_S1024x256)
      ((W18_of m ρ c main_v25 (by decide)).trans ((W17_of m ρ c main_v25 (by decide)).trans ((W16_of m ρ c main_v25 (by decide)).trans ((W15_of m ρ c main_v25 (by decide)).trans ((W14_of m ρ c main_v25 (by decide)).trans ((W13_of m ρ c main_v25 (by decide)).trans ((W12_of m ρ c main_v25 (by decide)).trans ((host6_v25 _).trans (by rw [W10_args m ρ c main_arg7 (by decide)])))))))))))
    ((kept19 m ρ c main_v8 (by decide)).trans (host0_v8 _))
    ((kept19 m ρ c main_v10 (by decide)).trans (host0_v10 _))
    ((W19_of m ρ c main_v33 (by decide)).trans ((W18_of m ρ c main_v33 (by decide)).trans ((W17_of m ρ c main_v33 (by decide)).trans (fed_sample m ρ c))))))

/-! ## The two results -/

theorem last_prompt : W22 m ρ c (Proc.devRef .tc main_v41) = rms (gatedPrompt m c) (gLast m c) :=
  (W22_arr m ρ c 2).trans ((Prompt.final12 (V21 m ρ) c).trans (congrArg₂ rms
    ((host12_v39 _).trans ((congrArg (shapeCast S8192x4096 · shapeCasts_S4x2048x4096_S8192x4096)
      ((W20_of m ρ c main_v24 (by decide)).trans ((W19_of m ρ c main_v24 (by decide)).trans ((W18_of m ρ c main_v24 (by decide)).trans ((W17_of m ρ c main_v24 (by decide)).trans ((W16_of m ρ c main_v24 (by decide)).trans ((W15_of m ρ c main_v24 (by decide)).trans ((W14_of m ρ c main_v24 (by decide)).trans ((W13_of m ρ c main_v24 (by decide)).trans ((W12_of m ρ c main_v24 (by decide)).trans ((host6_v24 _).trans (congrArg (shapeCast S4x2048x4096 · shapeCasts_S8192x4096_S4x2048x4096) (gated_prompt m ρ c))))))))))))).trans
      (shapeCast_shapeCast _ _ _)))
    ((host12_v40 _).trans (by rw [W20_args m ρ c main_arg15 (by decide)]))))

/-- The layer's output at the prompt. -/
theorem result_prompt : W25 m ρ c (Proc.devRef .tc main_v42)
    = shapeCast S4x2048x4096 (rms (gatedPrompt m c) (gLast m c)) shapeCasts_S8192x4096_S4x2048x4096 :=
  ((W25_of m ρ c main_v42 (by decide)).trans ((W24_of m ρ c main_v42 (by decide)).trans ((host13_v42 _).trans (congrArg (shapeCast S4x2048x4096 · shapeCasts_S8192x4096_S4x2048x4096) (last_prompt m ρ c)))))

theorem last_sample : W24 m ρ c (Proc.devRef .tc main_v45) = rms (gatedSample m c) (gLast m c) :=
  (W24_arr m ρ c 2).trans ((Sample.final13 (V23 m ρ) c).trans (congrArg₂ rms
    ((host13_v43 _).trans ((congrArg (shapeCast S1024x4096 · shapeCasts_S128x8x4096_S1024x4096)
      ((W22_of m ρ c main_v38 (by decide)).trans ((host12_v38 _).trans (congrArg (shapeCast S128x8x4096 · shapeCasts_S1024x4096_S128x8x4096) (gated_sample m ρ c))))).trans
      (shapeCast_shapeCast _ _ _)))
    ((host13_v44 _).trans (by rw [W22_args m ρ c main_arg15 (by decide)]))))

/-- The layer's output at the sample. -/
theorem result_sample : W25 m ρ c (Proc.devRef .tc main_v46)
    = shapeCast S128x8x4096 (rms (gatedSample m c) (gLast m c)) shapeCasts_S1024x4096_S128x8x4096 :=
  ((host14_v46 _).trans (congrArg (shapeCast S128x8x4096 · shapeCasts_S1024x4096_S128x8x4096) (last_sample m ρ c)))

end Cert.TailIdeal.Values
-- ==== Proof.GroupedFeed.lean ====
/-
  The operations of the layer's second half on rows held in groups, as the reference writes them on the host, shown
  to be the operations on the rows.
-/
module

public import proofs.«01_k».proof.Proof.Grouped
public import proofs.«01_k».proof.Proof.Feed

@[expose] public section

noncomputable section

namespace Layer

open Idealize.ShloMosaic Idealize.ShloMosaic.ValueIdx

variable {A T M n k p q : ℕ}

/-- The product of two matrices. -/
def mul (x : Mat M k) (w : Mat k n) : Mat M n := fun i => rowCol x w (i 0) (i 1)

/-- Two matrices side by side. -/
def beside (a : Mat M p) (b : Mat M q) : Mat M (p + q) := fun i =>
  Fin.addCases (fun j => a (ix2 (i 0) j)) (fun j => b (ix2 (i 0) j)) (i 1)

theorem beside_left (a : Mat M p) (b : Mat M q) (r : Fin M) (j : Fin p) : beside a b (ix2 r (Fin.castAdd q j)) = a (ix2 r j) :=
  Fin.addCases_left (motive := fun _ => EReal) j

theorem beside_right (a : Mat M p) (b : Mat M q) (r : Fin M) (j : Fin q) : beside a b (ix2 r (Fin.natAdd p j)) = b (ix2 r j) :=
  Fin.addCases_right (motive := fun _ => EReal) j

/-- A row of two matrices side by side against a column: the two rows against the two parts of the column. -/
theorem rowCol_beside (a : Mat M p) (b : Mat M q) (w : Mat (p + q) n) (r : Fin M) (c : Fin n) :
    rowCol (beside a b) w r c = rowCol a (rowsFrom 0 w (by omega)) r c + rowCol b (rowsFrom p w le_rfl) r c := by
  refine (Fin.sum_univ_add _).trans (congrArg₂ (· + ·) ?_ ?_)
  · refine Finset.sum_congr rfl fun j _ => congrArg₂ (· * ·) (beside_left a b r j) (congrArg w (Shape.idx_ext₂ ?_ rfl))
    exact (Nat.zero_add _).symm
  · exact Finset.sum_congr rfl fun j _ => congrArg₂ (· * ·) (beside_right a b r j) rfl

/-- Groups of rows joined along the columns are the rows side by side. -/
theorem Grouped.beside {hM : A * T = M} {x : Cube A T p} {y : Cube A T q} {a : Mat M p} {b : Mat M q} (hx : Grouped hM x a)
    (hy : Grouped hM y b) (hc : Shape.Concatenates [⟨3, ![A, T, p]⟩, ⟨3, ![A, T, q]⟩] ⟨3, ![A, T, p + q]⟩ 2) :
    Grouped hM (concatenate ⟨3, ![A, T, p + q]⟩ 2 [⟨⟨3, ![A, T, p]⟩, x⟩, ⟨⟨3, ![A, T, q]⟩, y⟩] hc) (Layer.beside a b) := by
  intro g t c
  refine Fin.addCases (fun j => ?_) (fun j => ?_) c
  · refine (concatenate_pair_apply_left 2 x y hc _ rfl (ix3 g t j) fun a => ?_).trans ((hx g t j).trans (beside_left a b _ j).symm)
    match a with
    | ⟨0, _⟩ => rfl
    | ⟨1, _⟩ => rfl
    | ⟨2, _⟩ => rfl
  · refine (concatenate_pair_apply_right 2 x y hc _ rfl rfl (ix3 g t j) (fun a ha => ?_) ?_).trans
      ((hy g t j).trans (beside_right a b _ j).symm)
    · match a with
      | ⟨0, _⟩ => rfl
      | ⟨1, _⟩ => rfl
      | ⟨2, _⟩ => exact absurd rfl ha
    · exact Nat.add_comm _ _

/-- A product of grouped rows, given as sums over the contracted axis, is the product of the rows. -/
theorem Grouped.mul {hM : A * T = M} {x : Cube A T k} {y : Mat M k} (hx : Grouped hM x y) {z : Cube A T n} {w : Mat k n}
    {l : (⟨3, ![A, T, n]⟩ : Shape).Idx → Fin k → (⟨3, ![A, T, k]⟩ : Shape).Idx}
    {r : (⟨3, ![A, T, n]⟩ : Shape).Idx → Fin k → (⟨2, ![k, n]⟩ : Shape).Idx} (hz : ∀ i, z i = ∑ j : Fin k, x (l i j) * w (r i j))
    (hl : ∀ b t c j, l (ix3 b t c) j = ix3 b t j) (hr : ∀ b t c j, r (ix3 b t c) j = ix2 j c) :
    Grouped hM z (Layer.mul y w) := fun b t c => (hz _).trans (Finset.sum_congr rfl fun j _ =>
      congrArg₂ (fun u v : EReal => u * v) ((congrArg x (hl b t c j)).trans (hx b t j)) (congrArg w (hr b t c j)))

variable {hM : A * T = M}

/-- The output projection: the input on top of the product of the joined halves. -/
theorem Grouped.outProj {x z : FVec Ideal ⟨3, ![A, T, 4096]⟩ .f32} {y : Mat M 4096} {a b : Mat M 2048} {w : Mat 4096 4096}
    (hx : Grouped hM x y) (hz : Grouped hM z (Layer.mul (n := 4096) (Layer.beside a b) w)) : Grouped hM (addf x z) (Layer.outProj a b w y) :=
  fun g t c => congrArg₂ (fun u v : EReal => u + v) (hx g t c) ((hz g t c).trans (rowCol_beside a b w _ c))

/-- The projection back: the input on top of the product. -/
theorem Grouped.down {x z : FVec Ideal ⟨3, ![A, T, 4096]⟩ .f32} {y : Mat M 4096} {a : Mat M 11008} {w : Mat 11008 4096}
    (hx : Grouped hM x y) (hz : Grouped hM z (Layer.mul a w)) : Grouped hM (addf x z) (Layer.down a w y) :=
  fun g t c => congrArg₂ (fun u v : EReal => u + v) (hx g t c) (hz g t c)

/-- A stretch of the columns from `o` on. -/
theorem slice_from {α : Type} (z : (⟨3, ![A, T, n]⟩ : Shape).Idx → α) (o : ℕ)
    (h : (⟨3, ![A, T, n]⟩ : Shape).Slices ![0, 0, o] ⟨3, ![A, T, q]⟩) (b : Fin A) (t : Fin T) (c : Fin q) (h1 : o + q ≤ n) :
    extractStridedSlice ⟨3, ![A, T, q]⟩ ![0, 0, o] z h (ix3 b t c) = z (ix3 b t (shift o c h1)) := by
  refine extractStridedSlice_apply _ z h _ _ fun a => ?_
  match a with
  | ⟨0, _⟩ => exact (Nat.zero_add _).symm
  | ⟨1, _⟩ => exact (Nat.zero_add _).symm
  | ⟨2, _⟩ => rfl

/-- The gated product of the two halves of the columns. -/
theorem Grouped.swiglu {z : FVec Ideal ⟨3, ![A, T, 22016]⟩ .f32} {y : Mat M 4096} {w : Mat 4096 22016} (hz : Grouped hM z (Layer.mul y w))
    (h0 : (⟨3, ![A, T, 22016]⟩ : Shape).Slices ![0, 0, 0] ⟨3, ![A, T, 11008]⟩)
    (h1 : (⟨3, ![A, T, 22016]⟩ : Shape).Slices ![0, 0, 11008] ⟨3, ![A, T, 11008]⟩)
    (h2 : (⟨0, ![]⟩ : Shape).BroadcastsInDim ⟨3, ![A, T, 11008]⟩ ![]) :
    Grouped hM (mulf (mulf (extractStridedSlice ⟨3, ![A, T, 11008]⟩ ![0, 0, 0] z h0)
      (Host.divf (broadcastInDim ⟨3, ![A, T, 11008]⟩ ![] h2 (constant (F := Ideal) ⟨0, ![]⟩ .f32 0x3F800000#32))
        (addf (broadcastInDim ⟨3, ![A, T, 11008]⟩ ![] h2 (constant (F := Ideal) ⟨0, ![]⟩ .f32 0x3F800000#32))
          (Host.exp (Host.negf (extractStridedSlice ⟨3, ![A, T, 11008]⟩ ![0, 0, 0] z h0))))))
      (extractStridedSlice ⟨3, ![A, T, 11008]⟩ ![0, 0, 11008] z h1)) (Layer.swiglu y w) := fun b t c => by
  have e := (slice_from z 0 h0 b t c (by decide)).trans (hz b t _)
  exact congrArg₂ (fun u v : EReal => u * v) (congrArg₂ (fun u v : EReal => u * v) e
    ((host_logistic _ h2 _).trans (congrArg Ideal.logistic e))) ((slice_from z 11008 h1 b t c (by decide)).trans (hz b t _))

/-- The embedding gate: the input on top of one product by the logistic of another. -/
theorem Grouped.ple {x z u : FVec Ideal ⟨3, ![A, T, 4096]⟩ .f32} {y a : Mat M 4096} {p : Mat M 256} {w : Mat 4096 4096} {v : Mat 256 4096}
    (hx : Grouped hM x y) (hz : Grouped hM z (Layer.mul a w)) (hu : Grouped hM u (Layer.mul p v))
    (h : (⟨0, ![]⟩ : Shape).BroadcastsInDim ⟨3, ![A, T, 4096]⟩ ![]) :
    Grouped hM (addf x (mulf (Host.divf (broadcastInDim ⟨3, ![A, T, 4096]⟩ ![] h (constant (F := Ideal) ⟨0, ![]⟩ .f32 0x3F800000#32))
        (addf (broadcastInDim ⟨3, ![A, T, 4096]⟩ ![] h (constant (F := Ideal) ⟨0, ![]⟩ .f32 0x3F800000#32)) (Host.exp (Host.negf z)))) u))
      (Layer.ple a p w v y) := fun b t c =>
  congrArg₂ (fun u v : EReal => u + v) (hx b t c) (congrArg₂ (fun u v : EReal => u * v)
    ((host_logistic _ h _).trans (congrArg Ideal.logistic (hz b t c))) (hu b t c))

end Layer
-- ==== Proof.TailEq.lean ====
/-
  The reference of the layer's second half, stage by stage: at the kernel's arguments each stage holds, in groups,
  the rows that the kernel's calls leave.
-/
module

public import proofs.«01_k».proof.Proof.TailValue
public import proofs.«01_k».proof.Proof.GroupedFeed
public import proofs.«01_k».proof.Proof.Gen.TailRefIdeal.Read

@[expose] public section

set_option maxRecDepth 16384

noncomputable section

namespace Cert.TailIdeal.Values

open Idealize.ShloMosaic Idealize.ShloMosaic.TcCoe Idealize.SL.Sem Idealize.ShloMosaic.ValueIdx
open Cert.TailIdeal Cert.TailIdeal.Gen Layer
open Cert.TailRefIdeal.Read

variable (m : (ℓ : Loc nD τ sig) → Buf (Elt Ideal) ℓ) (c : Dev nD)

/-- The arguments, as arrays. -/
abbrev a0 : Cube 4 2048 4096 := m ((c : Thread nD τ).loc main_arg0)
abbrev a1 : Cube 128 8 4096 := m ((c : Thread nD τ).loc main_arg1)
abbrev a2 : Cube 4 2048 2048 := m ((c : Thread nD τ).loc main_arg2)
abbrev a3 : Cube 4 2048 2048 := m ((c : Thread nD τ).loc main_arg3)
abbrev a4 : Cube 128 8 2048 := m ((c : Thread nD τ).loc main_arg4)
abbrev a5 : Cube 128 8 2048 := m ((c : Thread nD τ).loc main_arg5)
abbrev a6 : FVec Ideal ⟨4, ![1, 4, 2048, 256]⟩ .f32 := m ((c : Thread nD τ).loc main_arg6)
abbrev a7 : FVec Ideal ⟨4, ![1, 128, 8, 256]⟩ .f32 := m ((c : Thread nD τ).loc main_arg7)
abbrev a8 : FVec Ideal ⟨3, ![1, 4096, 4096]⟩ .f32 := m ((c : Thread nD τ).loc main_arg8)
abbrev a9 : FVec Ideal ⟨2, ![1, 4096]⟩ .f32 := m ((c : Thread nD τ).loc main_arg9)
abbrev a10 : FVec Ideal ⟨3, ![1, 4096, 22016]⟩ .f32 := m ((c : Thread nD τ).loc main_arg10)
abbrev a11 : FVec Ideal ⟨3, ![1, 11008, 4096]⟩ .f32 := m ((c : Thread nD τ).loc main_arg11)
abbrev a12 : FVec Ideal ⟨2, ![1, 4096]⟩ .f32 := m ((c : Thread nD τ).loc main_arg12)
abbrev a13 : FVec Ideal ⟨3, ![1, 4096, 4096]⟩ .f32 := m ((c : Thread nD τ).loc main_arg13)
abbrev a14 : FVec Ideal ⟨3, ![1, 256, 4096]⟩ .f32 := m ((c : Thread nD τ).loc main_arg14)
abbrev a15 : FVec Ideal ⟨1, ![4096]⟩ .f32 := m ((c : Thread nD τ).loc main_arg15)

/-- The reference's flattened gains, read at a column. -/
theorem gain_feed_at (j : Fin 4096) : val_main_v1 (F := Ideal) (a9 m c) (ix1 j) = gFeed m c (ix2 0 j) :=
  (val_main_v1_apply (F := Ideal) (a9 m c) (ix1 j)).trans
    (congrArg (gFeed m c) (Shape.idx_ext₂ rfl (Nat.mod_eq_of_lt j.isLt)))

theorem gain_gate_at (j : Fin 4096) : val_main_v4 (F := Ideal) (a12 m c) (ix1 j) = gGate m c (ix2 0 j) :=
  (val_main_v4_apply (F := Ideal) (a12 m c) (ix1 j)).trans
    (congrArg (gGate m c) (Shape.idx_ext₂ rfl (Nat.mod_eq_of_lt j.isLt)))

/-- The last gain as one row, read at a column. -/
theorem gain_last_at (j : Fin 4096) : a15 m c (ix1 j) = gLast m c (ix2 0 j) :=
  (shapeCast_apply (a15 m c) shapeCasts_S4096_S1x4096 (ix2 0 j) (ix1 j) (by rw [Shape.rowMajor_val_two, Shape.rowMajor_val_one]; exact (Nat.zero_add _).symm.trans (congrArg (· + j.val) (Nat.zero_mul _).symm))).symm

/-! ## At the prompt -/

theorem joined_prompt_ref : Grouped (M := 8192) rfl (val_main_v10 (F := Ideal) (a2 m c) (a3 m c)) (beside (rPrompt m c) (cPrompt m c)) :=
  (Grouped.flat rfl (a2 m c) _).beside (Grouped.flat rfl (a3 m c) _) _

/-- After the output projection. -/
theorem mixed_prompt_ref : Grouped (M := 8192) rfl (val_main_v12 (F := Ideal) (a0 m c) (a2 m c) (a3 m c) (a8 m c)) (mixedPrompt m c) :=
  (Grouped.flat rfl (a0 m c) _).outProj (Grouped.mul (n := 4096) (joined_prompt_ref m c) (val_main_v11_apply (a2 m c) (a3 m c) (a8 m c)) (fun _ _ _ _ => cube_idx rfl rfl rfl) (fun _ _ _ _ => Shape.idx_ext₂ rfl rfl))

/-- The rows normalised for the feed-forward layer. -/
theorem normed_prompt_ref : Grouped (M := 8192) rfl (val_main_v25 (F := Ideal) (a0 m c) (a2 m c) (a3 m c) (a8 m c) (a9 m c)) (rms (mixedPrompt m c) (gFeed m c)) :=
  (mixed_prompt_ref m c).rms _ _ (gain_feed_at m c) _ (by decide) _ _ _ _ _ _

/-- The feed-forward layer's gated product. -/
theorem glu_prompt_ref : Grouped (M := 8192) rfl (val_main_v30 (F := Ideal) (a0 m c) (a2 m c) (a3 m c) (a8 m c) (a9 m c) (a10 m c)) (swiglu (rms (mixedPrompt m c) (gFeed m c)) (wUp m c)) :=
  Grouped.swiglu (z := val_main_v26 (F := Ideal) (a0 m c) (a2 m c) (a3 m c) (a8 m c) (a9 m c) (a10 m c)) ((normed_prompt_ref m c).mul (val_main_v26_apply (a0 m c) (a2 m c) (a3 m c) (a8 m c) (a9 m c) (a10 m c)) (fun _ _ _ _ => cube_idx rfl rfl rfl) (fun _ _ _ _ => Shape.idx_ext₂ rfl rfl)) _ _ _

/-- After the feed-forward layer. -/
theorem fed_prompt_ref : Grouped (M := 8192) rfl (val_main_v32 (F := Ideal) (a0 m c) (a2 m c) (a3 m c) (a8 m c) (a9 m c) (a10 m c) (a11 m c)) (fedPrompt m c) :=
  (mixed_prompt_ref m c).down ((glu_prompt_ref m c).mul (val_main_v31_apply (a0 m c) (a2 m c) (a3 m c) (a8 m c) (a9 m c) (a10 m c) (a11 m c)) (fun _ _ _ _ => cube_idx rfl rfl rfl) (fun _ _ _ _ => Shape.idx_ext₂ rfl rfl))

/-- The rows normalised for the embedding gate. -/
theorem fed_normed_prompt_ref : Grouped (M := 8192) rfl (val_main_v45 (F := Ideal) (a0 m c) (a2 m c) (a3 m c) (a8 m c) (a9 m c) (a10 m c) (a11 m c) (a12 m c)) (rms (fedPrompt m c) (gGate m c)) :=
  (fed_prompt_ref m c).rms _ _ (gain_gate_at m c) _ (by decide) _ _ _ _ _ _

/-- After the embedding gate. -/
theorem gated_prompt_ref : Grouped (M := 8192) rfl (val_main_v55 (F := Ideal) (a0 m c) (a2 m c) (a3 m c) (a6 m c) (a8 m c) (a9 m c) (a10 m c) (a11 m c) (a12 m c) (a13 m c) (a14 m c)) (gatedPrompt m c) :=
  (fed_prompt_ref m c).ple ((fed_normed_prompt_ref m c).mul (val_main_v46_apply (a0 m c) (a2 m c) (a3 m c) (a8 m c) (a9 m c) (a10 m c) (a11 m c) (a12 m c) (a13 m c)) (fun _ _ _ _ => cube_idx rfl rfl rfl) (fun _ _ _ _ => Shape.idx_ext₂ rfl rfl))
    ((Grouped.flat rfl (val_main_v7 (F := Ideal) (a6 m c)) _).mul (val_main_v53_apply (a6 m c) (a14 m c)) (fun _ _ _ _ => cube_idx rfl rfl rfl) (fun _ _ _ _ => Shape.idx_ext₂ rfl rfl)) _

/-- The last norm. -/
theorem last_prompt_ref : Grouped (M := 8192) rfl (val_main_v117 (F := Ideal) (a0 m c) (a2 m c) (a3 m c) (a6 m c) (a8 m c) (a9 m c) (a10 m c) (a11 m c) (a12 m c) (a13 m c) (a14 m c) (a15 m c)) (rms (gatedPrompt m c) (gLast m c)) :=
  (gated_prompt_ref m c).rms _ _ (gain_last_at m c) _ (by decide) _ _ _ _ _ _

/-! ## At the sample -/

theorem joined_sample_ref : Grouped (M := 1024) rfl (val_main_v59 (F := Ideal) (a4 m c) (a5 m c)) (beside (rSample m c) (cSample m c)) :=
  (Grouped.flat rfl (a4 m c) _).beside (Grouped.flat rfl (a5 m c) _) _

/-- After the output projection. -/
theorem mixed_sample_ref : Grouped (M := 1024) rfl (val_main_v61 (F := Ideal) (a1 m c) (a4 m c) (a5 m c) (a8 m c)) (mixedSample m c) :=
  (Grouped.flat rfl (a1 m c) _).outProj (Grouped.mul (n := 4096) (joined_sample_ref m c) (val_main_v60_apply (a4 m c) (a5 m c) (a8 m c)) (fun _ _ _ _ => cube_idx rfl rfl rfl) (fun _ _ _ _ => Shape.idx_ext₂ rfl rfl))

/-- The rows normalised for the feed-forward layer. -/
theorem normed_sample_ref : Grouped (M := 1024) rfl (val_main_v74 (F := Ideal) (a1 m c) (a4 m c) (a5 m c) (a8 m c) (a9 m c)) (rms (mixedSample m c) (gFeed m c)) :=
  (mixed_sample_ref m c).rms _ _ (gain_feed_at m c) _ (by decide) _ _ _ _ _ _

/-- The feed-forward layer's gated product. -/
theorem glu_sample_ref : Grouped (M := 1024) rfl (val_main_v79 (F := Ideal) (a1 m c) (a4 m c) (a5 m c) (a8 m c) (a9 m c) (a10 m c)) (swiglu (rms (mixedSample m c) (gFeed m c)) (wUp m c)) :=
  Grouped.swiglu (z := val_main_v75 (F := Ideal) (a1 m c) (a4 m c) (a5 m c) (a8 m c) (a9 m c) (a10 m c)) ((normed_sample_ref m c).mul (val_main_v75_apply (a1 m c) (a4 m c) (a5 m c) (a8 m c) (a9 m c) (a10 m c)) (fun _ _ _ _ => cube_idx rfl rfl rfl) (fun _ _ _ _ => Shape.idx_ext₂ rfl rfl)) _ _ _

/-- After the feed-forward layer. -/
theorem fed_sample_ref : Grouped (M := 1024) rfl (val_main_v81 (F := Ideal) (a1 m c) (a4 m c) (a5 m c) (a8 m c) (a9 m c) (a10 m c) (a11 m c)) (fedSample m c) :=
  (mixed_sample_ref m c).down ((glu_sample_ref m c).mul (val_main_v80_apply (a1 m c) (a4 m c) (a5 m c) (a8 m c) (a9 m c) (a10 m c) (a11 m c)) (fun _ _ _ _ => cube_idx rfl rfl rfl) (fun _ _ _ _ => Shape.idx_ext₂ rfl rfl))

/-- The rows normalised for the embedding gate. -/
theorem fed_normed_sample_ref : Grouped (M := 1024) rfl (val_main_v94 (F := Ideal) (a1 m c) (a4 m c) (a5 m c) (a8 m c) (a9 m c) (a10 m c) (a11 m c) (a12 m c)) (rms (fedSample m c) (gGate m c)) :=
  (fed_sample_ref m c).rms _ _ (gain_gate_at m c) _ (by decide) _ _ _ _ _ _

/-- After the embedding gate. -/
theorem gated_sample_ref : Grouped (M := 1024) rfl (val_main_v104 (F := Ideal) (a1 m c) (a4 m c) (a5 m c) (a7 m c) (a8 m c) (a9 m c) (a10 m c) (a11 m c) (a12 m c) (a13 m c) (a14 m c)) (gatedSample m c) :=
  (fed_sample_ref m c).ple ((fed_normed_sample_ref m c).mul (val_main_v95_apply (a1 m c) (a4 m c) (a5 m c) (a8 m c) (a9 m c) (a10 m c) (a11 m c) (a12 m c) (a13 m c)) (fun _ _ _ _ => cube_idx rfl rfl rfl) (fun _ _ _ _ => Shape.idx_ext₂ rfl rfl))
    ((Grouped.flat rfl (val_main_v56 (F := Ideal) (a7 m c)) _).mul (val_main_v102_apply (a7 m c) (a14 m c)) (fun _ _ _ _ => cube_idx rfl rfl rfl) (fun _ _ _ _ => Shape.idx_ext₂ rfl rfl)) _

/-- The last norm. -/
theorem last_sample_ref : Grouped (M := 1024) rfl (val_main_v130 (F := Ideal) (a1 m c) (a4 m c) (a5 m c) (a7 m c) (a8 m c) (a9 m c) (a10 m c) (a11 m c) (a12 m c) (a13 m c) (a14 m c) (a15 m c)) (rms (gatedSample m c) (gLast m c)) :=
  (gated_sample_ref m c).rms _ _ (gain_last_at m c) _ (by decide) _ _ _ _ _ _

end Cert.TailIdeal.Values
-- ==== Proof.TailRun.lean ====
/-
  The run of the second half: every buffer outside the calls ends at the contents its last step leaves.
-/
module

public import proofs.«01_k».proof.Proof.Gen.TailIdeal.Frame

@[expose] public section

set_option maxRecDepth 16384

noncomputable section

namespace Cert.TailIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.TailIdeal Cert.TailIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run from `m` ends, with each buffer outside the calls at its contents after the last step. -/
theorem run : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun _ h _ c b hb => h c b hb)

end Cert.TailIdeal.Run
-- ==== Proof.TailClaim.lean ====
/-
  The claim about the second half's two results: over the extended reals they are the reference's.
-/
module

public import proofs.«01_k».proof.Defs
public import proofs.«01_k».proof.Proof.TailEq
public import proofs.«01_k».proof.Proof.TailRun

@[expose] public section

set_option maxRecDepth 16384

noncomputable section

namespace Cert.TailIdeal.Values

open Idealize.ShloMosaic Idealize.ShloMosaic.TcCoe Idealize.SL.Sem
open Cert.TailIdeal Cert.TailIdeal.Gen
open Cert.TailRefIdeal.Read

/-- Over the extended reals the kernel's two results are the reference's. -/
theorem algebraic : Cert.algebraic_TailIdeal_TailRefIdeal := by
  intro m g m' g' _ hm
  refine ⟨fun c => W25 m g c (Proc.devRef .tc main_v42), fun c => W25 m g c (Proc.devRef .tc main_v46), ?_, ?_⟩
  · refine (θ_run _ _ _).mono (fun r h c => ?_) (Run.run m g)
    exact ⟨h c _ (mem_uc main_v42 (by decide)), h c _ (mem_uc main_v46 (by decide)),
      (h c _ (mem_uc main_arg0 (by decide))).trans (W25_main_arg0 m g c),
      (h c _ (mem_uc main_arg1 (by decide))).trans (W25_main_arg1 m g c),
      (h c _ (mem_uc main_arg2 (by decide))).trans (W25_main_arg2 m g c),
      (h c _ (mem_uc main_arg3 (by decide))).trans (W25_main_arg3 m g c),
      (h c _ (mem_uc main_arg4 (by decide))).trans (W25_main_arg4 m g c),
      (h c _ (mem_uc main_arg5 (by decide))).trans (W25_main_arg5 m g c),
      (h c _ (mem_uc main_arg6 (by decide))).trans (W25_main_arg6 m g c),
      (h c _ (mem_uc main_arg7 (by decide))).trans (W25_main_arg7 m g c),
      (h c _ (mem_uc main_arg8 (by decide))).trans (W25_main_arg8 m g c),
      (h c _ (mem_uc main_arg9 (by decide))).trans (W25_main_arg9 m g c),
      (h c _ (mem_uc main_arg10 (by decide))).trans (W25_main_arg10 m g c),
      (h c _ (mem_uc main_arg11 (by decide))).trans (W25_main_arg11 m g c),
      (h c _ (mem_uc main_arg12 (by decide))).trans (W25_main_arg12 m g c),
      (h c _ (mem_uc main_arg13 (by decide))).trans (W25_main_arg13 m g c),
      (h c _ (mem_uc main_arg14 (by decide))).trans (W25_main_arg14 m g c),
      (h c _ (mem_uc main_arg15 (by decide))).trans (W25_main_arg15 m g c)⟩
  · refine (θ_run _ _ _).mono (fun r h c => ?_) (Cert.TailRefIdeal.Value.run m' g')
    obtain ⟨h0, h1, hargs⟩ := h c
    obtain ⟨e0, e1, e2, e3, e4, e5, e6, e7, e8, e9, e10, e11, e12, e13, e14, e15⟩ := hm c
    refine ⟨h0.trans ((val_main_v117_eq _ _).trans ?_), h1.trans ((val_main_v130_eq _ _).trans ?_), hargs⟩
    · rw [e0, e2, e3, e6, e8, e9, e10, e11, e12, e13, e14, e15]
      exact ((last_prompt_ref m c).cut _).symm.trans (result_prompt m g c).symm
    · rw [e1, e4, e5, e7, e8, e9, e10, e11, e12, e13, e14, e15]
      exact ((last_sample_ref m c).cut _).symm.trans (result_sample m g c).symm

end Cert.TailIdeal.Values
-- ==== Proof.RkvClaim.lean ====
/-
  The projection's call at the prompt: its result array as a function of the arrays it reads, and the claim that over the
  extended reals the kernel's result is the reference's.
-/
module

public import proofs.«01_k».proof.Defs
public import proofs.«01_k».proof.Proof.Gen.RkvIdeal.Frame
public import proofs.«01_k».proof.Proof.Gen.RkvRefIdeal.Run
public import proofs.«01_k».proof.Proof.Gen.RkvRefIdeal.Read
public import proofs.«01_k».proof.Proof.Grouped
public import Idealize.ShloMosaic.Lib.VecWindow
public import Idealize.ShloMosaic.Lib.Pipeline.ValueKit.Geometry

@[expose] public section

set_option maxRecDepth 16384

noncomputable section

namespace Cert.RkvIdeal.Values

open Idealize.ShloMosaic Idealize.ShloMosaic.TcCoe Idealize.SL.Sem Idealize.ShloMosaic.ValueIdx
open Idealize.ShloMosaic.Pipeline (Dat Window)
open Cert.RkvIdeal Cert.RkvIdeal.Gen Layer
open Cert.RkvRefIdeal.Read

variable (m : (ℓ : Loc nD τ sig) → Buf (Elt Ideal) ℓ) (ρ : Dev nD → PrngReg)

/-- The rows' products with the first 6144 rows of the transposed weight. -/
def proj (x : Mat 8192 4096) (w : Mat 10688 4096) : Mat 8192 6144 := fun i =>
  rowRow x w (i 0) (shift (b := 6144) 0 (i 1) (by decide))

/-- What one step stores: each row of its first block against each row of its second. -/
theorem stored (c : Dev nD) (t : Fin cfg0.N) (r : Fin 2048) (j : Fin 512) :
    outsAt0 m c t (ix2 r j) = rowRow (m := 2048) (n := 512) (k := 4096) (iblk m c 0 t) (X0_1 m c t) r j := by
  unfold outsAt0 out0_A_2 kernelRun0_A
  refine (congrFun (View.read_writes_full VO0_2 _ _ _ _) (ix2 r j)).trans ?_
  rw [View.readAt_full, View.readAt_full, (hs0_0 t).read_unread, (hs0_1 t).read_unread]
  exact product_rows (m := 2048) (n := 512) (k := 4096) (iblk m c 0 t) _ (X0_1 m c t) _ _ r j

/-- Where the blocks start. -/
theorem start0 : ∀ t : Fin grid0.N, (start win0_0 t 0 = t.val / 12 * 2048 ∧ start win0_0 t 1 = 0)
    ∧ (start win0_1 t 0 = t.val % 12 * 512 ∧ start win0_1 t 1 = 0)
    ∧ (start win0_2 t 0 = t.val / 12 * 2048 ∧ start win0_2 t 1 = t.val % 12 * 512) := by decide +kernel

/-- The array row that row `r` of block `t` is. -/
abbrev row0 (t : Fin grid0.N) (r : Fin 2048) : Fin 8192 := shift (t.val / 12 * 2048) r (by have := Nat.lt_of_lt_of_eq t.isLt N_0; omega)

/-- The array column that column `j` of block `t` is. -/
abbrev col0 (t : Fin grid0.N) (j : Fin 512) : Fin 6144 := shift (t.val % 12 * 512) j (by omega)

/-- Where an element of the result's block lies. -/
theorem out0 (t : Fin grid0.N) (r : Fin 2048) (j : Fin 512) : (win0_2.rect t).emb (ix2 r j) = ix2 (row0 t r) (col0 t j) :=
  Shape.idx_ext₂ (emb_add win0_2 t _ 0 (start0 t).2.2.1) (emb_add win0_2 t _ 1 (start0 t).2.2.2)

/-- No step's block of the weight is cut, so the block is read off the weight whole. -/
theorem weight_block (c : Dev nD) (t : Fin cfg0.N) (j : Fin 512) (k : Fin 4096) :
    X0_1 m c t (ix2 j k) = V m c main_v3 (ix2 (shift (b := 6144) 0 (col0 t j) (by decide)) k) := by
  unfold X0_1 Window.fill
  rw [dif_pos (moved0_1 t (ix2 j k))]
  exact congrArg (V m c main_v3) (Shape.idx_ext₂
    ((emb_add win0_1 t _ 0 (start0 t).2.1.1).trans (Nat.zero_add _).symm) (emb_zero win0_1 t _ 1 (start0 t).2.1.2))

/-- The result array is the projection. -/
theorem final0 (c : Dev nD) : (dats m 0 c).arrAt 2 cfg0.N = proj (V m c main_v1) (V m c main_v3) := by
  refine Dat.arrAt_eq_of_cover _ 2 _ (fun t _ => ?_) (Window.Covers.cover win0_2 (by decide +kernel) (Memref.isWhole_whole _))
  show (cfg0.win 2).cut (grid0.coords t) ((dats m 0 c).after 2 t) = _
  rw [after0_2]
  refine mat_ext fun r j => (stored m c t r j).trans ?_
  refine Eq.trans ?_ (congrArg (proj (V m c main_v1) (V m c main_v3)) (out0 t r j).symm)
  refine rowRow_congr (fun k => ?_) (fun k => weight_block m c t j k)
  exact congrArg (V m c main_v1) (Shape.idx_ext₂ (emb_add win0_0 t _ 0 (start0 t).1.1) (emb_zero win0_0 t _ 1 (start0 t).1.2))

/-- The prompt's normalised rows, as launched. -/
abbrev a0 (c : Dev nD) := m ((c : Thread nD τ).loc main_arg0)

/-- The weight, as launched. -/
abbrev a1 (c : Dev nD) := m ((c : Thread nD τ).loc main_arg1)

section Hosts

variable (v : Valuation τ sig (Elt Ideal))

/-- The first operand: the rows, the groups laid one after another. -/
theorem rows_before : StableHlo.after hostOps0 v (Proc.devRef .tc main_v1) = shapeCast S8192x4096 (v (Proc.devRef .tc main_arg0)) shapeCasts_S4x2048x4096_S8192x4096 := by
  after_results_simp; rfl

/-- The second operand: the weight, transposed. -/
theorem weight_before : StableHlo.after hostOps0 v (Proc.devRef .tc main_v3) = transpose S10688x4096 [1, 0]
    (shapeCast S4096x10688 (v (Proc.devRef .tc main_arg1)) shapeCasts_S1x4096x10688_S4096x10688) transposes_S4096x10688_S10688x4096_1_0 := by
  after_results_simp; rfl

/-- What the operation after the call leaves: the call's result, its rows in groups. -/
theorem cut_after : StableHlo.after hostOps1 v (Proc.devRef .tc main_v5)
    = shapeCast S4x2048x6144 (v (Proc.devRef .tc main_v4)) shapeCasts_S8192x6144_S4x2048x6144 := by
  after_results_simp; rfl

end Hosts

/-- The rows, the groups laid one after another. -/
abbrev rows (c : Dev nD) : Mat 8192 4096 := shapeCast S8192x4096 (a0 m c) shapeCasts_S4x2048x4096_S8192x4096

/-- The weight, transposed. -/
abbrev weight (c : Dev nD) : Mat 10688 4096 := transpose S10688x4096 [1, 0]
  (shapeCast S4096x10688 (a1 m c) shapeCasts_S1x4096x10688_S4096x10688) transposes_S4096x10688_S10688x4096_1_0

/-- The call's result array is the projection of the launched rows by the launched weight. -/
theorem call_eq (c : Dev nD) : (dats m 0 c).arrAt 2 cfg0.N = proj (rows m c) (weight m c) :=
  (final0 m c).trans (congrArg₂ proj (rows_before _) (weight_before _))

/-- The array the program ends with. -/
theorem result_eq (c : Dev nD) : Pipeline.afterTail₀ cfgs (dats m) 0 (V0 m) [hostOps1] c main_v5
    = shapeCast S4x2048x6144 ((dats m 0 c).arrAt 2 cfg0.N) shapeCasts_S8192x6144_S4x2048x6144 :=
  (cut_after _).trans (congrArg (fun x => shapeCast S4x2048x6144 x shapeCasts_S8192x6144_S4x2048x6144)
    (Pipeline.withArrays_arr spec0 launch0.win.arr_inj c (V0 m c) (fun w => (dats m 0 c).arrAt w cfg0.N) 2))

/-- The transposed weight, read across. -/
theorem weight_at (c : Dev nD) (k : Fin 4096) (j : Fin 10688) : val_main_v0 (F := Ideal) (a1 m c) (ix2 k j) = weight m c (ix2 j k) :=
  (transpose_ix2_apply (val_main_v0 (F := Ideal) (a1 m c)) _ j k).symm

/-- The reference's product: each row against each column of the weight. -/
theorem product_ref (c : Dev nD) (b : Fin 4) (t : Fin 2048) (j : Fin 10688) : val_main_v1 (F := Ideal) (a0 m c) (a1 m c) (ix3 b t j)
    = rowRow (rows m c) (weight m c) (groupRow (M := 8192) b t rfl) j :=
  (val_main_v1_apply (a0 m c) (a1 m c) (ix3 b t j)).trans (Finset.sum_congr rfl fun k _ => congrArg₂ (fun u v : EReal => u * v)
    ((congrArg (a0 m c) (show lidx_main_v1 (ix3 b t j) k = ix3 b t k from cube_idx rfl rfl rfl)).trans (Grouped.flat (M := 8192) rfl (a0 m c) _ b t k))
    ((congrArg (val_main_v0 (F := Ideal) (a1 m c)) (show ridx_main_v1 (ix3 b t j) k = ix2 k j from Shape.idx_ext₂ rfl rfl)).trans (weight_at m c k j)))

/-- Its first 6144 columns: the projection's rows in groups. -/
theorem ref_eq (c : Dev nD) : Grouped (M := 8192) rfl (val_main_v2 (F := Ideal) (a0 m c) (a1 m c)) (proj (rows m c) (weight m c)) := fun b t j =>
  (val_main_v2_apply (a0 m c) (a1 m c) (ix3 b t j)).trans ((congrArg (val_main_v1 (F := Ideal) (a0 m c) (a1 m c))
    (show idx_main_v2 (ix3 b t j) = ix3 b t (shift (b := 6144) (M := 10688) 0 j (by decide)) from cube_idx rfl rfl (Fin.ext (Nat.zero_add _).symm))).trans
    (product_ref m c b t (shift (b := 6144) (M := 10688) 0 j (by decide))))

/-- Over the extended reals the kernel's result is the reference's. -/
theorem algebraic : Cert.algebraic_RkvIdeal_RkvRefIdeal := by
  intro m g m' g' _ hm
  refine ⟨fun c => Pipeline.afterTail₀ cfgs (dats m) 0 (V0 m) [hostOps1] c main_v5, ?_, ?_⟩
  · refine (θ_run _ _ _).mono (fun r h c => ?_) (run_main m g)
    exact ⟨(h c).2 main_v5 (Pipeline.mem_restRefs_of main_v5 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩
  · refine (θ_run _ _ _).mono (fun r h c => ?_) (Cert.RkvRefIdeal.Value.run m' g')
    obtain ⟨h0, hargs⟩ := h c
    obtain ⟨e0, e1⟩ := hm c
    refine ⟨h0.trans ((val_main_v2_eq _ _).trans ?_), hargs⟩
    rw [e0, e1]
    refine Eq.trans ?_ ((result_eq m c).trans (congrArg (fun x => shapeCast S4x2048x6144 x shapeCasts_S8192x6144_S4x2048x6144) (call_eq m c))).symm
    exact ((ref_eq m c).cut _).symm

end Cert.RkvIdeal.Values
-- ==== Proof.Lanes.lean ====
/-
  Three groups of columns, each filled up with zeros to whole groups of 128, laid one after another: as rows of a weight, where the
  kernel fills them, and as columns of a product, where the reference does.
-/
module

public import proofs.«01_k».proof.Proof.Grouped
public import Idealize.ShloMosaic.Lib.KernelVsHost

@[expose] public section

set_option maxRecDepth 16384

noncomputable section

namespace Layer

open Idealize.ShloMosaic Idealize.ShloMosaic.ValueIdx

variable {A T N M m n k o p : ℕ}

/-- `n` entries of `f` from place `o`, filled up with zeros. -/
def filled (ho : o + n ≤ 10688) (f : Fin 10688 → EReal) (c : Fin N) : EReal :=
  if hc : c.val < n then f (shift (b := n) o ⟨c.val, hc⟩ ho) else 0

/-- The three groups one after another: 96 entries filled up to 128, 96 more filled up to 128, and 256. -/
def lanes (f : Fin 10688 → EReal) (c : Fin 512) : EReal :=
  if h : c.val < 128 then filled (N := 128) (o := 6144) (n := 96) (by decide) f ⟨c.val, h⟩
  else if h' : c.val < 256 then filled (N := 128) (o := 6240) (n := 96) (by decide) f ⟨c.val - 128, by omega⟩
  else filled (N := 256) (o := 6336) (n := 256) (by decide) f ⟨c.val - 256, by omega⟩

/-- A sum of products over filled-up entries is the sum of products, filled up. -/
theorem filled_sum (ho : o + n ≤ 10688) (x : Fin k → EReal) (f : Fin k → Fin 10688 → EReal) (c : Fin N) :
    ∑ j, x j * filled ho (f j) c = filled ho (fun a => ∑ j, x j * f j a) c := by
  unfold filled
  split
  · rfl
  · simp only [mul_zero, Finset.sum_const_zero]

/-- The same over the three groups. -/
theorem lanes_sum (x : Fin k → EReal) (f : Fin k → Fin 10688 → EReal) (c : Fin 512) :
    ∑ j, x j * lanes (f j) c = lanes (fun a => ∑ j, x j * f j a) c := by
  unfold lanes
  split
  · exact filled_sum _ x f _
  · split
    · exact filled_sum _ x f _
    · exact filled_sum _ x f _

/-! ## Rows of a matrix -/

/-- The rows in their three groups. -/
def laneRows (w : Mat 10688 k) : Mat 512 k := fun i => lanes (fun a => w (ix2 a (i 1))) (i 0)

/-- The product of each row of `x` with each row of the three groups. -/
def lowRank (x : Mat m k) (w : Mat 512 k) : Mat m 512 := fun i => rowRow x w (i 0) (i 1)

/-- A row against a row of the three groups: the products in their three groups. -/
theorem lowRank_laneRows (x : Mat m k) (w : Mat 10688 k) (r : Fin m) (c : Fin 512) :
    lowRank x (laneRows w) (ix2 r c) = lanes (fun a => rowRow x w r a) c :=
  lanes_sum (fun j => x (ix2 r j)) (fun j a => w (ix2 a j)) c

/-- What a kernel with a rounded weight stores is the product of rows. -/
theorem lowRank_stored (x : FVec Ideal ⟨2, ![m, k]⟩ .bf16) (w : FVec Ideal ⟨2, ![512, k]⟩ .bf16)
    (hx : (⟨2, ![m, k]⟩ : Shape).ShapeCasts ⟨2, ![m, k]⟩) (hw : (⟨2, ![512, k]⟩ : Shape).ShapeCasts ⟨2, ![512, k]⟩) (r : Fin m) (c : Fin 512) :
    FloatOps.matmul (DotDims.transposedRhs m k 512) none (shapeCast ⟨2, ![m, k]⟩ x hx) (shapeCast ⟨2, ![512, k]⟩ w hw)
      (constant (F := Ideal) ⟨2, ![m, 512]⟩ .f32 0x00000000#32) (ix2 r c) = rowRow x w r c := by
  rw [Ideal.matmul_transposedRhs_apply, shapeCast_self, shapeCast_self, constant_apply, Ideal.ofBits_zero_f32, zero_add]
  rfl

/-- What a kernel stores for a block of rows is the product at the block's place in the array. -/
theorem lowRank_block (x' : FVec Ideal ⟨2, ![m, k]⟩ .bf16) (w' : FVec Ideal ⟨2, ![512, k]⟩ .bf16)
    (hx : (⟨2, ![m, k]⟩ : Shape).ShapeCasts ⟨2, ![m, k]⟩) (hw : (⟨2, ![512, k]⟩ : Shape).ShapeCasts ⟨2, ![512, k]⟩)
    {x : Mat M k} {w : Mat 512 k} (row : Fin m → Fin M) (ex : ∀ r j, x' (ix2 r j) = x (ix2 (row r) j)) (ew : ∀ c j, w' (ix2 c j) = w (ix2 c j))
    (r : Fin m) (c : Fin 512) :
    FloatOps.matmul (DotDims.transposedRhs m k 512) none (shapeCast ⟨2, ![m, k]⟩ x' hx) (shapeCast ⟨2, ![512, k]⟩ w' hw)
      (constant (F := Ideal) ⟨2, ![m, 512]⟩ .f32 0x00000000#32) (ix2 r c) = lowRank x w (ix2 (row r) c) :=
  (lowRank_stored x' w' hx hw r c).trans (Finset.sum_congr rfl fun j _ => congrArg₂ (· * ·) (ex r j) (ew c j))

/-- Rows filled up with zero rows. -/
theorem pad_rows (ho : o + n ≤ 10688) (w : Mat 10688 k) {x : Mat n k} {z : (⟨0, ![]⟩ : Shape).Idx → EReal} (hz : ∀ i, z i = 0)
    (hx : ∀ c j, x (ix2 c j) = w (ix2 (shift o c ho) j))
    (h : (⟨2, ![n, k]⟩ : Shape).Pads ![0, 0] ![p, 0] ![0, 0] ⟨2, ![N, k]⟩) (hu : 0 < (⟨0, ![]⟩ : Shape).numel) (c : Fin N) (j : Fin k) :
    pad ⟨2, ![N, k]⟩ ![0, 0] ![p, 0] ![0, 0] x z h hu (ix2 c j) = filled ho (fun a => w (ix2 a j)) c := by
  unfold filled
  split
  · rename_i hc
    refine (pad_apply_of_inside _ _ _ x z h hu _ (ix2 ⟨c.val, hc⟩ j) fun a => ?_).trans (hx _ _)
    match a with
    | ⟨0, _⟩ => show c.val = 0 + c.val * (0 + 1); omega
    | ⟨1, _⟩ => show j.val = 0 + j.val * (0 + 1); omega
  · rename_i hc
    refine (pad_apply_of_not_inside _ _ _ x z h hu _ 0 fun ha => hc ?_).trans (hz _)
    have h3 : (c.val - 0) / (0 + 1) < n := ha.2.2
    simpa using h3

/-- Rows cut twice. -/
theorem cut_rows (w : Mat 10688 k) {o' q : ℕ} (h : (⟨2, ![10688, k]⟩ : Shape).Slices ![o, 0] ⟨2, ![q, k]⟩)
    (h' : (⟨2, ![q, k]⟩ : Shape).Slices ![o', 0] ⟨2, ![n, k]⟩) (ho : o + q ≤ 10688) (ho' : o' + n ≤ q) (c : Fin n) (j : Fin k) :
    extractStridedSlice ⟨2, ![n, k]⟩ ![o', 0] (extractStridedSlice ⟨2, ![q, k]⟩ ![o, 0] w h) h' (ix2 c j)
      = w (ix2 (shift (o + o') c (by omega)) j) := by
  refine (extractStridedSlice_apply _ _ h' _ (ix2 (shift o' c ho') j) fun a => ?_).trans
    (extractStridedSlice_apply _ w h _ _ fun a => ?_)
  · match a with
    | ⟨0, _⟩ => rfl
    | ⟨1, _⟩ => exact (Nat.zero_add _).symm
  · match a with
    | ⟨0, _⟩ => exact Nat.add_assoc o o' c.val
    | ⟨1, _⟩ => exact (Nat.zero_add _).symm

/-- The three groups of rows joined. -/
theorem join_rows (w : Mat 10688 k) {y0 y1 : Mat 128 k} {y2 : Mat 256 k}
    (h0 : ∀ c j, y0 (ix2 c j) = filled (o := 6144) (n := 96) (by decide) (fun a => w (ix2 a j)) c)
    (h1 : ∀ c j, y1 (ix2 c j) = filled (o := 6240) (n := 96) (by decide) (fun a => w (ix2 a j)) c)
    (h2 : ∀ c j, y2 (ix2 c j) = filled (o := 6336) (n := 256) (by decide) (fun a => w (ix2 a j)) c)
    (h : Shape.Concatenates [⟨2, ![128, k]⟩, ⟨2, ![128, k]⟩, ⟨2, ![256, k]⟩] ⟨2, ![512, k]⟩ 0) :
    concatenate ⟨2, ![512, k]⟩ 0 [⟨⟨2, ![128, k]⟩, y0⟩, ⟨⟨2, ![128, k]⟩, y1⟩, ⟨⟨2, ![256, k]⟩, y2⟩] h = laneRows w :=
  mat_ext fun c j => by
    unfold laneRows lanes
    split
    · rename_i hc
      refine (concatenate_apply_piece 0 [⟨_, y0⟩, ⟨_, y1⟩, ⟨_, y2⟩] h _ 0 (show 0 < 3 by decide) _ y0 rfl rfl 0 rfl (ix2 ⟨c.val, hc⟩ j) (fun b hb => ?_) (Nat.zero_add _)).trans (h0 _ _)
      match b with
      | ⟨0, _⟩ => exact absurd rfl hb
      | ⟨1, _⟩ => rfl
    · rename_i hc
      replace hc : ¬c.val < 128 := hc
      split
      · rename_i hd
        replace hd : c.val < 256 := hd
        refine (concatenate_apply_piece 0 [⟨_, y0⟩, ⟨_, y1⟩, ⟨_, y2⟩] h _ 1 (show 1 < 3 by decide) _ y1 rfl rfl 128 rfl (ix2 ⟨c.val - 128, by omega⟩ j) (fun b hb => ?_) (show _ + (c.val - _) = c.val by omega)).trans (h1 _ _)
        match b with
        | ⟨0, _⟩ => exact absurd rfl hb
        | ⟨1, _⟩ => rfl
      · rename_i hd
        replace hd : ¬c.val < 256 := hd
        refine (concatenate_apply_piece 0 [⟨_, y0⟩, ⟨_, y1⟩, ⟨_, y2⟩] h _ 2 (show 2 < 3 by decide) _ y2 rfl rfl 256 rfl (ix2 ⟨c.val - 256, by omega⟩ j) (fun b hb => ?_) (show _ + (c.val - _) = c.val by omega)).trans (h2 _ _)
        match b with
        | ⟨0, _⟩ => exact absurd rfl hb
        | ⟨1, _⟩ => rfl

/-! ## Columns of groups of rows -/

/-- Columns filled up with zero columns. -/
theorem pad_cols (ho : o + n ≤ 10688) (f : Fin A → Fin T → Fin 10688 → EReal) {x : Cube A T n} {z : (⟨0, ![]⟩ : Shape).Idx → EReal}
    (hz : ∀ i, z i = 0) (hx : ∀ b t c, x (ix3 b t c) = f b t (shift o c ho))
    (h : (⟨3, ![A, T, n]⟩ : Shape).Pads ![0, 0, 0] ![0, 0, p] ![0, 0, 0] ⟨3, ![A, T, N]⟩) (hu : 0 < (⟨0, ![]⟩ : Shape).numel)
    (b : Fin A) (t : Fin T) (c : Fin N) :
    pad ⟨3, ![A, T, N]⟩ ![0, 0, 0] ![0, 0, p] ![0, 0, 0] x z h hu (ix3 b t c) = filled ho (f b t) c := by
  unfold filled
  split
  · rename_i hc
    refine (pad_apply_of_inside _ _ _ x z h hu _ (ix3 b t ⟨c.val, hc⟩) fun a => ?_).trans (hx _ _ _)
    match a with
    | ⟨0, _⟩ => show b.val = 0 + b.val * (0 + 1); omega
    | ⟨1, _⟩ => show t.val = 0 + t.val * (0 + 1); omega
    | ⟨2, _⟩ => show c.val = 0 + c.val * (0 + 1); omega
  · rename_i hc
    refine (pad_apply_of_not_inside _ _ _ x z h hu _ 2 fun ha => hc ?_).trans (hz _)
    have h3 : (c.val - 0) / (0 + 1) < n := ha.2.2
    simpa using h3

/-- Columns cut twice. -/
theorem cut_cols (x : Cube A T 10688) {o' q : ℕ} (h : (⟨3, ![A, T, 10688]⟩ : Shape).Slices ![0, 0, o] ⟨3, ![A, T, q]⟩)
    (h' : (⟨3, ![A, T, q]⟩ : Shape).Slices ![0, 0, o'] ⟨3, ![A, T, n]⟩) (ho : o + q ≤ 10688) (ho' : o' + n ≤ q) (b : Fin A) (t : Fin T) (c : Fin n) :
    extractStridedSlice ⟨3, ![A, T, n]⟩ ![0, 0, o'] (extractStridedSlice ⟨3, ![A, T, q]⟩ ![0, 0, o] x h) h' (ix3 b t c)
      = x (ix3 b t (shift (o + o') c (by omega))) := by
  refine (extractStridedSlice_apply _ _ h' _ (ix3 b t (shift o' c ho')) fun a => ?_).trans
    (extractStridedSlice_apply _ x h _ _ fun a => ?_)
  · match a with
    | ⟨0, _⟩ => exact (Nat.zero_add _).symm
    | ⟨1, _⟩ => exact (Nat.zero_add _).symm
    | ⟨2, _⟩ => rfl
  · match a with
    | ⟨0, _⟩ => exact (Nat.zero_add _).symm
    | ⟨1, _⟩ => exact (Nat.zero_add _).symm
    | ⟨2, _⟩ => exact Nat.add_assoc o o' c.val

/-- The three groups of columns joined, read at an index. -/
theorem join_cols (f : Fin A → Fin T → Fin 10688 → EReal) {y0 y1 : Cube A T 128} {y2 : Cube A T 256}
    (h0 : ∀ b t c, y0 (ix3 b t c) = filled (o := 6144) (n := 96) (by decide) (f b t) c)
    (h1 : ∀ b t c, y1 (ix3 b t c) = filled (o := 6240) (n := 96) (by decide) (f b t) c)
    (h2 : ∀ b t c, y2 (ix3 b t c) = filled (o := 6336) (n := 256) (by decide) (f b t) c)
    (h : Shape.Concatenates [⟨3, ![A, T, 128]⟩, ⟨3, ![A, T, 128]⟩, ⟨3, ![A, T, 256]⟩] ⟨3, ![A, T, 512]⟩ 2) (b : Fin A) (t : Fin T) (c : Fin 512) :
    concatenate ⟨3, ![A, T, 512]⟩ 2 [⟨⟨3, ![A, T, 128]⟩, y0⟩, ⟨⟨3, ![A, T, 128]⟩, y1⟩, ⟨⟨3, ![A, T, 256]⟩, y2⟩] h (ix3 b t c) = lanes (f b t) c := by
  unfold lanes
  split
  · rename_i hc
    refine (concatenate_apply_piece 2 [⟨_, y0⟩, ⟨_, y1⟩, ⟨_, y2⟩] h _ 0 (show 0 < 3 by decide) _ y0 rfl rfl 0 rfl (ix3 b t ⟨c.val, hc⟩) (fun a ha => ?_) (Nat.zero_add _)).trans (h0 _ _ _)
    match a with
    | ⟨0, _⟩ => rfl
    | ⟨1, _⟩ => rfl
    | ⟨2, _⟩ => exact absurd rfl ha
  · rename_i hc
    split
    · rename_i hd
      refine (concatenate_apply_piece 2 [⟨_, y0⟩, ⟨_, y1⟩, ⟨_, y2⟩] h _ 1 (show 1 < 3 by decide) _ y1 rfl rfl 128 rfl (ix3 b t ⟨c.val - 128, by omega⟩) (fun a ha => ?_) (show _ + (c.val - _) = c.val by omega)).trans (h1 _ _ _)
      match a with
      | ⟨0, _⟩ => rfl
      | ⟨1, _⟩ => rfl
      | ⟨2, _⟩ => exact absurd rfl ha
    · rename_i hd
      refine (concatenate_apply_piece 2 [⟨_, y0⟩, ⟨_, y1⟩, ⟨_, y2⟩] h _ 2 (show 2 < 3 by decide) _ y2 rfl rfl 256 rfl (ix3 b t ⟨c.val - 256, by omega⟩) (fun a ha => ?_) (show _ + (c.val - _) = c.val by omega)).trans (h2 _ _ _)
      match a with
      | ⟨0, _⟩ => rfl
      | ⟨1, _⟩ => rfl
      | ⟨2, _⟩ => exact absurd rfl ha

/-- Columns cut from the three places of a product, filled up and joined: the product's columns in their three groups. -/
theorem lane_cols (x : Cube A T 10688) {z0 z1 z2 : (⟨0, ![]⟩ : Shape).Idx → EReal} (e0 : ∀ i, z0 i = 0) (e1 : ∀ i, z1 i = 0) (e2 : ∀ i, z2 i = 0)
    (h : (⟨3, ![A, T, 10688]⟩ : Shape).Slices ![0, 0, 6144] ⟨3, ![A, T, 448]⟩)
    (s0 : (⟨3, ![A, T, 448]⟩ : Shape).Slices ![0, 0, 0] ⟨3, ![A, T, 96]⟩) (s1 : (⟨3, ![A, T, 448]⟩ : Shape).Slices ![0, 0, 96] ⟨3, ![A, T, 96]⟩)
    (s2 : (⟨3, ![A, T, 448]⟩ : Shape).Slices ![0, 0, 192] ⟨3, ![A, T, 256]⟩)
    (p0 : (⟨3, ![A, T, 96]⟩ : Shape).Pads ![0, 0, 0] ![0, 0, 32] ![0, 0, 0] ⟨3, ![A, T, 128]⟩)
    (p2 : (⟨3, ![A, T, 256]⟩ : Shape).Pads ![0, 0, 0] ![0, 0, 0] ![0, 0, 0] ⟨3, ![A, T, 256]⟩) (hu : 0 < (⟨0, ![]⟩ : Shape).numel)
    (hc : Shape.Concatenates [⟨3, ![A, T, 128]⟩, ⟨3, ![A, T, 128]⟩, ⟨3, ![A, T, 256]⟩] ⟨3, ![A, T, 512]⟩ 2) (b : Fin A) (t : Fin T) (c : Fin 512) :
    concatenate ⟨3, ![A, T, 512]⟩ 2
      [⟨⟨3, ![A, T, 128]⟩, pad ⟨3, ![A, T, 128]⟩ ![0, 0, 0] ![0, 0, 32] ![0, 0, 0]
        (extractStridedSlice ⟨3, ![A, T, 96]⟩ ![0, 0, 0] (extractStridedSlice ⟨3, ![A, T, 448]⟩ ![0, 0, 6144] x h) s0) z0 p0 hu⟩,
      ⟨⟨3, ![A, T, 128]⟩, pad ⟨3, ![A, T, 128]⟩ ![0, 0, 0] ![0, 0, 32] ![0, 0, 0]
        (extractStridedSlice ⟨3, ![A, T, 96]⟩ ![0, 0, 96] (extractStridedSlice ⟨3, ![A, T, 448]⟩ ![0, 0, 6144] x h) s1) z1 p0 hu⟩,
      ⟨⟨3, ![A, T, 256]⟩, pad ⟨3, ![A, T, 256]⟩ ![0, 0, 0] ![0, 0, 0] ![0, 0, 0]
        (extractStridedSlice ⟨3, ![A, T, 256]⟩ ![0, 0, 192] (extractStridedSlice ⟨3, ![A, T, 448]⟩ ![0, 0, 6144] x h) s2) z2 p2 hu⟩] hc (ix3 b t c)
      = lanes (fun a => x (ix3 b t a)) c :=
  join_cols (fun b t a => x (ix3 b t a))
    (pad_cols _ _ e0 (cut_cols x h s0 (by decide) (by decide)) p0 hu)
    (pad_cols _ _ e1 (cut_cols x h s1 (by decide) (by decide)) p0 hu)
    (pad_cols _ _ e2 (cut_cols x h s2 (by decide) (by decide)) p2 hu) hc b t c

/-- Rows cut from the three places of a weight, filled up and joined: the weight's rows in their three groups. -/
theorem lane_rows (w : Mat 10688 k) {z0 z1 z2 : (⟨0, ![]⟩ : Shape).Idx → EReal} (e0 : ∀ i, z0 i = 0) (e1 : ∀ i, z1 i = 0) (e2 : ∀ i, z2 i = 0)
    (h : (⟨2, ![10688, k]⟩ : Shape).Slices ![6144, 0] ⟨2, ![448, k]⟩)
    (s0 : (⟨2, ![448, k]⟩ : Shape).Slices ![0, 0] ⟨2, ![96, k]⟩) (s1 : (⟨2, ![448, k]⟩ : Shape).Slices ![96, 0] ⟨2, ![96, k]⟩)
    (s2 : (⟨2, ![448, k]⟩ : Shape).Slices ![192, 0] ⟨2, ![256, k]⟩)
    (p0 : (⟨2, ![96, k]⟩ : Shape).Pads ![0, 0] ![32, 0] ![0, 0] ⟨2, ![128, k]⟩)
    (p2 : (⟨2, ![256, k]⟩ : Shape).Pads ![0, 0] ![0, 0] ![0, 0] ⟨2, ![256, k]⟩) (hu : 0 < (⟨0, ![]⟩ : Shape).numel)
    (hc : Shape.Concatenates [⟨2, ![128, k]⟩, ⟨2, ![128, k]⟩, ⟨2, ![256, k]⟩] ⟨2, ![512, k]⟩ 0) :
    concatenate ⟨2, ![512, k]⟩ 0
      [⟨⟨2, ![128, k]⟩, pad ⟨2, ![128, k]⟩ ![0, 0] ![32, 0] ![0, 0]
        (extractStridedSlice ⟨2, ![96, k]⟩ ![0, 0] (extractStridedSlice ⟨2, ![448, k]⟩ ![6144, 0] w h) s0) z0 p0 hu⟩,
      ⟨⟨2, ![128, k]⟩, pad ⟨2, ![128, k]⟩ ![0, 0] ![32, 0] ![0, 0]
        (extractStridedSlice ⟨2, ![96, k]⟩ ![96, 0] (extractStridedSlice ⟨2, ![448, k]⟩ ![6144, 0] w h) s1) z1 p0 hu⟩,
      ⟨⟨2, ![256, k]⟩, pad ⟨2, ![256, k]⟩ ![0, 0] ![0, 0] ![0, 0]
        (extractStridedSlice ⟨2, ![256, k]⟩ ![192, 0] (extractStridedSlice ⟨2, ![448, k]⟩ ![6144, 0] w h) s2) z2 p2 hu⟩] hc = laneRows w :=
  join_rows w
    (pad_rows _ w e0 (cut_rows w h s0 (by decide) (by decide)) p0 hu)
    (pad_rows _ w e1 (cut_rows w h s1 (by decide) (by decide)) p0 hu)
    (pad_rows _ w e2 (cut_rows w h s2 (by decide) (by decide)) p2 hu) hc

/-- The word zero, made a float, is zero. -/
theorem fill_zero (i : (⟨0, ![]⟩ : Shape).Idx) : (sitofp .f32 (constantI ⟨0, ![]⟩ 32 0#32) : FVec Ideal ⟨0, ![]⟩ .f32) i = (0 : EReal) :=
  sitofp_zero

end Layer
-- ==== Proof.LoraRegions.lean ====
/-
  What each call of the low-rank branches leaves in its result array, as a function of the arrays it reads.
-/
module

public import proofs.«01_k».proof.Proof.Gen.LoraIdeal.Frame
public import proofs.«01_k».proof.Proof.Lanes
public import Idealize.ShloMosaic.Lib.Pipeline.ValueKit.Geometry

@[expose] public section

set_option maxRecDepth 16384

noncomputable section

namespace Cert.LoraIdeal.Regions

open Idealize.ShloMosaic Idealize.ShloMosaic.TcCoe Idealize.SL.Sem Idealize.ShloMosaic.ValueIdx
open Idealize.ShloMosaic.Pipeline (Dat Window)
open Cert.LoraIdeal Cert.LoraIdeal.Gen Layer

variable (V : (c : Dev nD) → (b : Ref sig .tc) → Buf (Elt Ideal) ((c : Thread nD τ).loc b))

theorem hz : (![0, 0] : Fin 2 → Nat) = fun _ => 0 := funext fun a => by fin_cases a <;> rfl

/-! ## The norm, at the prompt -/

/-- Where the blocks start. -/
theorem start0 : ∀ t : Fin grid0.N, (start win0_0 t 0 = t.val * 512 ∧ start win0_0 t 1 = 0)
    ∧ (start win0_1 t 0 = 0 ∧ start win0_1 t 1 = 0)
    ∧ (start win0_2 t 0 = t.val * 512 ∧ start win0_2 t 1 = 0) := by decide +kernel

/-- The array row that row `r` of block `t` is. -/
abbrev row0 (t : Fin grid0.N) (r : Fin 512) : Fin 8192 := shift (t.val * 512) r (by have := Nat.lt_of_lt_of_eq t.isLt N_0; omega)

/-- Where an element of the result's block lies. -/
theorem out0 (t : Fin grid0.N) (r : Fin 512) (j : Fin 4096) : (win0_2.rect t).emb (ix2 r j) = ix2 (row0 t r) j :=
  Shape.idx_ext₂ (emb_add win0_2 t _ 0 (start0 t).2.2.1) (emb_zero win0_2 t _ 1 (start0 t).2.2.2)

/-- The result array is the normalised rows. -/
theorem final0 (c : Dev nD) : (dat0 V c).arrAt 2 cfg0.N = rms (m := 8192) (V c main_v13) (V c main_v14) := by
  refine Dat.arrAt_eq_of_cover _ 2 _ (fun t _ => ?_) (Window.Covers.cover win0_2 (by decide +kernel) (Memref.isWhole_whole _))
  show (cfg0.win 2).cut (grid0.coords t) ((dat0 V c).after 2 t) = _
  rw [after0_2]
  unfold out0_2
  rw [View.canon_unit_zero hz, View.ld_unit_zero hz, View.ld_unit_zero hz]
  refine (rms_stored (m := 512) _ _ _ _ _ _ _ _ _ _).trans (mat_ext fun r j => ?_)
  rw [show iblk0 V c 1 t = V c main_v14 from mat_ext fun _ _ => congrArg (V c main_v14) (Shape.idx_ext₂ (emb_zero win0_1 t _ 0 (start0 t).2.1.1) (emb_zero win0_1 t _ 1 (start0 t).2.1.2))]
  refine (rms_row _ j fun _ => ?_).trans (congrArg (rms (m := 8192) (V c main_v13) (V c main_v14)) (out0 t r j).symm)
  exact congrArg (V c main_v13) (Shape.idx_ext₂ (emb_add win0_0 t _ 0 (start0 t).1.1) (emb_zero win0_0 t _ 1 (start0 t).1.2))

/-! ## The projection, at the prompt -/

/-- Where the blocks start. -/
theorem start1 : ∀ t : Fin grid1.N, (start win1_0 t 0 = t.val * 1024 ∧ start win1_0 t 1 = 0)
    ∧ (start win1_1 t 0 = 0 ∧ start win1_1 t 1 = 0)
    ∧ (start win1_2 t 0 = t.val * 1024 ∧ start win1_2 t 1 = 0) := by decide +kernel

/-- The array row that row `r` of block `t` is. -/
abbrev row1 (t : Fin grid1.N) (r : Fin 1024) : Fin 8192 := shift (t.val * 1024) r (by have := Nat.lt_of_lt_of_eq t.isLt N_1; omega)

/-- Where an element of the result's block lies. -/
theorem out1 (t : Fin grid1.N) (r : Fin 1024) (j : Fin 512) : (win1_2.rect t).emb (ix2 r j) = ix2 (row1 t r) j :=
  Shape.idx_ext₂ (emb_add win1_2 t _ 0 (start1 t).2.2.1) (emb_zero win1_2 t _ 1 (start1 t).2.2.2)

/-- The result array is the product of the rows. -/
theorem final1 (c : Dev nD) : (dat1 V c).arrAt 2 cfg1.N = lowRank (m := 8192) (V c main_v15) (V c main_v12) := by
  refine Dat.arrAt_eq_of_cover _ 2 _ (fun t _ => ?_) (Window.Covers.cover win1_2 (by decide +kernel) (Memref.isWhole_whole _))
  show (cfg1.win 2).cut (grid1.coords t) ((dat1 V c).after 2 t) = _
  rw [after1_2]
  unfold out1_2
  rw [View.canon_unit_zero hz, View.ld_unit_zero hz, View.ld_unit_zero hz]
  refine mat_ext fun r j => (lowRank_block (m := 1024) (iblk1 V c 0 t) (iblk1 V c 1 t) _ _ (row1 t)
    (fun _ _ => congrArg (V c main_v15) (Shape.idx_ext₂ (emb_add win1_0 t _ 0 (start1 t).1.1) (emb_zero win1_0 t _ 1 (start1 t).1.2)))
    (fun _ _ => congrArg (V c main_v12) (Shape.idx_ext₂ (emb_zero win1_1 t _ 0 (start1 t).2.1.1) (emb_zero win1_1 t _ 1 (start1 t).2.1.2))) r j).trans ?_
  exact congrArg (lowRank (m := 8192) (V c main_v15) (V c main_v12)) (out1 t r j).symm

/-! ## The norm, at the samples -/

/-- Where the blocks start. -/
theorem start2 : ∀ t : Fin grid2.N, (start win2_0 t 0 = t.val * 512 ∧ start win2_0 t 1 = 0)
    ∧ (start win2_1 t 0 = 0 ∧ start win2_1 t 1 = 0)
    ∧ (start win2_2 t 0 = t.val * 512 ∧ start win2_2 t 1 = 0) := by decide +kernel

/-- The array row that row `r` of block `t` is. -/
abbrev row2 (t : Fin grid2.N) (r : Fin 512) : Fin 1024 := shift (t.val * 512) r (by have := Nat.lt_of_lt_of_eq t.isLt N_2; omega)

/-- Where an element of the result's block lies. -/
theorem out2 (t : Fin grid2.N) (r : Fin 512) (j : Fin 4096) : (win2_2.rect t).emb (ix2 r j) = ix2 (row2 t r) j :=
  Shape.idx_ext₂ (emb_add win2_2 t _ 0 (start2 t).2.2.1) (emb_zero win2_2 t _ 1 (start2 t).2.2.2)

/-- The result array is the normalised rows. -/
theorem final2 (c : Dev nD) : (dat2 V c).arrAt 2 cfg2.N = rms (m := 1024) (V c main_v19) (V c main_v20) := by
  refine Dat.arrAt_eq_of_cover _ 2 _ (fun t _ => ?_) (Window.Covers.cover win2_2 (by decide +kernel) (Memref.isWhole_whole _))
  show (cfg2.win 2).cut (grid2.coords t) ((dat2 V c).after 2 t) = _
  rw [after2_2]
  unfold out2_2
  rw [View.canon_unit_zero hz, View.ld_unit_zero hz, View.ld_unit_zero hz]
  refine (rms_stored (m := 512) _ _ _ _ _ _ _ _ _ _).trans (mat_ext fun r j => ?_)
  rw [show iblk2 V c 1 t = V c main_v20 from mat_ext fun _ _ => congrArg (V c main_v20) (Shape.idx_ext₂ (emb_zero win2_1 t _ 0 (start2 t).2.1.1) (emb_zero win2_1 t _ 1 (start2 t).2.1.2))]
  refine (rms_row _ j fun _ => ?_).trans (congrArg (rms (m := 1024) (V c main_v19) (V c main_v20)) (out2 t r j).symm)
  exact congrArg (V c main_v19) (Shape.idx_ext₂ (emb_add win2_0 t _ 0 (start2 t).1.1) (emb_zero win2_0 t _ 1 (start2 t).1.2))

/-! ## The projection, at the samples -/

/-- Where the blocks start. -/
theorem start3 : ∀ t : Fin grid3.N, (start win3_0 t 0 = t.val * 1024 ∧ start win3_0 t 1 = 0)
    ∧ (start win3_1 t 0 = 0 ∧ start win3_1 t 1 = 0)
    ∧ (start win3_2 t 0 = t.val * 1024 ∧ start win3_2 t 1 = 0) := by decide +kernel

/-- The array row that row `r` of block `t` is. -/
abbrev row3 (t : Fin grid3.N) (r : Fin 1024) : Fin 1024 := shift (t.val * 1024) r (by have := Nat.lt_of_lt_of_eq t.isLt N_3; omega)

/-- Where an element of the result's block lies. -/
theorem out3 (t : Fin grid3.N) (r : Fin 1024) (j : Fin 512) : (win3_2.rect t).emb (ix2 r j) = ix2 (row3 t r) j :=
  Shape.idx_ext₂ (emb_add win3_2 t _ 0 (start3 t).2.2.1) (emb_zero win3_2 t _ 1 (start3 t).2.2.2)

/-- The result array is the product of the rows. -/
theorem final3 (c : Dev nD) : (dat3 V c).arrAt 2 cfg3.N = lowRank (m := 1024) (V c main_v21) (V c main_v12) := by
  refine Dat.arrAt_eq_of_cover _ 2 _ (fun t _ => ?_) (Window.Covers.cover win3_2 (by decide +kernel) (Memref.isWhole_whole _))
  show (cfg3.win 2).cut (grid3.coords t) ((dat3 V c).after 2 t) = _
  rw [after3_2]
  unfold out3_2
  rw [View.canon_unit_zero hz, View.ld_unit_zero hz, View.ld_unit_zero hz]
  refine mat_ext fun r j => (lowRank_block (m := 1024) (iblk3 V c 0 t) (iblk3 V c 1 t) _ _ (row3 t)
    (fun _ _ => congrArg (V c main_v21) (Shape.idx_ext₂ (emb_add win3_0 t _ 0 (start3 t).1.1) (emb_zero win3_0 t _ 1 (start3 t).1.2)))
    (fun _ _ => congrArg (V c main_v12) (Shape.idx_ext₂ (emb_zero win3_1 t _ 0 (start3 t).2.1.1) (emb_zero win3_1 t _ 1 (start3 t).2.1.2))) r j).trans ?_
  exact congrArg (lowRank (m := 1024) (V c main_v21) (V c main_v12)) (out3 t r j).symm

/-! ## The projection of the samples' rows before the first -/

/-- Where the blocks start. -/
theorem start4 : ∀ t : Fin grid4.N, (start win4_0 t 0 = t.val * 128 ∧ start win4_0 t 1 = 0)
    ∧ (start win4_1 t 0 = 0 ∧ start win4_1 t 1 = 0)
    ∧ (start win4_2 t 0 = t.val * 128 ∧ start win4_2 t 1 = 0) := by decide +kernel

/-- The array row that row `r` of block `t` is. -/
abbrev row4 (t : Fin grid4.N) (r : Fin 128) : Fin 128 := shift (t.val * 128) r (by have := Nat.lt_of_lt_of_eq t.isLt N_4; omega)

/-- Where an element of the result's block lies. -/
theorem out4 (t : Fin grid4.N) (r : Fin 128) (j : Fin 512) : (win4_2.rect t).emb (ix2 r j) = ix2 (row4 t r) j :=
  Shape.idx_ext₂ (emb_add win4_2 t _ 0 (start4 t).2.2.1) (emb_zero win4_2 t _ 1 (start4 t).2.2.2)

/-- The result array is the product of the rows. -/
theorem final4 (c : Dev nD) : (dat4 V c).arrAt 2 cfg4.N = lowRank (m := 128) (V c main_v24) (V c main_v12) := by
  refine Dat.arrAt_eq_of_cover _ 2 _ (fun t _ => ?_) (Window.Covers.cover win4_2 (by decide +kernel) (Memref.isWhole_whole _))
  show (cfg4.win 2).cut (grid4.coords t) ((dat4 V c).after 2 t) = _
  rw [after4_2]
  unfold out4_2
  rw [View.canon_unit_zero hz, View.ld_unit_zero hz, View.ld_unit_zero hz]
  refine mat_ext fun r j => (lowRank_block (m := 128) (iblk4 V c 0 t) (iblk4 V c 1 t) _ _ (row4 t)
    (fun _ _ => congrArg (V c main_v24) (Shape.idx_ext₂ (emb_add win4_0 t _ 0 (start4 t).1.1) (emb_zero win4_0 t _ 1 (start4 t).1.2)))
    (fun _ _ => congrArg (V c main_v12) (Shape.idx_ext₂ (emb_zero win4_1 t _ 0 (start4 t).2.1.1) (emb_zero win4_1 t _ 1 (start4 t).2.1.2))) r j).trans ?_
  exact congrArg (lowRank (m := 128) (V c main_v24) (V c main_v12)) (out4 t r j).symm

end Cert.LoraIdeal.Regions
-- ==== Proof.LoraValue.lean ====
/-
  The results of the low-rank branches' kernel, each as a function of the program's arguments.
-/
module

public import proofs.«01_k».proof.Proof.LoraRegions

@[expose] public section

set_option maxRecDepth 16384

noncomputable section

namespace Cert.LoraIdeal.Values

open Idealize.ShloMosaic Idealize.ShloMosaic.TcCoe Idealize.SL.Sem Idealize.ShloMosaic.ValueIdx
open Cert.LoraIdeal Cert.LoraIdeal.Gen Cert.LoraIdeal.Regions Layer

/-! ## The host steps, from any contents -/

section Hosts

variable (v : Valuation τ sig (Elt Ideal))

/-- The weight, transposed. -/
abbrev across (x : FVec Ideal S1x4096x10688 .f32) : Mat 10688 4096 := transpose S10688x4096 [1, 0]
  (shapeCast S4096x10688 x shapeCasts_S1x4096x10688_S4096x10688) transposes_S4096x10688_S10688x4096_1_0

/-- The low-rank branches' rows of it. -/
abbrev branch (x : FVec Ideal S1x4096x10688 .f32) : FVec Ideal S448x4096 .f32 :=
  extractStridedSlice S448x4096 ![6144, 0] (across x) slices_S10688x4096_S448x4096_6144_0

theorem host0_v2 : StableHlo.after hostOps0 v (Proc.devRef .tc main_v2) = shapeCast S4096 (v (Proc.devRef .tc main_arg3)) shapeCasts_S1x4096_S4096 := by
  after_results_simp; rfl

theorem host0_v4 : StableHlo.after hostOps0 v (Proc.devRef .tc main_v4) = branch (v (Proc.devRef .tc main_arg4)) := by
  after_results_simp; rfl

theorem host0_v5 : StableHlo.after hostOps0 v (Proc.devRef .tc main_v5)
    = extractStridedSlice S96x4096 ![0, 0] (branch (v (Proc.devRef .tc main_arg4))) slices_S448x4096_S96x4096_0_0 := by
  after_results_simp; rfl

theorem host0_c : StableHlo.after hostOps0 v (Proc.devRef .tc main_c) = constantI S_ 32 0#32 := by
  after_results_simp

theorem host0_1_v6 : StableHlo.after hostOps0_1 v (Proc.devRef .tc main_v6) = pad S128x4096 ![0, 0] ![32, 0] ![0, 0] (v (Proc.devRef .tc main_v5))
    (sitofp (F := Ideal) .f32 (v (Proc.devRef .tc main_c))) pads_S96x4096_S128x4096_0320_000 h_S_ := by
  simp only [hostOps0_1, StableHlo.TRef.binary, StableHlo.TRef.unary, StableHlo.TRef.toBuf, StableHlo.TRef.ofBuf, cast_eq]; after_results_simp

theorem host0_2_v7 : StableHlo.after hostOps0_2 v (Proc.devRef .tc main_v7)
    = extractStridedSlice S96x4096 ![96, 0] (v (Proc.devRef .tc main_v4)) slices_S448x4096_S96x4096_96_0 := by
  after_results_simp

theorem host0_2_c : StableHlo.after hostOps0_2 v (Proc.devRef .tc main_c_0) = constantI S_ 32 0#32 := by
  after_results_simp

theorem host0_3_v8 : StableHlo.after hostOps0_3 v (Proc.devRef .tc main_v8) = pad S128x4096 ![0, 0] ![32, 0] ![0, 0] (v (Proc.devRef .tc main_v7))
    (sitofp (F := Ideal) .f32 (v (Proc.devRef .tc main_c_0))) pads_S96x4096_S128x4096_0320_000 h_S_ := by
  simp only [hostOps0_3, StableHlo.TRef.binary, StableHlo.TRef.unary, StableHlo.TRef.toBuf, StableHlo.TRef.ofBuf, cast_eq]; after_results_simp

theorem host0_4_v9 : StableHlo.after hostOps0_4 v (Proc.devRef .tc main_v9)
    = extractStridedSlice S256x4096 ![192, 0] (v (Proc.devRef .tc main_v4)) slices_S448x4096_S256x4096_192_0 := by
  after_results_simp

theorem host0_4_c : StableHlo.after hostOps0_4 v (Proc.devRef .tc main_c_1) = constantI S_ 32 0#32 := by
  after_results_simp

theorem host0_5_v10 : StableHlo.after hostOps0_5 v (Proc.devRef .tc main_v10) = pad S256x4096 ![0, 0] ![0, 0] ![0, 0] (v (Proc.devRef .tc main_v9))
    (sitofp (F := Ideal) .f32 (v (Proc.devRef .tc main_c_1))) pads_S256x4096_S256x4096_000_000 h_S_ := by
  simp only [hostOps0_5, StableHlo.TRef.binary, StableHlo.TRef.unary, StableHlo.TRef.toBuf, StableHlo.TRef.ofBuf, cast_eq]; after_results_simp

/-- The three groups of rows joined; rounding is the identity over the reals. -/
theorem host0_6_v12 : StableHlo.after hostOps0_6 v (Proc.devRef .tc main_v12) = concatenate (α := EReal) S512x4096 0
    [⟨S128x4096, v (Proc.devRef .tc main_v6)⟩, ⟨S128x4096, v (Proc.devRef .tc main_v8)⟩, ⟨S256x4096, v (Proc.devRef .tc main_v10)⟩]
    concatenates_S128x4096_S128x4096_S256x4096_S512x4096_d0 := by
  after_results_simp; rfl

theorem host0_6_v13 : StableHlo.after hostOps0_6 v (Proc.devRef .tc main_v13) = shapeCast S8192x4096 (v (Proc.devRef .tc main_arg0)) shapeCasts_S4x2048x4096_S8192x4096 := by
  after_results_simp; rfl

theorem host0_6_v14 : StableHlo.after hostOps0_6 v (Proc.devRef .tc main_v14) = shapeCast S1x4096 (v (Proc.devRef .tc main_v2)) shapeCasts_S4096_S1x4096 := by
  after_results_simp; rfl

theorem host2_v17 : StableHlo.after hostOps2 v (Proc.devRef .tc main_v17) = shapeCast S4x2048x512 (v (Proc.devRef .tc main_v16)) shapeCasts_S8192x512_S4x2048x512 := by
  after_results_simp; rfl

theorem host2_v18 : StableHlo.after hostOps2 v (Proc.devRef .tc main_v18) = shapeCast S128x4096 (v (Proc.devRef .tc main_arg2)) shapeCasts_S1x128x4096_S128x4096 := by
  after_results_simp; rfl

theorem host2_v19 : StableHlo.after hostOps2 v (Proc.devRef .tc main_v19) = shapeCast S1024x4096 (v (Proc.devRef .tc main_arg1)) shapeCasts_S128x8x4096_S1024x4096 := by
  after_results_simp; rfl

theorem host2_v20 : StableHlo.after hostOps2 v (Proc.devRef .tc main_v20) = shapeCast S1x4096 (v (Proc.devRef .tc main_v2)) shapeCasts_S4096_S1x4096 := by
  after_results_simp; rfl

theorem host4_v23 : StableHlo.after hostOps4 v (Proc.devRef .tc main_v23) = shapeCast S128x8x512 (v (Proc.devRef .tc main_v22)) shapeCasts_S1024x512_S128x8x512 := by
  after_results_simp; rfl

theorem host4_v24 : StableHlo.after hostOps4 v (Proc.devRef .tc main_v24) = v (Proc.devRef .tc main_v18) := by
  after_results_simp; rfl

theorem host5_v26 : StableHlo.after hostOps5 v (Proc.devRef .tc main_v26) = shapeCast S128x1x512 (v (Proc.devRef .tc main_v25)) shapeCasts_S128x512_S128x1x512 := by
  after_results_simp; rfl

end Hosts

variable (m : (ℓ : Loc nD τ sig) → Buf (Elt Ideal) ℓ) (ρ : Dev nD → PrngReg) (c : Dev nD)

/-- The prompt's rows, the samples' rows, the rows before the samples' first, the gain and the weight's rows, as matrices. -/
abbrev xPrompt : Mat 8192 4096 := shapeCast S8192x4096 (m ((c : Thread nD τ).loc main_arg0)) shapeCasts_S4x2048x4096_S8192x4096
abbrev xSample : Mat 1024 4096 := shapeCast S1024x4096 (m ((c : Thread nD τ).loc main_arg1)) shapeCasts_S128x8x4096_S1024x4096
abbrev xFirst : Mat 128 4096 := shapeCast S128x4096 (m ((c : Thread nD τ).loc main_arg2)) shapeCasts_S1x128x4096_S128x4096
abbrev gain : Mat 1 4096 := m ((c : Thread nD τ).loc main_arg3)
abbrev weight : Mat 10688 4096 := across (m ((c : Thread nD τ).loc main_arg4))

/-! ## The gain and the weight where the calls read them -/

theorem flat6 : W6 m ρ c (Proc.devRef .tc main_v2) = shapeCast S4096 (gain m c) shapeCasts_S1x4096_S4096 :=
  (W6_of m ρ c _ (by decide)).trans ((W5_of m ρ c _ (by decide)).trans ((W4_of m ρ c _ (by decide)).trans ((W3_of m ρ c _ (by decide)).trans ((W2_of m ρ c _ (by decide)).trans (host0_v2 _)))))

theorem flat9 : W9 m ρ c (Proc.devRef .tc main_v2) = shapeCast S4096 (gain m c) shapeCasts_S1x4096_S4096 :=
  (W9_of m ρ c _ (by decide)).trans ((W8_of m ρ c _ (by decide)).trans ((W7_of m ρ c _ (by decide)).trans (flat6 m ρ c)))

/-- The gain flattened and put back into one row is the gain. -/
theorem unflat (x : Vec Ideal S4096 .f32) (h : x = shapeCast S4096 (gain m c) shapeCasts_S1x4096_S4096) :
    shapeCast S1x4096 x shapeCasts_S4096_S1x4096 = gain m c := by
  subst h; exact shapeCast_shapeCast _ _ _

theorem branch2 : W2 m ρ c (Proc.devRef .tc main_v4) = branch (m ((c : Thread nD τ).loc main_arg4)) :=
  (W2_of m ρ c _ (by decide)).trans (host0_v4 _)

theorem branch4 : W4 m ρ c (Proc.devRef .tc main_v4) = branch (m ((c : Thread nD τ).loc main_arg4)) :=
  (W4_of m ρ c _ (by decide)).trans ((W3_of m ρ c _ (by decide)).trans (branch2 m ρ c))

/-- The filling. -/
abbrev fill : FVec Ideal S_ .f32 := sitofp .f32 (constantI S_ 32 0#32)

theorem first6 : W6 m ρ c (Proc.devRef .tc main_v6) = pad S128x4096 ![0, 0] ![32, 0] ![0, 0]
    (extractStridedSlice S96x4096 ![0, 0] (branch (m ((c : Thread nD τ).loc main_arg4))) slices_S448x4096_S96x4096_0_0) fill pads_S96x4096_S128x4096_0320_000 h_S_ :=
  (W6_of m ρ c _ (by decide)).trans ((W5_of m ρ c _ (by decide)).trans ((W4_of m ρ c _ (by decide)).trans ((W3_of m ρ c _ (by decide)).trans ((host0_1_v6 _).trans (congrArg₂ (fun x z => pad S128x4096 ![0, 0] ![32, 0] ![0, 0] x (sitofp (F := Ideal) .f32 z) pads_S96x4096_S128x4096_0320_000 h_S_) (host0_v5 _) (host0_c _))))))

theorem second6 : W6 m ρ c (Proc.devRef .tc main_v8) = pad S128x4096 ![0, 0] ![32, 0] ![0, 0]
    (extractStridedSlice S96x4096 ![96, 0] (branch (m ((c : Thread nD τ).loc main_arg4))) slices_S448x4096_S96x4096_96_0) fill pads_S96x4096_S128x4096_0320_000 h_S_ :=
  (W6_of m ρ c _ (by decide)).trans ((W5_of m ρ c _ (by decide)).trans ((host0_3_v8 _).trans (congrArg₂ (fun x z => pad S128x4096 ![0, 0] ![32, 0] ![0, 0] x (sitofp (F := Ideal) .f32 z) pads_S96x4096_S128x4096_0320_000 h_S_) ((host0_2_v7 _).trans (congrArg (extractStridedSlice S96x4096 ![96, 0] · slices_S448x4096_S96x4096_96_0) (branch2 m ρ c))) (host0_2_c _))))

theorem third6 : W6 m ρ c (Proc.devRef .tc main_v10) = pad S256x4096 ![0, 0] ![0, 0] ![0, 0]
    (extractStridedSlice S256x4096 ![192, 0] (branch (m ((c : Thread nD τ).loc main_arg4))) slices_S448x4096_S256x4096_192_0) fill pads_S256x4096_S256x4096_000_000 h_S_ :=
  (host0_5_v10 _).trans (congrArg₂ (fun x z => pad S256x4096 ![0, 0] ![0, 0] ![0, 0] x (sitofp (F := Ideal) .f32 z) pads_S256x4096_S256x4096_000_000 h_S_) ((host0_4_v9 _).trans (congrArg (extractStridedSlice S256x4096 ![192, 0] · slices_S448x4096_S256x4096_192_0) (branch4 m ρ c))) (host0_4_c _))

/-- The weight the projections read: the weight's rows in their three groups. -/
theorem lanes7 : W7 m ρ c (Proc.devRef .tc main_v12) = laneRows (weight m c) := by
  refine (host0_6_v12 _).trans ?_
  rw [show W6 m ρ c (Proc.devRef .tc main_v6) = _ from first6 m ρ c, show W6 m ρ c (Proc.devRef .tc main_v8) = _ from second6 m ρ c,
    show W6 m ρ c (Proc.devRef .tc main_v10) = _ from third6 m ρ c]
  exact lane_rows (weight m c) fill_zero fill_zero fill_zero _ _ _ _ _ _ _ _

theorem lanes8 : W8 m ρ c (Proc.devRef .tc main_v12) = laneRows (weight m c) := (W8_of m ρ c _ (by decide)).trans (lanes7 m ρ c)

theorem lanes11 : W11 m ρ c (Proc.devRef .tc main_v12) = laneRows (weight m c) :=
  (W11_of m ρ c _ (by decide)).trans ((W10_of m ρ c _ (by decide)).trans ((W9_of m ρ c _ (by decide)).trans (lanes8 m ρ c)))

theorem lanes13 : W13 m ρ c (Proc.devRef .tc main_v12) = laneRows (weight m c) :=
  (W13_of m ρ c _ (by decide)).trans ((W12_of m ρ c _ (by decide)).trans (lanes11 m ρ c))

/-! ## What each call leaves -/

theorem norm_prompt : W8 m ρ c (Proc.devRef .tc main_v15) = rms (xPrompt m c) (gain m c) :=
  (W8_arr m ρ c 2).trans ((final0 (V7 m ρ) c).trans (congrArg₂ rms
    ((host0_6_v13 _).trans (by rw [W6_args m ρ c main_arg0 (by decide)]))
    ((host0_6_v14 _).trans (unflat m c _ (flat6 m ρ c)))))

theorem proj_prompt : W9 m ρ c (Proc.devRef .tc main_v16) = lowRank (rms (xPrompt m c) (gain m c)) (laneRows (weight m c)) :=
  (W9_arr m ρ c 2).trans ((final1 (V8 m ρ) c).trans (congrArg₂ lowRank (norm_prompt m ρ c) (lanes8 m ρ c)))

theorem norm_sample : W11 m ρ c (Proc.devRef .tc main_v21) = rms (xSample m c) (gain m c) :=
  (W11_arr m ρ c 2).trans ((final2 (V10 m ρ) c).trans (congrArg₂ rms
    ((host2_v19 _).trans (by rw [W9_args m ρ c main_arg1 (by decide)]))
    ((host2_v20 _).trans (unflat m c _ (flat9 m ρ c)))))

theorem proj_sample : W12 m ρ c (Proc.devRef .tc main_v22) = lowRank (rms (xSample m c) (gain m c)) (laneRows (weight m c)) :=
  (W12_arr m ρ c 2).trans ((final3 (V11 m ρ) c).trans (congrArg₂ lowRank (norm_sample m ρ c) (lanes11 m ρ c)))

theorem first_rows : W12 m ρ c (Proc.devRef .tc main_v18) = xFirst m c :=
  (W12_of m ρ c _ (by decide)).trans ((W11_of m ρ c _ (by decide)).trans ((host2_v18 _).trans (by rw [W9_args m ρ c main_arg2 (by decide)])))

theorem proj_first : W14 m ρ c (Proc.devRef .tc main_v25) = lowRank (xFirst m c) (laneRows (weight m c)) :=
  (W14_arr m ρ c 2).trans ((final4 (V13 m ρ) c).trans (congrArg₂ lowRank ((host4_v24 _).trans (first_rows m ρ c)) (lanes13 m ρ c)))

/-! ## The three results -/

theorem result_prompt : W15 m ρ c (Proc.devRef .tc main_v17)
    = shapeCast S4x2048x512 (lowRank (rms (xPrompt m c) (gain m c)) (laneRows (weight m c))) shapeCasts_S8192x512_S4x2048x512 :=
  (W15_of m ρ c _ (by decide)).trans ((W14_of m ρ c _ (by decide)).trans ((W13_of m ρ c _ (by decide)).trans ((W12_of m ρ c _ (by decide)).trans ((W11_of m ρ c _ (by decide)).trans ((host2_v17 _).trans (congrArg (shapeCast S4x2048x512 · shapeCasts_S8192x512_S4x2048x512) (proj_prompt m ρ c)))))))

theorem result_sample : W15 m ρ c (Proc.devRef .tc main_v23)
    = shapeCast S128x8x512 (lowRank (rms (xSample m c) (gain m c)) (laneRows (weight m c))) shapeCasts_S1024x512_S128x8x512 :=
  (W15_of m ρ c _ (by decide)).trans ((W14_of m ρ c _ (by decide)).trans ((host4_v23 _).trans (congrArg (shapeCast S128x8x512 · shapeCasts_S1024x512_S128x8x512) (proj_sample m ρ c))))

theorem result_first : W15 m ρ c (Proc.devRef .tc main_v26)
    = shapeCast S128x1x512 (lowRank (xFirst m c) (laneRows (weight m c))) shapeCasts_S128x512_S128x1x512 :=
  (host5_v26 _).trans (congrArg (shapeCast S128x1x512 · shapeCasts_S128x512_S128x1x512) (proj_first m ρ c))

end Cert.LoraIdeal.Values
-- ==== Proof.LoraRun.lean ====
/-
  The run of the kernel of the low-rank branches: its regions and host operations one after another, and the memory they leave.
-/
module

public import proofs.«01_k».proof.Proof.Gen.LoraIdeal.Frame

@[expose] public section

set_option maxRecDepth 16384

noncomputable section

namespace Cert.LoraIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LoraIdeal Cert.LoraIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run from `m` ends, with each buffer outside the calls at its contents after the last step. -/
theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun _ h _ c b hb => h c b hb)

end Cert.LoraIdeal.Run
-- ==== Proof.LoraClaim.lean ====
/-
  The claim of the low-rank branches: the reference's three results, stage by stage, are the three arrays the kernel leaves.
-/
module

public import proofs.«01_k».proof.Defs
public import proofs.«01_k».proof.Proof.LoraValue
public import proofs.«01_k».proof.Proof.LoraRun
public import proofs.«01_k».proof.Proof.Gen.LoraRefIdeal.Run
public import proofs.«01_k».proof.Proof.Gen.LoraRefIdeal.Read

@[expose] public section

set_option maxRecDepth 16384

noncomputable section

namespace Cert.LoraIdeal.Values

open Idealize.ShloMosaic Idealize.ShloMosaic.TcCoe Idealize.SL.Sem Idealize.ShloMosaic.ValueIdx
open Cert.LoraIdeal Cert.LoraIdeal.Gen Layer
open Cert.LoraRefIdeal.Read

variable (m : (ℓ : Loc nD τ sig) → Buf (Elt Ideal) ℓ) (c : Dev nD)

/-- The arguments, as arrays. -/
abbrev a0 : Cube 4 2048 4096 := m ((c : Thread nD τ).loc main_arg0)
abbrev a1 : Cube 128 8 4096 := m ((c : Thread nD τ).loc main_arg1)
abbrev a2 : Cube 1 128 4096 := m ((c : Thread nD τ).loc main_arg2)
abbrev a4 : Cube 1 4096 10688 := m ((c : Thread nD τ).loc main_arg4)

/-- The reference's flattened gain, read at a column. -/
theorem gain_at (j : Fin 4096) : val_main_v0 (F := Ideal) (gain m c) (ix1 j) = gain m c (ix2 0 j) :=
  (val_main_v0_apply (F := Ideal) (gain m c) (ix1 j)).trans
    (congrArg (gain m c) (Shape.idx_ext₂ rfl (Nat.mod_eq_of_lt j.isLt)))

/-- The kernel's transposed weight is the reference's weight read across. -/
theorem weight_at (j : Fin 4096) (r : Fin 10688) : val_main_v1 (F := Ideal) (a4 m c) (ix2 j r) = weight m c (ix2 r j) :=
  (transpose_ix2_apply (val_main_v1 (F := Ideal) (a4 m c)) _ r j).symm

/-- The prompt's rows normalised. -/
theorem norm_prompt_ref : Grouped (M := 8192) rfl (val_main_v16 (F := Ideal) (a0 m c) (gain m c)) (rms (xPrompt m c) (gain m c)) :=
  (Grouped.flat rfl (a0 m c) _).rms _ _ (gain_at m c) _ (by decide) _ _ _ _ _ _

/-- The samples' rows normalised. -/
theorem norm_sample_ref : Grouped (M := 1024) rfl (val_main_v38 (F := Ideal) (a1 m c) (gain m c)) (rms (xSample m c) (gain m c)) :=
  (Grouped.flat rfl (a1 m c) _).rms _ _ (gain_at m c) _ (by decide) _ _ _ _ _ _

/-- The prompt's product with the whole weight. -/
theorem product_prompt_ref (b : Fin 4) (t : Fin 2048) (j : Fin 10688) : val_main_v17 (F := Ideal) (a0 m c) (gain m c) (a4 m c) (ix3 b t j)
    = rowRow (rms (xPrompt m c) (gain m c)) (weight m c) (groupRow (M := 8192) b t rfl) j :=
  (val_main_v17_apply (a0 m c) (gain m c) (a4 m c) (ix3 b t j)).trans (Finset.sum_congr rfl fun k _ => congrArg₂ (fun u v : EReal => u * v)
    ((congrArg (val_main_v16 (F := Ideal) (a0 m c) (gain m c)) (show lidx_main_v17 (ix3 b t j) k = ix3 b t k from cube_idx rfl rfl rfl)).trans (norm_prompt_ref m c b t k))
    ((congrArg (val_main_v1 (F := Ideal) (a4 m c)) (show ridx_main_v17 (ix3 b t j) k = ix2 k j from Shape.idx_ext₂ rfl rfl)).trans (weight_at m c k j)))

/-- The samples' product with the whole weight. -/
theorem product_sample_ref (b : Fin 128) (t : Fin 8) (j : Fin 10688) : val_main_v39 (F := Ideal) (a1 m c) (gain m c) (a4 m c) (ix3 b t j)
    = rowRow (rms (xSample m c) (gain m c)) (weight m c) (groupRow (M := 1024) b t rfl) j :=
  (val_main_v39_apply (a1 m c) (gain m c) (a4 m c) (ix3 b t j)).trans (Finset.sum_congr rfl fun k _ => congrArg₂ (fun u v : EReal => u * v)
    ((congrArg (val_main_v38 (F := Ideal) (a1 m c) (gain m c)) (show lidx_main_v39 (ix3 b t j) k = ix3 b t k from cube_idx rfl rfl rfl)).trans (norm_sample_ref m c b t k))
    ((congrArg (val_main_v1 (F := Ideal) (a4 m c)) (show ridx_main_v39 (ix3 b t j) k = ix2 k j from Shape.idx_ext₂ rfl rfl)).trans (weight_at m c k j)))

/-- The product of the rows before the samples' first. -/
theorem product_first_ref (b : Fin 128) (j : Fin 10688) : val_main_v3 (F := Ideal) (a2 m c) (a4 m c) (ix2 b j)
    = rowRow (xFirst m c) (weight m c) b j :=
  (val_main_v3_apply (a2 m c) (a4 m c) (ix2 b j)).trans (Finset.sum_congr rfl fun k _ => congrArg₂ (fun u v : EReal => u * v)
    (congrArg (val_main_v2 (F := Ideal) (a2 m c)) (show lidx_main_v3 (ix2 b j) k = ix2 b k from Shape.idx_ext₂ rfl rfl))
    ((congrArg (val_main_v1 (F := Ideal) (a4 m c)) (show ridx_main_v3 (ix2 b j) k = ix2 k j from Shape.idx_ext₂ rfl rfl)).trans (weight_at m c k j)))

/-- With one row to a group, the row's number is the group's. -/
theorem one_row (b : Fin 128) (t : Fin 1) (j : Fin 10688) : idx_main_v48 (ix3 b t j) = ix2 (groupRow (M := 128) b t rfl) j := by
  refine Shape.idx_ext₂ ?_ rfl
  show b.val = b.val * 1 + t.val
  omega

/-- The same, one row to a group. -/
theorem product_first_group (b : Fin 128) (t : Fin 1) (j : Fin 10688) : val_main_v48 (F := Ideal) (a2 m c) (a4 m c) (ix3 b t j)
    = rowRow (xFirst m c) (weight m c) (groupRow (M := 128) b t rfl) j :=
  (val_main_v48_apply (F := Ideal) (a2 m c) (a4 m c) (ix3 b t j)).trans ((congrArg (val_main_v3 (F := Ideal) (a2 m c) (a4 m c))
    (one_row b t j)).trans (product_first_ref m c (groupRow (M := 128) b t rfl) j))

/-! ## The results -/

theorem lanes_prompt_ref : Grouped (M := 8192) rfl (val_main_v25 (F := Ideal) (a0 m c) (gain m c) (a4 m c))
    (lowRank (rms (xPrompt m c) (gain m c)) (laneRows (weight m c))) := fun b t j =>
  (lane_cols (val_main_v17 (F := Ideal) (a0 m c) (gain m c) (a4 m c)) fill_zero fill_zero fill_zero _ _ _ _ _ _ _ _ b t j).trans
    ((congrArg (lanes · j) (funext fun a => product_prompt_ref m c b t a)).trans
      (lowRank_laneRows (rms (xPrompt m c) (gain m c)) (weight m c) _ j).symm)

theorem lanes_sample_ref : Grouped (M := 1024) rfl (val_main_v47 (F := Ideal) (a1 m c) (gain m c) (a4 m c))
    (lowRank (rms (xSample m c) (gain m c)) (laneRows (weight m c))) := fun b t j =>
  (lane_cols (val_main_v39 (F := Ideal) (a1 m c) (gain m c) (a4 m c)) fill_zero fill_zero fill_zero _ _ _ _ _ _ _ _ b t j).trans
    ((congrArg (lanes · j) (funext fun a => product_sample_ref m c b t a)).trans
      (lowRank_laneRows (rms (xSample m c) (gain m c)) (weight m c) _ j).symm)

theorem lanes_first_ref : Grouped (M := 128) rfl (val_main_v56 (F := Ideal) (a2 m c) (a4 m c))
    (lowRank (xFirst m c) (laneRows (weight m c))) := fun b t j =>
  (lane_cols (val_main_v48 (F := Ideal) (a2 m c) (a4 m c)) fill_zero fill_zero fill_zero _ _ _ _ _ _ _ _ b t j).trans
    ((congrArg (lanes · j) (funext fun a => product_first_group m c b t a)).trans
      (lowRank_laneRows (xFirst m c) (weight m c) _ j).symm)

/-- Over the extended reals the kernel's three results are the reference's. -/
theorem algebraic : Cert.algebraic_LoraIdeal_LoraRefIdeal := by
  intro m g m' g' _ hm
  refine ⟨fun c => W15 m g c (Proc.devRef .tc main_v17), fun c => W15 m g c (Proc.devRef .tc main_v23),
    fun c => W15 m g c (Proc.devRef .tc main_v26), ?_, ?_⟩
  · refine (θ_run _ _ _).mono (fun r h c => ?_) (Run.run m g)
    exact ⟨h c _ (mem_uc main_v17 (by decide)), h c _ (mem_uc main_v23 (by decide)), h c _ (mem_uc main_v26 (by decide)),
      (h c _ (mem_uc main_arg0 (by decide))).trans (W15_main_arg0 m g c),
      (h c _ (mem_uc main_arg1 (by decide))).trans (W15_main_arg1 m g c),
      (h c _ (mem_uc main_arg2 (by decide))).trans (W15_main_arg2 m g c),
      (h c _ (mem_uc main_arg3 (by decide))).trans (W15_main_arg3 m g c),
      (h c _ (mem_uc main_arg4 (by decide))).trans (W15_main_arg4 m g c)⟩
  · refine (θ_run _ _ _).mono (fun r h c => ?_) (Cert.LoraRefIdeal.Value.run m' g')
    obtain ⟨h0, h1, h2, hargs⟩ := h c
    obtain ⟨e0, e1, e2, e3, e4⟩ := hm c
    refine ⟨h0.trans ((val_main_v25_eq _ _).trans ?_), h1.trans ((val_main_v47_eq _ _).trans ?_),
      h2.trans ((val_main_v56_eq _ _).trans ?_), hargs⟩
    · rw [e0, e3, e4]
      exact ((lanes_prompt_ref m c).cut _).symm.trans (result_prompt m g c).symm
    · rw [e1, e3, e4]
      exact ((lanes_sample_ref m c).cut _).symm.trans (result_sample m g c).symm
    · rw [e2, e4]
      exact ((lanes_first_ref m c).cut _).symm.trans (result_first m g c).symm

end Cert.LoraIdeal.Values
-- ==== Proof.ScanRun.lean ====
/-
  The recurrence's call: one run of its body at any block, for the frame and for the values.
-/
module

public import proofs.«01_k».proof.Proof.Gen.ScanIdeal.Frame
public import proofs.«01_k».proof.Proof.Gen.ScanIdeal.Loops
public import Idealize.ShloMosaic.Lib.Tactic
public import Idealize.ShloMosaic.Lib.Pipeline.Kit

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal Cert.ScanIdeal.Gen

variable {F : FTy → Type} [FloatOps F]

local notation "𝕄" => MT nD τ sig Unit (Elt F) ℕ (UR sig nD τ) ℕ

set_option maxHeartbeats 4000000 in
/-- From its inputs' buffers and the two results' and the scratch's at any contents, the body runs to its end, and what it writes into
    the two results is found by the run, as pieces that are functions of what it found there. -/
noncomputable def kernelRun (c : Dev nD) (i : grid0.Coords) (arg2 : Memref sig .tc .vmem S1x8x64x128 .f32) (harg2 : arg2.IsWhole) (arg3 : Memref sig .tc .vmem S1x8x64x128 .f32) (harg3 : arg3.IsWhole) (arg4 : Memref sig .tc .vmem S1x8x64x128 .f32) (harg4 : arg4.IsWhole) (arg5 : Memref sig .tc .vmem S1x8x64x128 .f32) (harg5 : arg5.IsWhole) (arg6 : Memref sig .tc .vmem S1x8x64x128 .f32) (harg6 : arg6.IsWhole) (arg7 : Memref sig .tc .vmem S1x64x64x128 .f32) (harg7 : arg7.IsWhole) (arg8 : Memref sig .tc .vmem S1x64x128 .f32) (harg8 : arg8.IsWhole) (arg9 : Memref sig .tc .vmem S1x64x128 .f32) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S1x8x64x128 .f32) (harg13 : arg13.IsWhole) (arg14 : Memref sig .tc .vmem S1x64x64x128 .f32) (harg14 : arg14.IsWhole) (arg15 : Memref sig .tc .vmem S64x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (f13 : BufTy.Contents (Elt F) arg13.view.ty) (f14 : BufTy.Contents (Elt F) arg14.view.ty) (f15 : BufTy.Contents (Elt F) arg15.view.ty) :
    Σ' (L13 : List (View.Piece (Elt F) S1x8x64x128 .f32)), { L14 : List (View.Piece (Elt F) S1x64x64x128 .f32) //
      ∀ (E : Set ℕ) (K : PUnit → sProp 𝕄),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)
            ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ g, (arg13.view.loc (c : Thread nD τ) ↦[arg13.view.set]{fullShare} (arg13.view.writes (Elt F) g L13))) ∗ (∃ g, (arg14.view.loc (c : Thread nD τ) ↦[arg14.view.set]{fullShare} (arg14.view.writes (Elt F) g L14))) ∗ (∃ f, (arg15.view.loc (c : Thread nD τ) ↦[arg15.view.set]{fullShare} f))) -∗ K ⟨⟩))
          ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    have hc : Scalar.cmpi .ne (Scalar.extui (Scalar.cmpi .eq (BitVec.ofNat 32 (i 1).val) 0#32) : BitVec 32) 0#32 = 1#1 := by
      have h : (i 1).val = 0 := by have h1 : (i 1).val < 1 := (i 1).isLt; omega
      rw [h]; decide
    simp only [cc0_wkv_scan_eq_skeleton]; unfold cc0_wkv_scan_skel
    iintro ⟨H2, H3, H4, H5, H6, H7, H8, H9, H10, H11, H12, H13, H14, H15, Hk⟩
    sl_exec (disch := sl_exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iexists _; iexact H15

end Cert.ScanIdeal.Body
-- ==== Proof.ScanTrip.lean ====
/-
  One trip of the recurrence's loop over the steps: what it carries on and what it writes, as functions of what it finds.
-/
module

public import proofs.«01_k».proof.Proof.Gen.ScanIdeal.Loops
public import Idealize.ShloMosaic.Lib.WritesUnit
public import Idealize.ShloMosaic.Lib.ValueIdxCoords

@[expose] public section

set_option maxRecDepth 16384

noncomputable section

namespace Cert.ScanIdeal.Body

open Idealize.ShloMosaic Idealize.ShloMosaic.TcCoe
open Cert.ScanIdeal Cert.ScanIdeal.Gen

variable {F : FTy → Type} [FloatOps F]

/-- One row of the state after a step: the row less its product with the key times the removal's vector, plus the value's
    element times the key. -/
def rowStep (g b n : FVec F S64x128 .f32) (s : Vec F S1x1x64x128 .f32) (v : Vec F S1x1x1x128 .f32) : FVec F S1x1x64x128 .f32 :=
  shapeCast S1x1x64x128 (addf (subf (shapeCast S64x128 s shapeCasts_S1x1x64x128_S64x128)
      (mulf (broadcastTo S64x128 (shapeCast S1x128 (multiReduction .add [0] S128 (mulf (shapeCast S64x128 s shapeCasts_S1x1x64x128_S64x128) g)
        0x00000000#32 reduces_S64x128_S128 (.inl rfl) rfl) shapeCasts_S128_S1x128) broadcasts_S1x128_S64x128) b))
    (mulf (broadcastTo S64x128 (shapeCast S1x128 v shapeCasts_S1x1x1x128_S1x128) broadcasts_S1x128_S64x128) n)) shapeCasts_S64x128_S1x1x64x128

/-- Row `i` of the state lies inside it. -/
theorem row_inb (i : Fin 64) : ∀ a, (![0, i.val, 0, 0] : Fin 4 → ℕ) a + S1x1x64x128.size a ≤ S1x64x64x128.size a := by
  revert i; decide +kernel

/-- Element `i` of step `k`'s row lies inside the block of steps. -/
theorem elt_inb : ∀ (k : Fin k0_t1_loop.trips) (i : Fin 64), ∀ a, (![0, (Scalar.indexCast (Scf.iv 0#32 1#32 k.val)).toNat, i.val, 0] : Fin 4 → ℕ) a + S1x1x1x128.size a ≤ S1x8x64x128.size a := by
  decide +kernel

section Trip

variable (c : Dev nD) (i : grid0.Coords)
  (arg2 : Memref sig .tc .vmem S1x8x64x128 .f32) (harg2 : arg2.IsWhole)
  (arg3 : Memref sig .tc .vmem S1x8x64x128 .f32) (harg3 : arg3.IsWhole)
  (arg4 : Memref sig .tc .vmem S1x8x64x128 .f32) (harg4 : arg4.IsWhole)
  (arg5 : Memref sig .tc .vmem S1x8x64x128 .f32) (harg5 : arg5.IsWhole)
  (arg6 : Memref sig .tc .vmem S1x8x64x128 .f32) (harg6 : arg6.IsWhole)
  (arg7 : Memref sig .tc .vmem S1x64x64x128 .f32) (harg7 : arg7.IsWhole)
  (arg8 : Memref sig .tc .vmem S1x64x128 .f32) (harg8 : arg8.IsWhole)
  (arg9 : Memref sig .tc .vmem S1x64x128 .f32) (harg9 : arg9.IsWhole)
  (arg10 : Memref sig .tc .vmem S1x64x128 .f32) (harg10 : arg10.IsWhole)
  (arg11 : Memref sig .tc .vmem S1x64x128 .f32) (harg11 : arg11.IsWhole)
  (arg12 : Memref sig .tc .vmem S1x64x128 .f32) (harg12 : arg12.IsWhole)
  (arg13 : Memref sig .tc .vmem S1x8x64x128 .f32) (harg13 : arg13.IsWhole)
  (arg14 : Memref sig .tc .vmem S1x64x64x128 .f32) (harg14 : arg14.IsWhole)
  (arg15 : Memref sig .tc .vmem S64x128 .f32) (harg15 : arg15.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
  (k : Fin k0_t1_loop.trips) (acc : FVec F S64x128 .f32)

/-- Step `k`'s row of a block of steps. -/
abbrev stepRow (m : Memref sig .tc .vmem S1x8x64x128 .f32) (X : BufTy.Contents (Elt F) m.view.ty) : Vec F S1x1x64x128 .f32 :=
  View.readAt (Elt F) m.view (Rect.unit (s := S1x8x64x128) (k0_off1 k) S1x1x64x128.size (k0_off1_inb k)).toLoadRect X

/-- A vector of the head, read whole. -/
abbrev headVec (m : Memref sig .tc .vmem S1x64x128 .f32) (X : BufTy.Contents (Elt F) m.view.ty) : Vec F S1x64x128 .f32 :=
  View.readAt (Elt F) m.view (Rect.unit (s := S1x64x128) ![0, 0, 0] S1x64x128.size inb_S1x64x128_S1x64x128_0_0_0).toLoadRect X

/-- The step's normalised key. -/
def keyN : FVec F S64x128 .f32 := k0_pay10 (stepRow k arg3 X3) (headVec arg8 X8)

/-- The product of the decays up to and with this step. -/
def gam : FVec F S64x128 .f32 := k0_pay13 acc (k0_pay8 (stepRow k arg5 X5))

/-- The normalised key times the product of the decays before this step. -/
def keyG : FVec F S64x128 .f32 := k0_pay12 acc (keyN arg3 arg8 X3 X8 k)

/-- What is removed: the key times the gate, over the product of the decays. -/
def outN : FVec F S64x128 .f32 := k0_pay15 acc (k0_pay8 (stepRow k arg5 X5)) (k0_pay9 (stepRow k arg6 X6)) (keyN arg3 arg8 X3 X8 k)

/-- What is added: the gated key over the product of the decays. -/
def inN : FVec F S64x128 .f32 := k0_pay16 acc (k0_pay8 (stepRow k arg5 X5)) (k0_pay11 (stepRow k arg3 X3) (stepRow k arg6 X6) (headVec arg9 X9))

/-- Element `r` of the step's value row. -/
abbrev valElt (r : Fin 64) : Vec F S1x1x1x128 .f32 :=
  View.readAt (Elt F) arg4.view (Rect.unit (s := S1x8x64x128) ![0, (Scalar.indexCast (Scf.iv 0#32 1#32 k.val)).toNat, r.val, 0] S1x1x1x128.size (elt_inb k r)).toLoadRect X4

/-- Row `r` of the state. -/
abbrev stateRow (r : Fin 64) (f : BufTy.Contents (Elt F) arg14.view.ty) : Vec F S1x1x64x128 .f32 :=
  View.readAt (Elt F) arg14.view (Rect.unit (s := S1x64x64x128) ![0, r.val, 0, 0] S1x1x64x128.size (row_inb r)).toLoadRect f

/-- What the trip writes over row `r` of the state. -/
def newRow (f : BufTy.Contents (Elt F) arg14.view.ty) (r : Fin 64) : FVec F S1x1x64x128 .f32 :=
  rowStep (keyG arg3 arg8 X3 X8 k acc) (outN arg3 arg5 arg6 arg8 X3 X5 X6 X8 k acc) (inN arg3 arg5 arg6 arg9 X3 X5 X6 X9 k acc)
    (stateRow arg14 r f) (valElt arg4 X4 k r)

variable (f13 g13 : BufTy.Contents (Elt F) arg13.view.ty) (f14 : BufTy.Contents (Elt F) arg14.view.ty) (f15 g15 : BufTy.Contents (Elt F) arg15.view.ty)

/-- The trip carries on the product of the decays. -/
theorem trip_carries : tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 k acc f13 f14 f15 = gam arg5 X5 k acc := by
  dsimp only [tripR_k0_t1]; unfold trip_k0_t1; rfl

/-- The trip's rows are functions of the state alone, not of what the other two buffers held. -/
theorem trip_rows : (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 k acc f13 f14 f15).1
    = (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 k acc g13 f14 g15).1 := by
  dsimp only [tripL_k0_t1]; unfold trip_k0_t1; rfl

/-- The trip writes one row of the first result. -/
theorem trip_row : ∃ w, (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 k acc f13 f14 f15).1
    = [⟨Rect.unit (s := S1x8x64x128) (k0_off1 k) S1x1x64x128.size (k0_off1_inb k), w⟩] := by
  dsimp only [tripL_k0_t1]; unfold trip_k0_t1; exact ⟨_, rfl⟩

set_option maxHeartbeats 4000000 in
/-- The trip writes every row of the state once. -/
theorem trip_state : (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 k acc f13 f14 f15).2.1
    = (List.finRange 64).reverse.map fun r => ⟨Rect.unit (s := S1x64x64x128) ![0, r.val, 0, 0] S1x1x64x128.size (row_inb r),
        newRow arg3 arg4 arg5 arg6 arg8 arg9 arg14 X3 X4 X5 X6 X8 X9 k acc f14 r⟩ := by
  dsimp only [tripL_k0_t1]; unfold trip_k0_t1; rfl

end Trip

end Cert.ScanIdeal.Body
-- ==== Proof.ScanSteps.lean ====
/-
  The recurrence's loop over the steps, whole: the state and the product of the decays before each step, and that what is
  written does not depend on what the results' and the scratch's buffers held.
-/
module

public import proofs.«01_k».proof.Proof.ScanTrip
public import Idealize.ShloMosaic.Lib.Pipeline.FrameBody

@[expose] public section

set_option maxRecDepth 16384

noncomputable section

namespace Cert.ScanIdeal.Body

open Idealize.ShloMosaic Idealize.ShloMosaic.TcCoe
open Cert.ScanIdeal Cert.ScanIdeal.Gen

variable {F : FTy → Type} [FloatOps F]

/-- The loop takes eight steps. -/
theorem trips_eq : k0_t1_loop.trips = 8 := by decide +kernel

section Steps

variable (c : Dev nD) (i : grid0.Coords)
  (arg2 : Memref sig .tc .vmem S1x8x64x128 .f32) (harg2 : arg2.IsWhole)
  (arg3 : Memref sig .tc .vmem S1x8x64x128 .f32) (harg3 : arg3.IsWhole)
  (arg4 : Memref sig .tc .vmem S1x8x64x128 .f32) (harg4 : arg4.IsWhole)
  (arg5 : Memref sig .tc .vmem S1x8x64x128 .f32) (harg5 : arg5.IsWhole)
  (arg6 : Memref sig .tc .vmem S1x8x64x128 .f32) (harg6 : arg6.IsWhole)
  (arg7 : Memref sig .tc .vmem S1x64x64x128 .f32) (harg7 : arg7.IsWhole)
  (arg8 : Memref sig .tc .vmem S1x64x128 .f32) (harg8 : arg8.IsWhole)
  (arg9 : Memref sig .tc .vmem S1x64x128 .f32) (harg9 : arg9.IsWhole)
  (arg10 : Memref sig .tc .vmem S1x64x128 .f32) (harg10 : arg10.IsWhole)
  (arg11 : Memref sig .tc .vmem S1x64x128 .f32) (harg11 : arg11.IsWhole)
  (arg12 : Memref sig .tc .vmem S1x64x128 .f32) (harg12 : arg12.IsWhole)
  (arg13 : Memref sig .tc .vmem S1x8x64x128 .f32) (harg13 : arg13.IsWhole)
  (arg14 : Memref sig .tc .vmem S1x64x64x128 .f32) (harg14 : arg14.IsWhole)
  (arg15 : Memref sig .tc .vmem S64x128 .f32) (harg15 : arg15.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)

/-- What a step writes over the rows of the state, the last row first. -/
def newRows (k : Fin k0_t1_loop.trips) (acc : FVec F S64x128 .f32) (f : BufTy.Contents (Elt F) arg14.view.ty) : List (View.Piece (Elt F) S1x64x64x128 .f32) :=
  (List.finRange 64).reverse.map fun r => ⟨Rect.unit (s := S1x64x64x128) ![0, r.val, 0, 0] S1x1x64x128.size (row_inb r),
    newRow arg3 arg4 arg5 arg6 arg8 arg9 arg14 X3 X4 X5 X6 X8 X9 k acc f r⟩

/-- The product of the decays of the first `n` steps. -/
def gams : ℕ → FVec F S64x128 .f32
  | 0 => k0_pay2
  | n + 1 => if h : n < k0_t1_loop.trips then gam arg5 X5 ⟨n, h⟩ (gams n) else gams n

variable (G14 : BufTy.Contents (Elt F) arg14.view.ty)

/-- What the first `n` steps write into the state, the last first. -/
def pieces : ℕ → List (View.Piece (Elt F) S1x64x64x128 .f32)
  | 0 => []
  | n + 1 => if h : n < k0_t1_loop.trips then
      newRows arg3 arg4 arg5 arg6 arg8 arg9 arg14 X3 X4 X5 X6 X8 X9 ⟨n, h⟩ (gams arg5 X5 n) (arg14.view.writes (Elt F) G14 (pieces n)) ++ pieces n
    else pieces n

variable (f13 g13 : BufTy.Contents (Elt F) arg13.view.ty) (f15 g15 : BufTy.Contents (Elt F) arg15.view.ty)

/-- What one step carries on. -/
theorem step_carries (n : ℕ) (h : n < k0_t1_loop.trips) (p : (FVec F S64x128 .f32) × List (View.Piece (Elt F) S1x8x64x128 .f32) × List (View.Piece (Elt F) S1x64x64x128 .f32) × List (View.Piece (Elt F) S64x128 .f32)) :
    (st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n p).1 = gam arg5 X5 ⟨n, h⟩ p.1 := by
  unfold st_k0_t1Step
  rw [dif_pos h]
  exact trip_carries c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 ⟨n, h⟩ p.1 (arg13.view.writes (Elt F) f13 p.2.1) (arg14.view.writes (Elt F) G14 p.2.2.1) (arg15.view.writes (Elt F) f15 p.2.2.2)

/-- What one step writes into the state, before what was written. -/
theorem step_pieces (n : ℕ) (h : n < k0_t1_loop.trips) (p : (FVec F S64x128 .f32) × List (View.Piece (Elt F) S1x8x64x128 .f32) × List (View.Piece (Elt F) S1x64x64x128 .f32) × List (View.Piece (Elt F) S64x128 .f32)) :
    (st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n p).2.2.1
      = newRows arg3 arg4 arg5 arg6 arg8 arg9 arg14 X3 X4 X5 X6 X8 X9 ⟨n, h⟩ p.1 (arg14.view.writes (Elt F) G14 p.2.2.1) ++ p.2.2.1 := by
  unfold st_k0_t1Step
  rw [dif_pos h]
  exact congrArg (fun l => l ++ p.2.2.1) (trip_state c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 ⟨n, h⟩ p.1 (arg13.view.writes (Elt F) f13 p.2.1) (arg14.view.writes (Elt F) G14 p.2.2.1) (arg15.view.writes (Elt F) f15 p.2.2.2))

/-- What one step writes into the first result, before what was written: the same whatever the buffers held. -/
theorem step_rows (n : ℕ) (h : n < k0_t1_loop.trips) (p q : (FVec F S64x128 .f32) × List (View.Piece (Elt F) S1x8x64x128 .f32) × List (View.Piece (Elt F) S1x64x64x128 .f32) × List (View.Piece (Elt F) S64x128 .f32))
    (h1 : p.1 = q.1) (h2 : p.2.1 = q.2.1) (h3 : p.2.2.1 = q.2.2.1) :
    (st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n p).2.1 = (st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 g13 G14 g15 k0_pay2 n q).2.1 := by
  unfold st_k0_t1Step
  rw [dif_pos h, dif_pos h, ← h1, ← h2, ← h3]
  exact congrArg (fun l => l ++ p.2.1) (trip_rows c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 ⟨n, h⟩ p.1 (arg13.view.writes (Elt F) f13 p.2.1) (arg13.view.writes (Elt F) g13 p.2.1) (arg14.view.writes (Elt F) G14 p.2.2.1) (arg15.view.writes (Elt F) f15 p.2.2.2) (arg15.view.writes (Elt F) g15 q.2.2.2))

/-- It is one row. -/
theorem step_row (n : ℕ) (h : n < k0_t1_loop.trips) (p : (FVec F S64x128 .f32) × List (View.Piece (Elt F) S1x8x64x128 .f32) × List (View.Piece (Elt F) S1x64x64x128 .f32) × List (View.Piece (Elt F) S64x128 .f32)) : ∃ w,
    (st_k0_t1Step (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n p).2.1 = ⟨Rect.unit (s := S1x8x64x128) (k0_off1 ⟨n, h⟩) S1x1x64x128.size (k0_off1_inb ⟨n, h⟩), w⟩ :: p.2.1 := by
  obtain ⟨w, hw⟩ := trip_row c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 ⟨n, h⟩ p.1 (arg13.view.writes (Elt F) f13 p.2.1) (arg14.view.writes (Elt F) G14 p.2.2.1) (arg15.view.writes (Elt F) f15 p.2.2.2)
  refine ⟨w, ?_⟩
  unfold st_k0_t1Step
  rw [dif_pos h]
  exact congrArg (fun l => l ++ p.2.1) hw

/-- Before step `n` the loop carries the product of the decays, and the state has been written by the steps before. -/
theorem steps_eq : ∀ n ≤ k0_t1_loop.trips,
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n).1 = gams arg5 X5 n
    ∧ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n).2.2.1
      = pieces arg3 arg4 arg5 arg6 arg8 arg9 arg14 X3 X4 X5 X6 X8 X9 G14 n
  | 0, _ => ⟨rfl, rfl⟩
  | n + 1, hn => by
    obtain ⟨e₁, e₂⟩ := steps_eq n (Nat.le_of_succ_le hn)
    rw [st_k0_t1.eq_2]
    generalize (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n) = p at e₁ e₂ ⊢
    refine ⟨(step_carries c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 f13 f15 n hn p).trans ?_, (step_pieces c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 f13 f15 n hn p).trans ?_⟩
    · rw [gams, dif_pos (show n < k0_t1_loop.trips from hn), e₁]
    · rw [pieces, dif_pos (show n < k0_t1_loop.trips from hn), e₁, e₂]

/-- The rows of the first result are the same whatever the buffers held. -/
theorem steps_rows : ∀ n ≤ k0_t1_loop.trips,
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n).2.1 = (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 g13 G14 g15 k0_pay2 n).2.1
  | 0, _ => rfl
  | n + 1, hn => by
    have h2 := steps_rows n (Nat.le_of_succ_le hn)
    obtain ⟨e₁, e₂⟩ := steps_eq c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 f13 f15 n (Nat.le_of_succ_le hn)
    obtain ⟨e₃, e₄⟩ := steps_eq c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 g13 g15 n (Nat.le_of_succ_le hn)
    rw [st_k0_t1.eq_2, st_k0_t1.eq_2]
    exact step_rows c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 f13 g13 f15 g15 n hn _ _ (e₁.trans e₃.symm) h2 (e₂.trans e₄.symm)

/-- The first `n` steps write the first `n` rows of the first result. -/
theorem steps_cover : ∀ n ≤ k0_t1_loop.trips, ∀ y : S1x8x64x128.Idx, (y 1).val < n →
    ∃ p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n).2.1, y ∈ p.1.set
  | 0, _, _, hy => absurd hy (Nat.not_lt_zero _)
  | n + 1, hn, y, hy => by
    have ih := steps_cover n (Nat.le_of_succ_le hn) y
    rw [st_k0_t1.eq_2]
    generalize (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 f13 G14 f15 k0_pay2 n) = p at ih ⊢
    obtain ⟨w, hw⟩ := step_row c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X8 X9 X10 X11 X12 G14 f13 f15 n hn p
    rw [hw]
    by_cases hy' : (y 1).val < n
    · obtain ⟨q, hq, hyq⟩ := ih hy'
      exact ⟨q, List.mem_cons_of_mem _ hq, hyq⟩
    · refine ⟨_, List.mem_cons_self, ?_⟩
      rw [Rect.mem_set_unit, k0_off1_eq]
      have h0 : (y 0).val < 1 := (y 0).isLt
      have h2 : (y 2).val < 64 := (y 2).isLt
      have h3 : (y 3).val < 128 := (y 3).isLt
      intro a
      fin_cases a
      · exact ⟨Nat.zero_le _, h0⟩
      · exact ⟨Nat.le_of_not_lt hy', hy⟩
      · exact ⟨Nat.zero_le _, h2.trans_eq (Nat.zero_add _).symm⟩
      · exact ⟨Nat.zero_le _, h3.trans_eq (Nat.zero_add _).symm⟩

end Steps

end Cert.ScanIdeal.Body
-- ==== Proof.ScanBody.lean ====
/-
  The recurrence's body as one triple: from its inputs' buffers at their blocks it leaves its results' buffers at functions of them.
-/
module

public import proofs.«01_k».proof.Proof.ScanRun
public import proofs.«01_k».proof.Proof.ScanSteps
public import Idealize.ShloMosaic.Lib.VecWindow

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ScanIdeal Cert.ScanIdeal.Gen

variable {F : FTy → Type} [FloatOps F]

local notation "𝕄" => MT nD τ sig Unit (Elt F) ℕ (UR sig nD τ) ℕ

section Body

variable (c : Dev nD) (i : grid0.Coords)
  (arg2 : Memref sig .tc .vmem S1x8x64x128 .f32) (harg2 : arg2.IsWhole)
  (arg3 : Memref sig .tc .vmem S1x8x64x128 .f32) (harg3 : arg3.IsWhole)
  (arg4 : Memref sig .tc .vmem S1x8x64x128 .f32) (harg4 : arg4.IsWhole)
  (arg5 : Memref sig .tc .vmem S1x8x64x128 .f32) (harg5 : arg5.IsWhole)
  (arg6 : Memref sig .tc .vmem S1x8x64x128 .f32) (harg6 : arg6.IsWhole)
  (arg7 : Memref sig .tc .vmem S1x64x64x128 .f32) (harg7 : arg7.IsWhole)
  (arg8 : Memref sig .tc .vmem S1x64x128 .f32) (harg8 : arg8.IsWhole)
  (arg9 : Memref sig .tc .vmem S1x64x128 .f32) (harg9 : arg9.IsWhole)
  (arg10 : Memref sig .tc .vmem S1x64x128 .f32) (harg10 : arg10.IsWhole)
  (arg11 : Memref sig .tc .vmem S1x64x128 .f32) (harg11 : arg11.IsWhole)
  (arg12 : Memref sig .tc .vmem S1x64x128 .f32) (harg12 : arg12.IsWhole)
  (arg13 : Memref sig .tc .vmem S1x8x64x128 .f32) (harg13 : arg13.IsWhole)
  (arg14 : Memref sig .tc .vmem S1x64x64x128 .f32) (harg14 : arg14.IsWhole)
  (arg15 : Memref sig .tc .vmem S64x128 .f32) (harg15 : arg15.IsWhole)
  (B2 : S1x8x64x128.Idx → Elt F .f32) (B3 : S1x8x64x128.Idx → Elt F .f32) (B4 : S1x8x64x128.Idx → Elt F .f32) (B5 : S1x8x64x128.Idx → Elt F .f32) (B6 : S1x8x64x128.Idx → Elt F .f32) (B7 : S1x64x64x128.Idx → Elt F .f32) (B8 : S1x64x128.Idx → Elt F .f32) (B9 : S1x64x128.Idx → Elt F .f32) (B10 : S1x64x128.Idx → Elt F .f32) (B11 : S1x64x128.Idx → Elt F .f32) (B12 : S1x64x128.Idx → Elt F .f32)

/-- The state's buffer when the loop begins: the block of the state, stored whole. -/
def entry : BufTy.Contents (Elt F) arg14.view.ty :=
  arg14.view.writes (Elt F) arg14.view.junk (kernelRun.sl.H14_1 arg7 (harg7.unread B7))

/-- What the steps write into the first result's block. -/
def rows : List (View.Piece (Elt F) S1x8x64x128 .f32) :=
  (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg8.unread B8) (harg9.unread B9) (harg10.unread B10) (harg11.unread B11) (harg12.unread B12) arg13.view.junk (entry arg7 harg7 arg14 B7) arg15.view.junk k0_pay2 8).2.1

/-- The first result's block. -/
def outY : S1x8x64x128.Idx → Elt F .f32 := View.canon (rows c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12)

/-- The product of all the decays. -/
def gam8 : FVec F S64x128 .f32 := gams arg5 (harg5.unread B5) 8

/-- The state after the first `n` steps. -/
def stateAt (n : ℕ) : S1x64x64x128.Idx → Elt F .f32 :=
  arg14.view.read (Elt F) (arg14.view.writes (Elt F) (entry arg7 harg7 arg14 B7) (pieces arg3 arg4 arg5 arg6 arg8 arg9 arg14 (harg3.unread B3) (harg4.unread B4) (harg5.unread B5) (harg6.unread B6) (harg8.unread B8) (harg9.unread B9) (entry arg7 harg7 arg14 B7) n))

/-- The state's block: the state after the steps times the product of the decays. -/
def outS : S1x64x64x128.Idx → Elt F .f32 :=
  k0_pay4 (gam8 arg5 harg5 B5) (stateAt arg3 harg3 arg4 harg4 arg5 harg5 arg6 harg6 arg7 harg7 arg8 harg8 arg9 harg9 arg14 B3 B4 B5 B6 B7 B8 B9 8)

variable (f13 g13 : BufTy.Contents (Elt F) arg13.view.ty) (f14 g14 : BufTy.Contents (Elt F) arg14.view.ty) (f15 : BufTy.Contents (Elt F) arg15.view.ty)

/-- The first result's block is what the run writes there, whatever was there. -/
theorem rows_read : arg13.view.read (Elt F) (arg13.view.writes (Elt F) g13
      (kernelRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg7.unread B7) (harg8.unread B8) (harg9.unread B9) (harg10.unread B10) (harg11.unread B11) (harg12.unread B12) f13 f14 f15).1) = outY c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12 := by
  have e : (kernelRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg7.unread B7) (harg8.unread B8) (harg9.unread B9) (harg10.unread B10) (harg11.unread B11) (harg12.unread B12) f13 f14 f15).1 = rows c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12 :=
    steps_rows c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg8.unread B8) (harg9.unread B9) (harg10.unread B10) (harg11.unread B11) (harg12.unread B12) (entry arg7 harg7 arg14 B7) f13 arg13.view.junk f15 arg15.view.junk 8 (by decide +kernel)
  rw [e]
  exact View.read_writes_eq_canon _ _ _ fun y => steps_cover c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg8.unread B8) (harg9.unread B9) (harg10.unread B10) (harg11.unread B11) (harg12.unread B12) (entry arg7 harg7 arg14 B7) _ _ 8 (by decide +kernel) y (y 1).isLt

/-- The state's block is what the run writes there, whatever was there. -/
theorem state_read : arg14.view.read (Elt F) (arg14.view.writes (Elt F) g14
      (kernelRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg7.unread B7) (harg8.unread B8) (harg9.unread B9) (harg10.unread B10) (harg11.unread B11) (harg12.unread B12) f13 f14 f15).2.1)
      = outS arg3 harg3 arg4 harg4 arg5 harg5 arg6 harg6 arg7 harg7 arg8 harg8 arg9 harg9 arg14 B3 B4 B5 B6 B7 B8 B9 := by
  obtain ⟨e₁, e₂⟩ := steps_eq c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg8.unread B8) (harg9.unread B9) (harg10.unread B10) (harg11.unread B11) (harg12.unread B12) (entry arg7 harg7 arg14 B7) f13 f15 8 (by decide +kernel)
  refine (View.read_writes_full _ _ _ _ _).trans ?_
  refine congrArg₂ k0_pay4 e₁ ?_
  unfold kernelRun.sl.v6
  refine (View.readAt_full _ _ _).trans ?_
  unfold stateAt
  refine congrArg (arg14.view.read (Elt F)) ?_
  refine (View.writes_append _ _ _ _).trans ?_
  exact congrArg (arg14.view.writes (Elt F) (entry arg7 harg7 arg14 B7)) e₂

set_option maxHeartbeats 4000000 in
/-- The body as one triple. -/
theorem body_spec (E : Set ℕ) (K : PUnit → sProp 𝕄) :
    iprop(owns (c : Thread nD τ) arg2 fullShare B2 ∗ owns (c : Thread nD τ) arg3 fullShare B3 ∗ owns (c : Thread nD τ) arg4 fullShare B4 ∗ owns (c : Thread nD τ) arg5 fullShare B5 ∗ owns (c : Thread nD τ) arg6 fullShare B6 ∗ owns (c : Thread nD τ) arg7 fullShare B7 ∗ owns (c : Thread nD τ) arg8 fullShare B8 ∗ owns (c : Thread nD τ) arg9 fullShare B9 ∗ owns (c : Thread nD τ) arg10 fullShare B10 ∗ owns (c : Thread nD τ) arg11 fullShare B11 ∗ owns (c : Thread nD τ) arg12 fullShare B12
        ∗ (∃ d, owns (c : Thread nD τ) arg13 fullShare d) ∗ (∃ d, owns (c : Thread nD τ) arg14 fullShare d)
        ∗ (∃ f, arg15.view.loc (c : Thread nD τ) ↦[arg15.view.set]{fullShare} f)
        ∗ (iprop(owns (c : Thread nD τ) arg2 fullShare B2 ∗ owns (c : Thread nD τ) arg3 fullShare B3 ∗ owns (c : Thread nD τ) arg4 fullShare B4 ∗ owns (c : Thread nD τ) arg5 fullShare B5 ∗ owns (c : Thread nD τ) arg6 fullShare B6 ∗ owns (c : Thread nD τ) arg7 fullShare B7 ∗ owns (c : Thread nD τ) arg8 fullShare B8 ∗ owns (c : Thread nD τ) arg9 fullShare B9 ∗ owns (c : Thread nD τ) arg10 fullShare B10 ∗ owns (c : Thread nD τ) arg11 fullShare B11 ∗ owns (c : Thread nD τ) arg12 fullShare B12
          ∗ owns (c : Thread nD τ) arg13 fullShare (outY c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12)
          ∗ owns (c : Thread nD τ) arg14 fullShare (outS arg3 harg3 arg4 harg4 arg5 harg5 arg6 harg6 arg7 harg7 arg8 harg8 arg9 harg9 arg14 B3 B4 B5 B6 B7 B8 B9)
          ∗ (∃ f, arg15.view.loc (c : Thread nD τ) ↦[arg15.view.set]{fullShare} f)) -∗ K ⟨⟩))
      ⊢ wp frame (wpE (defs₀ (F := F)) Variants.none c none) E (cc0_wkv_scan i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%d13, %f13, %e13, H13⟩, ⟨%d14, %f14, %e14, H14⟩, ⟨%f15, H15⟩, Hk⟩
  obtain rfl := harg2.eq_unread e2
  obtain rfl := harg3.eq_unread e3
  obtain rfl := harg4.eq_unread e4
  obtain rfl := harg5.eq_unread e5
  obtain rfl := harg6.eq_unread e6
  obtain rfl := harg7.eq_unread e7
  obtain rfl := harg8.eq_unread e8
  obtain rfl := harg9.eq_unread e9
  obtain rfl := harg10.eq_unread e10
  obtain rfl := harg11.eq_unread e11
  obtain rfl := harg12.eq_unread e12
  iapply ((kernelRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread B2) (harg3.unread B3) (harg4.unread B4) (harg5.unread B5) (harg6.unread B6) (harg7.unread B7) (harg8.unread B8) (harg9.unread B9) (harg10.unread B10) (harg11.unread B11) (harg12.unread B12) f13 f14 f15).2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H4, H5, H6, H7, H8, H9, H10, H11, H12, ⟨%g13, H13⟩, ⟨%g14, H14⟩, H15⟩
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact rows_read c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12 _ _ _ _
  isplitl [H14]
  · iexists _; isplitr
    swap; · iexact H14
    ipureintro; exact state_read c i arg2 harg2 arg3 harg3 arg4 harg4 arg5 harg5 arg6 harg6 arg7 harg7 arg8 harg8 arg9 harg9 arg10 harg10 arg11 harg11 arg12 harg12 arg13 harg13 arg14 harg14 arg15 harg15 B2 B3 B4 B5 B6 B7 B8 B9 B10 B11 B12 _ _ _ _
  iexact H15

end Body

end Cert.ScanIdeal.Body
-- ==== Proof.ScanFrame.lean ====
/-
  The recurrence's call: its proof data, its body at every point, its run and its frame.
-/
module

public import proofs.«01_k».proof.Proof.ScanBody
public import Idealize.ShloMosaic.Lib.Claim

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result's block at the point. -/
def out11 (c : Dev nD) (t : Fin cfg0.N) : S1x8x64x128.Idx → Elt F .f32 :=
  outY c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The state's block at the point. -/
def out12 (c : Dev nD) (t : Fin cfg0.N) : S1x64x64x128.Idx → Elt F .f32 :=
  outS (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_12.stage (cfg0.slots t 12)) (iblk m c 1 t) (iblk m c 2 t) (iblk m c 3 t) (iblk m c 4 t) (iblk m c 5 t) (iblk m c 6 t) (iblk m c 7 t)

/-- The proof data: each input's buffer at its block, the results' at the above; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 m c t
    | ⟨12, _⟩ => out12 m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out11 m c t := by dsimp only [dats]
theorem after_12 (c : Dev nD) (t : Fin cfg0.N) : (dats m 0 c).after 12 t = out12 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12,
    show (dats m 0 c).Φ t.castSucc = iprop((∃ f : Buf (Elt F) ((c : Thread nD τ).loc cc0_scratch0), ((c : Thread nD τ).loc cc0_scratch0) ↦{fullShare} f) ∗ ∃ r, prngReg c r) from
      (congrArg (fun P => iprop(P ∗ ∃ r, prngReg c r)) (scopedRest0_eq c))]
  unfold out11 out12
  have hk := body_spec (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ
  rw [show (Memref.whole cc0_scratch0 : Memref sig .tc _ _ _).view.set = Finset.univ from View.set_whole _] at hk
  iintro ⟨⟨H15, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (hk _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H15]; · iexact H15
  iintro ⟨H0, H1, H2, H3, H4, H5, H6, H7, H8, H9, H10, H11, H12, H15⟩
  isplitl [H15 Hp]
  · isplitl [H15]; · iexact H15
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array of the pipeline ends at what the proof data give, every other array as the host's lines leave it, and
    every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.ScanIdeal.Body
-- ==== Proof.ScanAlg.lean ====
/-
  The recurrence over the extended reals: written plainly, and as the kernel runs it, with the product of the decays taken
  out of the state. Where every decay is a positive real the two agree, whatever the other arrays hold.
-/
module

public import Idealize.ShloMosaic.Lib.ValueLayout
public import Idealize.ShloMosaic.Lib.Pipeline.Value
public import Idealize.ShloMosaic.Lib.IdealHost

@[expose] public section

noncomputable section

namespace Layer

open Idealize.ShloMosaic Idealize.ShloMosaic.ValueIdx

/-- One, as both programs spell it. -/
abbrev one : EReal := Ideal.ofBits .f32 0x3F800000#32

/-- A head's key, scaled and divided by its length. -/
def keyDir (k kk : Fin 64 → EReal) (j : Fin 64) : EReal :=
  Ideal.div (k j * kk j) (max (Ideal.sqrt (∑ q, (k q * kk q) * (k q * kk q))) (Ideal.ofBits .f32 0x2B8CBCCC#32))

/-- A head's key, gated. -/
def keyGate (k a ka : Fin 64 → EReal) (j : Fin 64) : EReal := k j * (one + (a j - one) * ka j)

variable (S0 : Fin 64 → Fin 64 → EReal) (w kd a v kg : ℕ → Fin 64 → EReal)

/-- The state after the first steps: each step takes the decays, removes along the key, adds the value along the gated key. -/
def recur : ℕ → Fin 64 → Fin 64 → EReal
  | 0 => S0
  | n + 1 => fun i j => recur n i j * w n j - (∑ q, recur n i q * kd n q) * (kd n j * a n j) + v n i * kg n j

/-- The product of the decays of the first steps. -/
def decays : ℕ → Fin 64 → EReal
  | 0 => fun _ => one
  | n + 1 => fun j => decays n j * w n j

/-- The state over the product of the decays, as the kernel carries it. -/
def scaled : ℕ → Fin 64 → Fin 64 → EReal
  | 0 => S0
  | n + 1 => fun i j => scaled n i j - (∑ q, scaled n i q * (kd n q * decays w n q)) * ((kd n j * a n j) * Ideal.div one (decays w n j * w n j))
      + v n i * (kg n j * Ideal.div one (decays w n j * w n j))

/-- The products of positive reals are positive reals. -/
theorem decays_pos {N : ℕ} (h : ∀ n < N, ∀ j, 0 < w n j ∧ w n j < ⊤) : ∀ n ≤ N, ∀ j, ∃ r : ℝ, 0 < r ∧ decays w n j = r
  | 0, _, j => ⟨1, one_pos, by show one = _; rw [one, Ideal.ofBits_one_f32]; rfl⟩
  | n + 1, hn, j => by
    obtain ⟨r, hr, e⟩ := decays_pos h n (by omega) j
    obtain ⟨h0, h1⟩ := h n (by omega) j
    obtain ⟨s, hs⟩ : ∃ s : ℝ, w n j = s := ⟨(w n j).toReal, (EReal.coe_toReal h1.ne (ne_bot_of_gt h0)).symm⟩
    rw [hs] at h0
    refine ⟨r * s, mul_pos hr (EReal.coe_pos.mp h0), ?_⟩
    show decays w n j * w n j = _
    rw [e, hs, EReal.coe_mul]

/-- One step of one element: multiplying by the product of the decays undoes the division. -/
theorem step_mul {r : ℝ} (hr : 0 < r) (s T p x k : EReal) :
    (s - T * (p * Ideal.div one (r : EReal)) + x * (k * Ideal.div one (r : EReal))) * (r : EReal) = s * (r : EReal) - T * p + x * k := by
  have e : Ideal.div one (r : EReal) * (r : EReal) = 1 := by
    unfold Ideal.div
    rw [if_neg (EReal.coe_ne_zero.mpr hr.ne'), one, Ideal.ofBits_one_f32, one_mul, ← EReal.coe_inv, ← EReal.coe_mul, inv_mul_cancel₀ hr.ne', EReal.coe_one]
  have h0 : (0 : EReal) ≤ r := EReal.coe_nonneg.mpr hr.le
  have h1 : (r : EReal) ≠ ⊤ := EReal.coe_ne_top r
  rw [EReal.right_distrib_of_nonneg_of_ne_top h0 h1, sub_eq_add_neg, EReal.right_distrib_of_nonneg_of_ne_top h0 h1, EReal.neg_mul,
    ← sub_eq_add_neg, mul_assoc T, mul_assoc p, e, mul_one, mul_assoc x, mul_assoc k, e, mul_one]

/-- The kernel's state times the product of the decays is the state. -/
theorem scaled_mul {N : ℕ} (h : ∀ n < N, ∀ j, 0 < w n j ∧ w n j < ⊤) : ∀ n ≤ N, ∀ i j,
    scaled S0 w kd a v kg n i j * decays w n j = recur S0 w kd a v kg n i j
  | 0, _, i, j => by show S0 i j * one = S0 i j; rw [one, Ideal.ofBits_one_f32, mul_one]
  | n + 1, hn, i, j => by
    obtain ⟨r, hr, e⟩ := decays_pos w h (n + 1) hn j
    have ih := scaled_mul h n (by omega) i
    have hsum : (∑ q, scaled S0 w kd a v kg n i q * (kd n q * decays w n q)) = ∑ q, recur S0 w kd a v kg n i q * kd n q :=
      Finset.sum_congr rfl fun q _ => by rw [← ih q, mul_comm (kd n q), mul_assoc]
    show (scaled S0 w kd a v kg n i j - (∑ q, scaled S0 w kd a v kg n i q * (kd n q * decays w n q)) * ((kd n j * a n j) * Ideal.div one (decays w (n + 1) j))
      + v n i * (kg n j * Ideal.div one (decays w (n + 1) j))) * decays w (n + 1) j = _
    rw [hsum, e, step_mul hr, ← e]
    show scaled S0 w kd a v kg n i j * (decays w n j * w n j) - _ + _ = _
    rw [← mul_assoc, ih j]
    rfl

/-- A head's row of an array of a sample's steps. -/
abbrev headRow (X : (⟨4, ![128, 8, 32, 64]⟩ : Shape).Idx → EReal) (b : Fin 128) (h : Fin 32) (n : ℕ) (j : Fin 64) : EReal :=
  X (ix4 b (Fin.ofNat 8 n) h j)

/-- A head's vector. -/
abbrev headPart (x : (⟨2, ![32, 64]⟩ : Shape).Idx → EReal) (h : Fin 32) (j : Fin 64) : EReal := x (ix2 h j)

/-- The state of sample `b`'s head `h` after the first `n` steps, off the layer's arrays: keys, values, decays, gates, the state
    before, and the two vectors the keys are scaled with. -/
def headState (K V W A : (⟨4, ![128, 8, 32, 64]⟩ : Shape).Idx → EReal) (S : (⟨4, ![128, 32, 64, 64]⟩ : Shape).Idx → EReal)
    (kk ka : (⟨2, ![32, 64]⟩ : Shape).Idx → EReal) (n : ℕ) (b : Fin 128) (h : Fin 32) (i j : Fin 64) : EReal :=
  recur (fun i j => S (ix4 b h i j)) (headRow W b h) (fun n => keyDir (headRow K b h n) (headPart kk h)) (headRow A b h) (headRow V b h)
    (fun n => keyGate (headRow K b h n) (headRow A b h n) (headPart ka h)) n i j

end Layer
-- ==== Proof.ScanValue.lean ====
/-
  What the recurrence's body stores, at the extended reals: the kernel's state, element by element.
-/
module

public import proofs.«01_k».proof.Proof.ScanBody
public import proofs.«01_k».proof.Proof.ScanAlg
public import Idealize.ShloMosaic.Lib.VecWindow
public import Idealize.ShloMosaic.Lib.WritesUnit
public import Idealize.ShloMosaic.Lib.Pipeline.ValueKit.Geometry

@[expose] public section

set_option maxRecDepth 16384

noncomputable section

namespace Cert.ScanIdeal.Body

open Idealize.ShloMosaic Idealize.ShloMosaic.TcCoe Idealize.ShloMosaic.ValueIdx
open Cert.ScanIdeal Cert.ScanIdeal.Gen Layer

section Shapes

variable {α : Type}

/-- A row of a block, as a matrix. -/
theorem cast_row (x : S1x1x64x128.Idx → α) (h : S1x1x64x128.ShapeCasts S64x128) (j : Fin 64) (l : Fin 128) :
    shapeCast S64x128 x h (ix2 j l) = x (ix4 0 0 j l) :=
  shapeCast_apply x h _ _ (by
    rw [Shape.rowMajor_val_four, Shape.rowMajor_val_two]
    show ((0 * 1 + 0) * 64 + j.val) * 128 + l.val = j.val * 128 + l.val
    omega)

/-- A matrix, as a row of a block. -/
theorem cast_back (x : S64x128.Idx → α) (h : S64x128.ShapeCasts S1x1x64x128) (j : Fin 64) (l : Fin 128) :
    shapeCast S1x1x64x128 x h (ix4 0 0 j l) = x (ix2 j l) :=
  shapeCast_apply x h _ _ (by
    rw [Shape.rowMajor_val_four, Shape.rowMajor_val_two]
    show j.val * 128 + l.val = ((0 * 1 + 0) * 64 + j.val) * 128 + l.val
    omega)

/-- One element's lanes, as a row. -/
theorem cast_elt (x : S1x1x1x128.Idx → α) (h : S1x1x1x128.ShapeCasts S1x128) (l : Fin 128) :
    shapeCast S1x128 x h (ix2 0 l) = x (ix4 0 0 0 l) :=
  shapeCast_apply x h _ _ (by
    rw [Shape.rowMajor_val_four, Shape.rowMajor_val_two]
    show ((0 * 1 + 0) * 1 + 0) * 128 + l.val = 0 * 128 + l.val
    omega)

/-- A sum over the rows of a matrix, read at a column. -/
theorem sum_col (x : FVec Ideal S64x128 .f32) (h : S64x128.Reduces [0] S128)
    (hφ : FKind.Formats .f32) (hacc : (0x00000000#32 : BitVec 32) = FKind.add.neutral .f32 hφ) (l : Fin 128) :
    multiReduction .add [0] S128 x 0x00000000#32 h hφ hacc (ix1 l) = ∑ q : Fin 64, x (ix2 q l) := by
  refine (Ideal.multiReduction_add_single x _ h hφ hacc (ix1 l)).trans (Finset.sum_congr rfl fun c _ => congrArg x ?_)
  exact Shape.idx_ext₂ rfl rfl

end Shapes

/-- A row after a step, element by element. -/
theorem rowStep_apply (g b n : FVec Ideal S64x128 .f32) (s : Vec Ideal S1x1x64x128 .f32) (v : Vec Ideal S1x1x1x128 .f32) (j : Fin 64) (l : Fin 128) :
    rowStep g b n s v (ix4 0 0 j l) = s (ix4 0 0 j l) - (∑ q : Fin 64, s (ix4 0 0 q l) * g (ix2 q l)) * b (ix2 j l) + v (ix4 0 0 0 l) * n (ix2 j l) := by
  unfold rowStep
  rw [cast_back]
  show shapeCast S64x128 s _ (ix2 j l) - broadcastTo S64x128 _ _ (ix2 j l) * b (ix2 j l) + broadcastTo S64x128 _ _ (ix2 j l) * n (ix2 j l) = _
  rw [broadcastTo_1b_ab_apply, broadcastTo_1b_ab_apply, cast_row, cast_elt, shapeCast_a_1a_apply]
  refine congrArg (fun x => s (ix4 0 0 j l) - x * b (ix2 j l) + v (ix4 0 0 0 l) * n (ix2 j l)) ((sum_col _ _ _ _ l).trans (Finset.sum_congr rfl fun q _ => ?_))
  show shapeCast S64x128 s _ (ix2 q l) * g (ix2 q l) = _
  rw [cast_row]

/-- The normalised key, element by element. -/
theorem key_apply (k : Vec Ideal S1x1x64x128 .f32) (kk : Vec Ideal S1x64x128 .f32) (j : Fin 64) (l : Fin 128) :
    k0_pay10 k kk (ix2 j l) = keyDir (fun q => k (ix4 0 0 q l)) (fun q => kk (ix3 0 q l)) j := by
  have e (q : Fin 64) : mulf (k0_pay6 k) (shapeCast S64x128 kk shapeCasts_S1x64x128_S64x128) (ix2 q l) = k (ix4 0 0 q l) * kk (ix3 0 q l) := by
    show shapeCast S64x128 k _ (ix2 q l) * shapeCast S64x128 kk _ (ix2 q l) = _
    rw [cast_row, shapeCast_1ab_ab_apply]
  unfold k0_pay10 keyDir
  show Ideal.div (mulf (k0_pay6 k) (shapeCast S64x128 kk shapeCasts_S1x64x128_S64x128) (ix2 j l)) (broadcastTo S64x128 _ _ (ix2 j l)) = _
  rw [e, broadcastTo_1b_ab_apply]
  refine congrArg (fun x => Ideal.div (k (ix4 0 0 j l) * kk (ix3 0 j l)) (max (Ideal.sqrt x) (Ideal.ofBits .f32 0x2B8CBCCC#32))) ?_
  rw [shapeCast_a_1a_apply]
  refine (sum_col _ _ _ _ l).trans (Finset.sum_congr rfl fun q _ => ?_)
  exact congrArg₂ (· * ·) (e q) (e q)

/-- The gated key, element by element. -/
theorem gate_apply (k a : Vec Ideal S1x1x64x128 .f32) (ka : Vec Ideal S1x64x128 .f32) (j : Fin 64) (l : Fin 128) :
    k0_pay11 k a ka (ix2 j l) = keyGate (fun q => k (ix4 0 0 q l)) (fun q => a (ix4 0 0 q l)) (fun q => ka (ix3 0 q l)) j := by
  unfold k0_pay11 keyGate
  show shapeCast S64x128 k _ (ix2 j l) * (one + (shapeCast S64x128 a _ (ix2 j l) - one) * shapeCast S64x128 ka _ (ix2 j l)) = _
  rw [cast_row, cast_row, shapeCast_1ab_ab_apply]

/-- The state times a vector per row, element by element. -/
theorem times_apply (g : FVec Ideal S64x128 .f32) (s : Vec Ideal S1x64x64x128 .f32) (i j : Fin 64) (l : Fin 128) :
    k0_pay4 g s (ix4 0 i j l) = s (ix4 0 i j l) * g (ix2 j l) := by
  unfold k0_pay4
  refine (shapeCast_abc_1abc_apply _ _ 0 i j l).trans ?_
  show shapeCast S64x64x128 s _ (ix3 i j l) * broadcastTo S64x64x128 _ _ (ix3 i j l) = _
  refine congrArg₂ (· * ·) (shapeCast_1abc_abc_apply s _ i j l) ?_
  refine (broadcastTo_apply _ _ _ (ix3 0 j l) fun a => ?_).trans (shapeCast_ab_1ab_apply g _ 0 j l)
  match a with
  | ⟨0, _⟩ => rfl
  | ⟨1, _⟩ => rfl
  | ⟨2, _⟩ => rfl

/-- Reading a row of a buffer over which each row of a list was written once. -/
theorem read_rows {Val : EltTy → Type} (v : View sig .tc .vmem S1x64x64x128 .f32) (f : v.ty.Contents Val) (w : Fin 64 → S1x1x64x128.Idx → Val .f32)
    (L : List (View.Piece Val S1x64x64x128 .f32)) (r j : Fin 64) (l : Fin 128) : ∀ R : List (Fin 64), r ∈ R →
    v.read Val (v.writes Val f ((R.map fun a => ⟨Rect.unit (s := S1x64x64x128) ![0, a.val, 0, 0] S1x1x64x128.size (row_inb a), w a⟩) ++ L)) (ix4 0 r j l)
      = w r (ix4 0 0 j l)
  | [], h => absurd h List.not_mem_nil
  | a :: R, h => by
    by_cases e : r = a
    · subst e
      refine View.read_writes_cons_unit_of_mem v f (row_inb r) (w r) _ (ix4 0 r j l) (ix4 0 0 j l) rfl fun b => ?_
      match b with
      | ⟨0, _⟩ => rfl
      | ⟨1, _⟩ => rfl
      | ⟨2, _⟩ => exact (Nat.zero_add _).symm
      | ⟨3, _⟩ => exact (Nat.zero_add _).symm
    · refine (View.read_writes_cons_unit_of_not_mem v f (row_inb a) (w a) _ (ix4 0 r j l) rfl 1 ?_).trans
        (read_rows v f w L r j l R ((List.mem_cons.mp h).resolve_left e))
      have : r.val ≠ a.val := fun h => e (Fin.ext h)
      show r.val < a.val ∨ a.val + 1 ≤ r.val
      omega

section Value

variable
  (arg3 : Memref sig .tc .vmem S1x8x64x128 .f32) (harg3 : arg3.IsWhole)
  (arg4 : Memref sig .tc .vmem S1x8x64x128 .f32) (harg4 : arg4.IsWhole)
  (arg5 : Memref sig .tc .vmem S1x8x64x128 .f32) (harg5 : arg5.IsWhole)
  (arg6 : Memref sig .tc .vmem S1x8x64x128 .f32) (harg6 : arg6.IsWhole)
  (arg7 : Memref sig .tc .vmem S1x64x64x128 .f32) (harg7 : arg7.IsWhole)
  (arg8 : Memref sig .tc .vmem S1x64x128 .f32) (harg8 : arg8.IsWhole)
  (arg9 : Memref sig .tc .vmem S1x64x128 .f32) (harg9 : arg9.IsWhole)
  (arg14 : Memref sig .tc .vmem S1x64x64x128 .f32)
  (B3 B4 B5 B6 : S1x8x64x128.Idx → EReal) (B7 : S1x64x64x128.Idx → EReal) (B8 B9 : S1x64x128.Idx → EReal) (l : Fin 128)

/-- A lane of a step's row. -/
abbrev lane (B : S1x8x64x128.Idx → EReal) (l : Fin 128) (n : ℕ) (j : Fin 64) : EReal := B (ix4 0 (Fin.ofNat 8 n) j l)

/-- A lane of a vector of the head. -/
abbrev laneV (B : S1x64x128.Idx → EReal) (l : Fin 128) (j : Fin 64) : EReal := B (ix3 0 j l)

/-- A lane of the normalised keys. -/
abbrev laneDir (B3 : S1x8x64x128.Idx → EReal) (B8 : S1x64x128.Idx → EReal) (l : Fin 128) (n : ℕ) : Fin 64 → EReal := keyDir (lane B3 l n) (laneV B8 l)

/-- A lane of the gated keys. -/
abbrev laneGate (B3 B6 : S1x8x64x128.Idx → EReal) (B9 : S1x64x128.Idx → EReal) (l : Fin 128) (n : ℕ) : Fin 64 → EReal := keyGate (lane B3 l n) (lane B6 l n) (laneV B9 l)

/-- A lane of the state's block. -/
abbrev laneS (B7 : S1x64x64x128.Idx → EReal) (l : Fin 128) (i j : Fin 64) : EReal := B7 (ix4 0 i j l)

/-- Step `n`'s row of a block, read. -/
theorem stepRow_apply (a : Memref sig .tc .vmem S1x8x64x128 .f32) (ha : a.IsWhole) (B : S1x8x64x128.Idx → EReal) (n : ℕ) (h : n < k0_t1_loop.trips) (j : Fin 64) :
    stepRow (F := Ideal) ⟨n, h⟩ a (ha.unread B) (ix4 0 0 j l) = lane B l n j := by
  have hn : n < 8 := trips_eq ▸ h
  have e := k0_off1_eq ⟨n, h⟩
  unfold stepRow
  rw [View.readAt_unit _ _ _ e (by rw [← e]; exact k0_off1_inb ⟨n, h⟩), ha.read_unread]
  refine congrArg B (funext fun b => Fin.ext ?_)
  match b with
  | ⟨0, _⟩ => rfl
  | ⟨1, _⟩ => exact (Nat.mod_eq_of_lt hn).symm
  | ⟨2, _⟩ => exact (ValueKit.rect_emb_unit_val _ _ _ _ _).trans (Nat.zero_add _)
  | ⟨3, _⟩ => exact (ValueKit.rect_emb_unit_val _ _ _ _ _).trans (Nat.zero_add _)

/-- A vector of the head, read. -/
theorem headVec_eq (a : Memref sig .tc .vmem S1x64x128 .f32) (ha : a.IsWhole) (B : S1x64x128.Idx → EReal) : headVec (F := Ideal) a (ha.unread B) = B := by
  unfold headVec
  rw [View.readAt_full, ha.read_unread]

/-- An element of step `n`'s value row, read. -/
theorem valElt_apply (n : ℕ) (h : n < k0_t1_loop.trips) (r : Fin 64) : valElt (F := Ideal) arg4 (harg4.unread B4) ⟨n, h⟩ r (ix4 0 0 0 l) = lane B4 l n r := by
  have hn : n < 8 := trips_eq ▸ h
  have e : (![0, (Scalar.indexCast (Scf.iv 0#32 1#32 n)).toNat, r.val, 0] : Fin 4 → ℕ) = ![0, n, r.val, 0] := by
    have : ∀ m : Fin 8, (Scalar.indexCast (Scf.iv 0#32 1#32 m.val)).toNat = m.val := by decide +kernel
    rw [this ⟨n, hn⟩]
  unfold valElt
  rw [View.readAt_unit _ _ _ e (by rw [← e]; exact elt_inb ⟨n, h⟩ r), harg4.read_unread]
  refine congrArg B4 (funext fun b => Fin.ext ?_)
  match b with
  | ⟨0, _⟩ => rfl
  | ⟨1, _⟩ => exact (Nat.mod_eq_of_lt hn).symm
  | ⟨2, _⟩ => rfl
  | ⟨3, _⟩ => exact (ValueKit.rect_emb_unit_val _ _ _ _ _).trans (Nat.zero_add _)

/-- The product of the decays, element by element. -/
theorem gams_apply (j : Fin 64) : ∀ n ≤ 8, gams (F := Ideal) arg5 (harg5.unread B5) n (ix2 j l) = decays (lane B5 l) n j
  | 0, _ => rfl
  | n + 1, hn => by
    have h : n < k0_t1_loop.trips := by rw [trips_eq]; omega
    rw [gams, dif_pos h]
    show gams (F := Ideal) arg5 (harg5.unread B5) n (ix2 j l) * shapeCast S64x128 (stepRow (F := Ideal) ⟨n, h⟩ arg5 (harg5.unread B5)) _ (ix2 j l) = decays (lane B5 l) n j * lane B5 l n j
    rw [cast_row, stepRow_apply, gams_apply j n (by omega)]

/-- The state before the first step: the block of the state. -/
theorem stateAt_zero (i j : Fin 64) : stateAt (F := Ideal) arg3 harg3 arg4 harg4 arg5 harg5 arg6 harg6 arg7 harg7 arg8 harg8 arg9 harg9 arg14 B3 B4 B5 B6 B7 B8 B9 0 (ix4 0 i j l) = laneS B7 l i j := by
  unfold stateAt pieces entry kernelRun.sl.H14_1
  rw [View.writes_nil, View.read_writes_full]
  unfold k0_pay1
  refine (shapeCast_abc_1abc_apply _ _ 0 i j l).trans ((shapeCast_1abc_abc_apply _ _ i j l).trans ?_)
  rw [View.readAt_full, harg7.read_unread]

/-- The state after one more step. -/
theorem stateAt_succ (n : ℕ) (hn : n < 8) (i j : Fin 64) :
    stateAt (F := Ideal) arg3 harg3 arg4 harg4 arg5 harg5 arg6 harg6 arg7 harg7 arg8 harg8 arg9 harg9 arg14 B3 B4 B5 B6 B7 B8 B9 (n + 1) (ix4 0 i j l)
      = stateAt (F := Ideal) arg3 harg3 arg4 harg4 arg5 harg5 arg6 harg6 arg7 harg7 arg8 harg8 arg9 harg9 arg14 B3 B4 B5 B6 B7 B8 B9 n (ix4 0 i j l)
        - (∑ q, stateAt (F := Ideal) arg3 harg3 arg4 harg4 arg5 harg5 arg6 harg6 arg7 harg7 arg8 harg8 arg9 harg9 arg14 B3 B4 B5 B6 B7 B8 B9 n (ix4 0 i q l)
            * (laneDir B3 B8 l n q * decays (lane B5 l) n q)) * ((laneDir B3 B8 l n j * lane B6 l n j) * Ideal.div one (decays (lane B5 l) n j * lane B5 l n j))
        + lane B4 l n i * (laneGate B3 B6 B9 l n j * Ideal.div one (decays (lane B5 l) n j * lane B5 l n j)) := by
  have h : n < k0_t1_loop.trips := by rw [trips_eq]; omega
  have hkey (q : Fin 64) : keyN (F := Ideal) arg3 arg8 (harg3.unread B3) (harg8.unread B8) ⟨n, h⟩ (ix2 q l) = laneDir B3 B8 l n q := by
    unfold keyN
    rw [key_apply, headVec_eq]
    exact congrArg (fun f => keyDir f (laneV B8 l) q) (funext fun p => stepRow_apply l arg3 harg3 B3 n h p)
  have hinv : k0_pay14 (gams (F := Ideal) arg5 (harg5.unread B5) n) (k0_pay8 (stepRow ⟨n, h⟩ arg5 (harg5.unread B5))) (ix2 j l)
      = Ideal.div one (decays (lane B5 l) n j * lane B5 l n j) := by
    show Ideal.div one (gams (F := Ideal) arg5 (harg5.unread B5) n (ix2 j l) * shapeCast S64x128 (stepRow (F := Ideal) ⟨n, h⟩ arg5 (harg5.unread B5)) _ (ix2 j l)) = _
    rw [cast_row, stepRow_apply, gams_apply _ _ _ _ _ n (by omega)]
  have hs (q : Fin 64) (f) (hf : f = arg14.view.writes (Elt Ideal) (entry arg7 harg7 arg14 B7) (pieces arg3 arg4 arg5 arg6 arg8 arg9 arg14 (harg3.unread B3) (harg4.unread B4) (harg5.unread B5) (harg6.unread B6) (harg8.unread B8) (harg9.unread B9) (entry arg7 harg7 arg14 B7) n)) :
      stateRow (F := Ideal) arg14 i f (ix4 0 0 q l) = stateAt (F := Ideal) arg3 harg3 arg4 harg4 arg5 harg5 arg6 harg6 arg7 harg7 arg8 harg8 arg9 harg9 arg14 B3 B4 B5 B6 B7 B8 B9 n (ix4 0 i q l) := by
    subst hf
    unfold stateRow stateAt
    rw [View.readAt_unit _ _ _ rfl (row_inb i)]
    refine congrArg (arg14.view.read (Elt Ideal) _) (funext fun b => Fin.ext ?_)
    match b with
    | ⟨0, _⟩ => rfl
    | ⟨1, _⟩ => rfl
    | ⟨2, _⟩ => exact (ValueKit.rect_emb_unit_val _ _ _ _ _).trans (Nat.zero_add _)
    | ⟨3, _⟩ => exact (ValueKit.rect_emb_unit_val _ _ _ _ _).trans (Nat.zero_add _)
  conv_lhs => unfold stateAt
  rw [pieces, dif_pos h]
  unfold newRows
  refine (read_rows arg14.view _ _ _ i j l _ (List.mem_reverse.mpr (List.mem_finRange i))).trans ?_
  unfold newRow
  rw [rowStep_apply, hs j _ rfl, valElt_apply]
  refine congrArg₂ (· + ·) (congrArg₂ (fun x y => _ - x * y) (Finset.sum_congr rfl fun q _ => congrArg₂ (· * ·) (hs q _ rfl) ?_) ?_) (congrArg (lane B4 l n i * ·) ?_)
  · show keyN (F := Ideal) arg3 arg8 (harg3.unread B3) (harg8.unread B8) ⟨n, h⟩ (ix2 q l) * gams (F := Ideal) arg5 (harg5.unread B5) n (ix2 q l) = _
    rw [hkey, gams_apply _ _ _ _ _ n (by omega)]
  · show (keyN (F := Ideal) arg3 arg8 (harg3.unread B3) (harg8.unread B8) ⟨n, h⟩ (ix2 j l) * shapeCast S64x128 (stepRow (F := Ideal) ⟨n, h⟩ arg6 (harg6.unread B6)) _ (ix2 j l)) * k0_pay14 _ _ (ix2 j l) = _
    rw [hkey, hinv, cast_row, stepRow_apply]
  · show k0_pay11 _ _ _ (ix2 j l) * k0_pay14 _ _ (ix2 j l) = _
    rw [hinv, gate_apply, headVec_eq]
    refine congrArg (· * _) (congrArg₂ (fun f g => keyGate f g (laneV B9 l) j) (funext fun p => ?_) (funext fun p => ?_))
    · exact stepRow_apply l arg3 harg3 B3 n h p
    · exact stepRow_apply l arg6 harg6 B6 n h p

/-- The state the loop carries is the plain one over the product of the decays. -/
theorem stateAt_eq : ∀ n ≤ 8, ∀ i j : Fin 64,
    stateAt (F := Ideal) arg3 harg3 arg4 harg4 arg5 harg5 arg6 harg6 arg7 harg7 arg8 harg8 arg9 harg9 arg14 B3 B4 B5 B6 B7 B8 B9 n (ix4 0 i j l)
      = scaled (laneS B7 l) (lane B5 l) (laneDir B3 B8 l) (lane B6 l) (lane B4 l) (laneGate B3 B6 B9 l) n i j
  | 0, _, i, j => stateAt_zero arg3 harg3 arg4 harg4 arg5 harg5 arg6 harg6 arg7 harg7 arg8 harg8 arg9 harg9 arg14 B3 B4 B5 B6 B7 B8 B9 l i j
  | n + 1, hn, i, j => by
    rw [stateAt_succ _ _ _ _ _ _ _ _ _ _ _ _ _ _ _ _ _ _ _ _ _ _ _ n (by omega)]
    simp only [stateAt_eq n (by omega) i]
    rfl

/-- The state's block: the plain recurrence, where the decays are positive reals. -/
theorem outS_apply (hw : ∀ n < 8, ∀ j, 0 < lane B5 l n j ∧ lane B5 l n j < ⊤) (i j : Fin 64) :
    outS (F := Ideal) arg3 harg3 arg4 harg4 arg5 harg5 arg6 harg6 arg7 harg7 arg8 harg8 arg9 harg9 arg14 B3 B4 B5 B6 B7 B8 B9 (ix4 0 i j l)
      = recur (laneS B7 l) (lane B5 l) (laneDir B3 B8 l) (lane B6 l) (lane B4 l) (laneGate B3 B6 B9 l) 8 i j := by
  unfold outS gam8
  rw [times_apply, stateAt_eq _ _ _ _ _ _ _ _ _ _ _ _ _ _ _ _ _ _ _ _ _ _ _ 8 le_rfl, gams_apply _ _ _ _ _ 8 le_rfl]
  exact scaled_mul _ _ _ _ _ _ hw 8 le_rfl i j

end Value

end Cert.ScanIdeal.Body
-- ==== Proof.ScanRefValue.lean ====
/-
  What the recurrence's reference leaves, at the extended reals: each head's state, element by element.
-/
module

public import proofs.«01_k».proof.Proof.Gen.ScanRefIdeal.Step
public import proofs.«01_k».proof.Proof.ScanAlg
public import Idealize.ShloMosaic.Lib.StackMember
public import Idealize.ShloMosaic.Lib.DynamicIndex

@[expose] public section

set_option maxRecDepth 16384

noncomputable section

namespace Cert.ScanRefIdeal.Values

open Idealize.ShloMosaic Idealize.ShloMosaic.ValueIdx Idealize.ShloMosaic.StackMember
open Cert.ScanRefIdeal Cert.ScanRefIdeal.Gen Cert.ScanRefIdeal.Step Layer

section Ops

/-- Step `n`'s rows of an array of rows. -/
theorem rows_at (X : S8x128x32x64.Idx → EReal) (n : ℕ) (hn : n < 8) (b : Fin 128) (h : Fin 32) (j : Fin 64) :
    shapeCast S128x32x64 (Host.dynamicSlice S1x128x32x64 X (fun k => (((![(constantI S_ 32 (BitVec.ofNat 32 n) : S_.Idx → BitVec 32), constantI S_ 32 0#32, constantI S_ 32 0#32, constantI S_ 32 0#32] :
      Fin 4 → S_.Idx → BitVec 32)) k (Shape.Idx.first h_S_)).toInt) sliceFits_S8x128x32x64_S1x128x32x64) shapeCasts_S1x128x32x64_S128x32x64 (ix3 b h j) = X (ix4 (Fin.ofNat 8 n) b h j) := by
  refine (shapeCast_1abc_abc_apply _ _ b h j).trans ?_
  have hoff : S8x128x32x64.Slices ![n, 0, 0, 0] S1x128x32x64 := by
    have : ∀ n : Fin 8, S8x128x32x64.Slices ![n.val, 0, 0, 0] S1x128x32x64 := by decide +kernel
    exact this ⟨n, hn⟩
  have hw : (BitVec.ofNat 32 n).toInt = (n : ℤ) := by
    have : ∀ n : Fin 8, (BitVec.ofNat 32 n.val).toInt = (n.val : ℤ) := by decide +kernel
    exact this ⟨n, hn⟩
  rw [Host.dynamicSlice_eq_extractStridedSlice S1x128x32x64 X _ ![n, 0, 0, 0] _ hoff (fun a => by
    match a with
    | ⟨0, _⟩ => exact hw
    | ⟨1, _⟩ => rfl
    | ⟨2, _⟩ => rfl
    | ⟨3, _⟩ => rfl)]
  refine congrArg X (funext fun a => Fin.ext ?_)
  match a with
  | ⟨0, _⟩ => exact (Nat.mod_eq_of_lt hn).symm
  | ⟨1, _⟩ => exact Nat.zero_add _
  | ⟨2, _⟩ => exact Nat.zero_add _
  | ⟨3, _⟩ => exact Nat.zero_add _

/-- A row per head, given to every row of the head's matrix. -/
theorem across (x : S128x32x64.Idx → EReal) (b : Fin 128) (h : Fin 32) (i j : Fin 64) :
    broadcastInDim S128x32x64x64 ![0, 1, 2, 3] bcast_S128x32x1x64_S128x32x64x64_0_1_2_3
      (broadcastInDim S128x32x1x64 ![0, 1, 3] bcast_S128x32x64_S128x32x1x64_0_1_3 x) (ix4 b h i j) = x (ix3 b h j) := by
  refine (broadcastInDim_apply _ _ _ _ (ix4 b h 0 j) fun a => ?_).trans (broadcastInDim_apply _ _ _ _ (ix3 b h j) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A column per head, given to every column of the head's matrix. -/
theorem along (x : S128x32x64.Idx → EReal) (b : Fin 128) (h : Fin 32) (i j : Fin 64) :
    broadcastInDim S128x32x64x64 ![0, 1, 2, 3] bcast_S128x32x64x1_S128x32x64x64_0_1_2_3
      (broadcastInDim S128x32x64x1 ![0, 1, 2] bcast_S128x32x64_S128x32x64x1_0_1_2 x) (ix4 b h i j) = x (ix3 b h i) := by
  refine (broadcastInDim_apply _ _ _ _ (ix4 b h i 0) fun a => ?_).trans (broadcastInDim_apply _ _ _ _ (ix3 b h i) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- Each head's matrix times its vector. -/
theorem times_vec (A : FVec Ideal S128x32x64x64 .f32) (x : FVec Ideal S128x32x64 .f32) (b : Fin 128) (h : Fin 32) (i : Fin 64) :
    Host.dotGeneral dot_S128x32x64x64_S128x32x64_S128x32x64_3_2_2_n_01_01 none A x (ix3 b h i) = ∑ q : Fin 64, A (ix4 b h i q) * x (ix3 b h q) := by
  show FloatOps.dotGeneral _ none _ A x (ix3 b h i) = _
  rw [Ideal.dotGeneral_apply, ← Equiv.sum_comp (contrEquiv1 dot_S128x32x64x64_S128x32x64_S128x32x64_3_2_2_n_01_01 64 rfl rfl).symm]
  refine Finset.sum_congr rfl fun q _ => ?_
  have c := contrEquiv1_symm_val dot_S128x32x64x64_S128x32x64_S128x32x64_3_2_2_n_01_01 64 rfl rfl q
  refine congrArg₂ (· * ·) (congrArg A (funext fun ax => Fin.ext ?_)) (congrArg x (funext fun ax => Fin.ext ?_))
  · match ax with
    | ⟨0, _⟩ => simp [DotDims.lhsIdx, dot_S128x32x64x64_S128x32x64_S128x32x64_3_2_2_n_01_01]; rfl
    | ⟨1, _⟩ => simp [DotDims.lhsIdx, dot_S128x32x64x64_S128x32x64_S128x32x64_3_2_2_n_01_01]; rfl
    | ⟨2, _⟩ => simp [DotDims.lhsIdx, dot_S128x32x64x64_S128x32x64_S128x32x64_3_2_2_n_01_01]; rfl
    | ⟨3, _⟩ => simp [DotDims.lhsIdx, dot_S128x32x64x64_S128x32x64_S128x32x64_3_2_2_n_01_01]; exact c
  · match ax with
    | ⟨0, _⟩ => simp [DotDims.rhsIdx, dot_S128x32x64x64_S128x32x64_S128x32x64_3_2_2_n_01_01]; rfl
    | ⟨1, _⟩ => simp [DotDims.rhsIdx, dot_S128x32x64x64_S128x32x64_S128x32x64_3_2_2_n_01_01]; rfl
    | ⟨2, _⟩ => simp [DotDims.rhsIdx, dot_S128x32x64x64_S128x32x64_S128x32x64_3_2_2_n_01_01]; exact c

/-- A sample's steps before its samples: the first two axes exchanged. -/
theorem steps_first (X : S128x8x32x64.Idx → EReal) (n : Fin 8) (b : Fin 128) (h : Fin 32) (j : Fin 64) :
    transpose S8x128x32x64 [1, 0, 2, 3] X transposes_S128x8x32x64_S8x128x32x64_1_0_2_3 (ix4 n b h j) = X (ix4 b n h j) :=
  transpose_apply _ X _ _ _ fun a => by
    match a with
    | ⟨0, _⟩ => rfl
    | ⟨1, _⟩ => rfl
    | ⟨2, _⟩ => rfl
    | ⟨3, _⟩ => rfl

/-- A head's vector, given to every sample and step. -/
theorem everywhere (x : S32x64.Idx → EReal) (b : Fin 128) (n : Fin 8) (h : Fin 32) (j : Fin 64) :
    broadcastInDim S128x8x32x64 ![0, 1, 2, 3] bcast_S1x1x32x64_S128x8x32x64_0_1_2_3
      (broadcastInDim S1x1x32x64 ![2, 3] bcast_S32x64_S1x1x32x64_2_3 x) (ix4 b n h j) = x (ix2 h j) := by
  refine (broadcastInDim_apply _ _ _ _ (ix4 0 0 h j) fun a => ?_).trans (broadcastInDim_apply _ _ _ _ (ix2 h j) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

/-- One number per row, given to the row. -/
theorem per_row (x : S128x8x32x1.Idx → EReal) (b : Fin 128) (n : Fin 8) (h : Fin 32) (j : Fin 64) :
    broadcastInDim S128x8x32x64 ![0, 1, 2, 3] bcast_S128x8x32x1_S128x8x32x64_0_1_2_3 x (ix4 b n h j) = x (ix4 b n h 0) :=
  broadcastInDim_apply _ _ _ _ _ fun a => by
    match a with
    | ⟨0, _⟩ => rfl
    | ⟨1, _⟩ => rfl
    | ⟨2, _⟩ => rfl
    | ⟨3, _⟩ => rfl

/-- The sum of each row. -/
theorem row_sum (X : FVec Ideal S128x8x32x64 .f32) (b : Fin 128) (n : Fin 8) (h : Fin 32) :
    broadcastInDim S128x8x32x1 ![0, 1, 2] bcast_S128x8x32_S128x8x32x1_0_1_2
      (Host.reduceAdd X (constant S_ .f32 0x00000000#32) reducesTo_S128x8x32x64_S128x8x32_d3 h_S_) (ix4 b n h 0) = ∑ q : Fin 64, X (ix4 b n h q) := by
  refine (broadcastInDim_apply _ _ _ _ (ix3 b n h) fun a => ?_).trans ?_
  · match a with
    | ⟨0, _⟩ => rfl
    | ⟨1, _⟩ => rfl
    | ⟨2, _⟩ => rfl
  · have hr : S128x8x32x64.Reduces [3] S128x8x32 := ⟨reducesTo_S128x8x32x64_S128x8x32_d3.1, by decide, reducesTo_S128x8x32x64_S128x8x32_d3.2⟩
    refine (Ideal.hostReduceAdd_single reducesTo_S128x8x32x64_S128x8x32_d3 hr X _ _).trans ?_
    rw [show (constant (F := Ideal) S_ .f32 0x00000000#32) (Shape.Idx.first h_S_) = (0 : EReal) from Ideal.ofBits_zero_f32, zero_add]
    refine Finset.sum_congr rfl fun q _ => congrArg X (funext fun a => ?_)
    match a with
    | ⟨0, _⟩ => rfl
    | ⟨1, _⟩ => rfl
    | ⟨2, _⟩ => rfl
    | ⟨3, _⟩ => rfl

end Ops

variable (x0 x1 x2 x3 x4 : S128x8x2048.Idx → EReal) (x5 : S1x128x32x64x64.Idx → EReal) (x6 x7 : S1x2048.Idx → EReal)

/-- A sample's rows split into heads. -/
abbrev heads (x : S128x8x2048.Idx → EReal) : S128x8x32x64.Idx → EReal := shapeCast S128x8x32x64 x shapeCasts_S128x8x2048_S128x8x32x64

/-- A vector split into heads. -/
abbrev vecHeads (x : S1x2048.Idx → EReal) : S32x64.Idx → EReal := shapeCast S32x64 (shapeCast S2048 x shapeCasts_S1x2048_S2048) shapeCasts_S2048_S32x64

/-- The state before the first step. -/
abbrev stateIn (x : S1x128x32x64x64.Idx → EReal) : S128x32x64x64.Idx → EReal := shapeCast S128x32x64x64 x shapeCasts_S1x128x32x64x64_S128x32x64x64

/-- The normalised keys. -/
theorem key_ref (b : Fin 128) (n : Fin 8) (h : Fin 32) (j : Fin 64) : A_main_v19 (F := Ideal) x0 x1 x2 x3 x4 x5 x6 x7 (ix4 b n h j)
    = keyDir (fun q => heads x1 (ix4 b n h q)) (headPart (vecHeads x6) h) j := by
  have e (q : Fin 64) : A_main_v11 (F := Ideal) x0 x1 x2 x3 x4 x5 x6 x7 (ix4 b n h q) = heads x1 (ix4 b n h q) * vecHeads x6 (ix2 h q) := by
    unfold A_main_v11 A_main_v10 A_main_v9 A_main_v6 A_main_v5 A_main_v1
    exact congrArg (heads x1 (ix4 b n h q) * ·) (everywhere _ b n h q)
  unfold A_main_v19
  show Ideal.div (A_main_v11 (F := Ideal) x0 x1 x2 x3 x4 x5 x6 x7 (ix4 b n h j)) (A_main_v18 (F := Ideal) x0 x1 x2 x3 x4 x5 x6 x7 (ix4 b n h j)) = _
  rw [e]
  unfold keyDir A_main_v18
  rw [per_row]
  unfold A_main_v17 A_main_v15 A_main_v14 A_main_v13
  refine congrArg (fun x => Ideal.div (heads x1 (ix4 b n h j) * vecHeads x6 (ix2 h j)) (max (Ideal.sqrt x) (Ideal.ofBits .f32 0x2B8CBCCC#32))) ((row_sum _ b n h).trans ?_)
  refine Finset.sum_congr rfl fun q _ => ?_
  exact congrArg₂ (· * ·) (e q) (e q)

/-- The gated keys. -/
theorem gate_ref (b : Fin 128) (n : Fin 8) (h : Fin 32) (j : Fin 64) : A_main_v27 (F := Ideal) x0 x1 x2 x3 x4 x5 x6 x7 (ix4 b n h j)
    = keyGate (fun q => heads x1 (ix4 b n h q)) (fun q => heads x4 (ix4 b n h q)) (headPart (vecHeads x7) h) j := by
  unfold A_main_v27 A_main_v26 A_main_v24 A_main_v21 A_main_v23 A_main_v22 A_main_v8 A_main_v7 A_main_v4 A_main_v1
  unfold keyGate
  exact congrArg (fun x => heads x1 (ix4 b n h j) * (one + (heads x4 (ix4 b n h j) - one) * x)) (everywhere _ b n h j)

/-- One step, element by element. -/
theorem step_apply (s : State Ideal) (n : ℕ) (hn : n < 8) (b : Fin 128) (h : Fin 32) (i j : Fin 64) : (step n s).main_v36_7 (ix4 b h i j)
    = s.main_v36_7 (ix4 b h i j) * s.main_v36_1 (ix4 (Fin.ofNat 8 n) b h j)
      - (∑ q : Fin 64, s.main_v36_7 (ix4 b h i q) * s.main_v36_4 (ix4 (Fin.ofNat 8 n) b h q)) * (s.main_v36_4 (ix4 (Fin.ofNat 8 n) b h j) * s.main_v36_5 (ix4 (Fin.ofNat 8 n) b h j))
      + s.main_v36_3 (ix4 (Fin.ofNat 8 n) b h i) * s.main_v36_2 (ix4 (Fin.ofNat 8 n) b h j) := by
  have e9 (j : Fin 64) : b9 n s (ix3 b h j) = s.main_v36_1 (ix4 (Fin.ofNat 8 n) b h j) := rows_at _ n hn b h j
  have e14 (j : Fin 64) : b14 n s (ix3 b h j) = s.main_v36_2 (ix4 (Fin.ofNat 8 n) b h j) := rows_at _ n hn b h j
  have e19 (j : Fin 64) : b19 n s (ix3 b h j) = s.main_v36_3 (ix4 (Fin.ofNat 8 n) b h j) := rows_at _ n hn b h j
  have e24 (j : Fin 64) : b24 n s (ix3 b h j) = s.main_v36_4 (ix4 (Fin.ofNat 8 n) b h j) := rows_at _ n hn b h j
  have e29 (j : Fin 64) : b29 n s (ix3 b h j) = s.main_v36_5 (ix4 (Fin.ofNat 8 n) b h j) := rows_at _ n hn b h j
  have e32 : b32 n s (ix4 b h i j) = _ := (across (b9 n s) b h i j).trans (e9 j)
  have e44 : b44 n s (ix4 b h i j) = _ := (across (b14 n s) b h i j).trans (e14 j)
  have e43 : b43 n s (ix4 b h i j) = _ := (along (b19 n s) b h i j).trans (e19 i)
  have e38 : b38 n s (ix4 b h i j) = _ := (across (b35 n s) b h i j).trans (congrArg₂ (· * ·) (e24 j) (e29 j))
  have e37 : b37 n s (ix4 b h i j) = _ := (along (b30 n s) b h i j).trans ((times_vec _ _ b h i).trans (Finset.sum_congr rfl fun q _ => congrArg (s.main_v36_7 (ix4 b h i q) * ·) (e24 q)))
  rw [step_main_v36_7]
  show s.main_v36_7 (ix4 b h i j) * b32 n s (ix4 b h i j) - b37 n s (ix4 b h i j) * b38 n s (ix4 b h i j) + b43 n s (ix4 b h i j) * b44 n s (ix4 b h i j) = _
  rw [e32, e37, e38, e43, e44]

/-- The states, one after another. -/
def states : ℕ → State Ideal
  | 0 => init (F := Ideal) x0 x1 x2 x3 x4 x5 x6 x7
  | n + 1 => step n (states n)

/-- The steps leave the rows as they were. -/
theorem states_rows : ∀ n, (states x0 x1 x2 x3 x4 x5 x6 x7 n).main_v36_1 = A_main_v30 (F := Ideal) x0 x1 x2 x3 x4 x5 x6 x7
    ∧ (states x0 x1 x2 x3 x4 x5 x6 x7 n).main_v36_2 = A_main_v31 (F := Ideal) x0 x1 x2 x3 x4 x5 x6 x7
    ∧ (states x0 x1 x2 x3 x4 x5 x6 x7 n).main_v36_3 = A_main_v32 (F := Ideal) x0 x1 x2 x3 x4 x5 x6 x7
    ∧ (states x0 x1 x2 x3 x4 x5 x6 x7 n).main_v36_4 = A_main_v33 (F := Ideal) x0 x1 x2 x3 x4 x5 x6 x7
    ∧ (states x0 x1 x2 x3 x4 x5 x6 x7 n).main_v36_5 = A_main_v34 (F := Ideal) x0 x1 x2 x3 x4 x5 x6 x7
  | 0 => ⟨rfl, rfl, rfl, rfl, rfl⟩
  | n + 1 => states_rows n

/-- The reference's state after the first `n` steps. -/
theorem states_apply (b : Fin 128) (h : Fin 32) : ∀ n ≤ 8, ∀ i j : Fin 64, (states x0 x1 x2 x3 x4 x5 x6 x7 n).main_v36_7 (ix4 b h i j)
    = headState (heads x1) (heads x2) (heads x3) (heads x4) (stateIn x5) (vecHeads x6) (vecHeads x7) n b h i j
  | 0, _, i, j => rfl
  | n + 1, hn, i, j => by
    obtain ⟨r1, r2, r3, r4, r5⟩ := states_rows x0 x1 x2 x3 x4 x5 x6 x7 n
    have e1 : A_main_v30 (F := Ideal) x0 x1 x2 x3 x4 x5 x6 x7 (ix4 (Fin.ofNat 8 n) b h j) = headRow (heads x3) b h n j := steps_first _ _ b h j
    have e2 : A_main_v31 (F := Ideal) x0 x1 x2 x3 x4 x5 x6 x7 (ix4 (Fin.ofNat 8 n) b h j) = keyGate (headRow (heads x1) b h n) (headRow (heads x4) b h n) (headPart (vecHeads x7) h) j :=
      (steps_first _ _ b h j).trans (gate_ref x0 x1 x2 x3 x4 x5 x6 x7 b _ h j)
    have e3 : A_main_v32 (F := Ideal) x0 x1 x2 x3 x4 x5 x6 x7 (ix4 (Fin.ofNat 8 n) b h i) = headRow (heads x2) b h n i := steps_first _ _ b h i
    have e4 (q : Fin 64) : A_main_v33 (F := Ideal) x0 x1 x2 x3 x4 x5 x6 x7 (ix4 (Fin.ofNat 8 n) b h q) = keyDir (headRow (heads x1) b h n) (headPart (vecHeads x6) h) q :=
      (steps_first _ _ b h q).trans (key_ref x0 x1 x2 x3 x4 x5 x6 x7 b _ h q)
    have e5 : A_main_v34 (F := Ideal) x0 x1 x2 x3 x4 x5 x6 x7 (ix4 (Fin.ofNat 8 n) b h j) = headRow (heads x4) b h n j := steps_first _ _ b h j
    refine (step_apply (states x0 x1 x2 x3 x4 x5 x6 x7 n) n (by omega) b h i j).trans ?_
    rw [r1, r2, r3, r4, r5, e1, e2, e3, e4, e5, states_apply b h n (by omega) i j]
    refine congrArg (fun x => headState (heads x1) (heads x2) (heads x3) (heads x4) (stateIn x5) (vecHeads x6) (vecHeads x7) n b h i j * headRow (heads x3) b h n j
      - x * (keyDir (headRow (heads x1) b h n) (headPart (vecHeads x6) h) j * headRow (heads x4) b h n j)
      + headRow (heads x2) b h n i * keyGate (headRow (heads x1) b h n) (headRow (heads x4) b h n) (headPart (vecHeads x7) h) j) ?_
    exact Finset.sum_congr rfl fun q _ => congrArg₂ (· * ·) (states_apply b h n (by omega) i q) (e4 q)

end Cert.ScanRefIdeal.Values
-- ==== Proof.ScanRefRun.lean ====
/-
  The recurrence's reference, run: the state it ends with is the eighth of the states its step gives.
-/
module

public import proofs.«01_k».proof.Proof.Gen.ScanRefIdeal.Run
public import proofs.«01_k».proof.Proof.Gen.ScanRefIdeal.Step
public import proofs.«01_k».proof.Proof.ScanRefValue

@[expose] public section

set_option maxRecDepth 65536

noncomputable section

namespace Cert.ScanRefIdeal.Values

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

/-- The loop's buffers hold what trip `j` reads: the state and its inputs, and the trip's number. -/
structure Ready (V : Valuation τ sig (Elt Ideal)) (s : State Ideal) (j : ℕ) : Prop where
  state : V (Proc.devRef .tc main_v36_7) = s.main_v36_7
  in0 : V (Proc.devRef .tc main_v36_0) = s.main_v36_0
  in1 : V (Proc.devRef .tc main_v36_1) = s.main_v36_1
  in2 : V (Proc.devRef .tc main_v36_2) = s.main_v36_2
  in3 : V (Proc.devRef .tc main_v36_3) = s.main_v36_3
  in4 : V (Proc.devRef .tc main_v36_4) = s.main_v36_4
  in5 : V (Proc.devRef .tc main_v36_5) = s.main_v36_5
  count : V (Proc.devRef .tc main_v36_6) = constantI S_ 32 (BitVec.ofNat 32 j)

/-- One trip's new state is the step's. -/
theorem new_state {V : Valuation τ sig (Elt Ideal)} {s : State Ideal} {j : ℕ} (h : Ready V s j) :
    step_main_v36_7 V = (step j s).main_v36_7 := by
  refine Eq.trans (b := res_main_while0b_v60 V) rfl (Eq.trans ?_ (Step.step_main_v36_7 j s).symm)
  unfold res_main_while0b_v60
  simp only [res_main_while0b_v42, h.state, h.in0, h.in1, h.in2, h.in3, h.in4, h.in5, h.count, Step.b46, Step.b45, Step.b44, Step.b43, Step.b42, Step.b41, Step.b40, Step.b39, Step.b38, Step.b37, Step.b36, Step.b35, Step.b34, Step.b33, Step.b32, Step.b31, Step.b30, Step.b29, Step.b28, Step.b27, Step.b26, Step.b25, Step.b24, Step.b23, Step.b22, Step.b21, Step.b20, Step.b19, Step.b18, Step.b17, Step.b16, Step.b15, Step.b14, Step.b13, Step.b12, Step.b11, Step.b10, Step.b9, Step.b8, Step.b7, Step.b6, Step.b5, Step.b4, Step.b3, Step.b2, Step.b1, Step.b0]
  rfl

/-- One trip's new number. -/
theorem new_count {V : Valuation τ sig (Elt Ideal)} {s : State Ideal} {j : ℕ} (h : Ready V s j) :
    step_main_v36_6 V = constantI S_ 32 (BitVec.ofNat 32 (j + 1)) := by
  unfold step_main_v36_6
  rw [h.count]
  exact funext fun _ => (BitVec.ofNat_add j 1).symm

/-- After a trip the buffers are ready for the next. -/
theorem Ready.next {V : Valuation τ sig (Elt Ideal)} {s : State Ideal} {j : ℕ} (h : Ready V s j) : Ready (STEP V) (step j s) (j + 1) :=
  ⟨(STEP_main_v36_7 V).trans (new_state h), (STEP_main_v36_0 V).trans h.in0, (STEP_main_v36_1 V).trans h.in1, (STEP_main_v36_2 V).trans h.in2,
    (STEP_main_v36_3 V).trans h.in3, (STEP_main_v36_4 V).trans h.in4, (STEP_main_v36_5 V).trans h.in5, (STEP_main_v36_6 V).trans (new_count h)⟩

variable (m : (ℓ : Loc nD τ sig) → Buf (Elt Ideal) ℓ) (c : Dev nD)

/-- The states of the arrays a memory holds as arguments. -/
abbrev statesOf : ℕ → State Ideal :=
  states (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

set_option maxHeartbeats 400000 in
/-- Before the first trip the buffers hold the first state. -/
theorem ready_first : Ready (entryContents preI m c) (statesOf m c 0) 0 := by
  constructor <;> (simp only [entryContents, afterL_cons, afterL_nil]; after_reads_simp) <;> rfl

/-- Before trip `k` the buffers hold state number `k`. -/
theorem ready (k : ℕ) : Ready (STEP^[k] (entryContents preI m c)) (statesOf m c k) k := by
  induction k with
  | zero => exact ready_first m c
  | succ k ih => rw [Function.iterate_succ_apply']; exact ih.next

/-- The state the reference's loop leaves is the eighth. -/
theorem last_state : STEP^[8] (entryContents preI m c) (Proc.devRef .tc main_v36_7) = (statesOf m c 8).main_v36_7 := (ready m c 8).state

end Cert.ScanRefIdeal.Values

end
-- ==== Proof.ScanClaim.lean ====
/-
  The recurrence's call at the samples: its state array as a function of the arrays it reads, and the claim that over the
  extended reals, where the decays are positive reals, it is the reference's.
-/
module

public import proofs.«01_k».proof.Defs
public import proofs.«01_k».proof.Proof.ScanFrame
public import proofs.«01_k».proof.Proof.ScanValue
public import proofs.«01_k».proof.Proof.ScanRefValue
public import proofs.«01_k».proof.Proof.Blocks
public import proofs.«01_k».proof.Proof.ScanRefRun
public import proofs.«01_k».proof.Proof.Gen.Scan
public import proofs.«01_k».proof.Proof.Gen.Pre_decay_positive
public import Idealize.ShloMosaic.Lib.Pipeline.Regions

@[expose] public section

set_option maxRecDepth 16384

noncomputable section

namespace Cert.ScanIdeal.Values

open Idealize.ShloMosaic Idealize.ShloMosaic.TcCoe Idealize.SL.Sem Idealize.ShloMosaic.ValueIdx
open Idealize.ShloMosaic.Pipeline (Dat Window)
open Cert.ScanIdeal Cert.ScanIdeal.Gen Cert.ScanIdeal.Body Layer
open Cert.ScanRefIdeal.Values (heads vecHeads stateIn states states_apply)

variable (m : (ℓ : Loc nD τ sig) → Buf (Elt Ideal) ℓ) (ρ : Dev nD → PrngReg)

/-- A four-axis index, by its coordinates. -/
theorem idx4 {a b c d : ℕ} (i : (⟨4, ![a, b, c, d]⟩ : Shape).Idx) (p : Fin a) (q : Fin b) (r : Fin c) (s : Fin d)
    (h0 : (i 0 : ℕ) = p) (h1 : (i 1 : ℕ) = q) (h2 : (i 2 : ℕ) = r) (h3 : (i 3 : ℕ) = s) : i = ix4 p q r s :=
  funext fun x => Fin.ext (match x with
    | ⟨0, _⟩ => h0
    | ⟨1, _⟩ => h1
    | ⟨2, _⟩ => h2
    | ⟨3, _⟩ => h3)

/-- A three-axis index, by its coordinates. -/
theorem idx3 {a b c : ℕ} (i : (⟨3, ![a, b, c]⟩ : Shape).Idx) (p : Fin a) (q : Fin b) (r : Fin c)
    (h0 : (i 0 : ℕ) = p) (h1 : (i 1 : ℕ) = q) (h2 : (i 2 : ℕ) = r) : i = ix3 p q r :=
  funext fun x => Fin.ext (match x with
    | ⟨0, _⟩ => h0
    | ⟨1, _⟩ => h1
    | ⟨2, _⟩ => h2)

/-- The head a step works on. -/
abbrev head (t : Fin grid0.N) : Fin 32 := ⟨t.val, t.isLt.trans_eq (by decide +kernel)⟩

/-- Every block starts at its head, and at zero on the other axes. -/
theorem starts : ∀ t : Fin grid0.N,
    (start win0_1 t 0 = t.val ∧ start win0_1 t 1 = 0 ∧ start win0_1 t 2 = 0 ∧ start win0_1 t 3 = 0)
    ∧ (start win0_2 t 0 = t.val ∧ start win0_2 t 1 = 0 ∧ start win0_2 t 2 = 0 ∧ start win0_2 t 3 = 0)
    ∧ (start win0_3 t 0 = t.val ∧ start win0_3 t 1 = 0 ∧ start win0_3 t 2 = 0 ∧ start win0_3 t 3 = 0)
    ∧ (start win0_4 t 0 = t.val ∧ start win0_4 t 1 = 0 ∧ start win0_4 t 2 = 0 ∧ start win0_4 t 3 = 0)
    ∧ (start win0_5 t 0 = t.val ∧ start win0_5 t 1 = 0 ∧ start win0_5 t 2 = 0 ∧ start win0_5 t 3 = 0)
    ∧ (start win0_6 t 0 = t.val ∧ start win0_6 t 1 = 0 ∧ start win0_6 t 2 = 0)
    ∧ (start win0_7 t 0 = t.val ∧ start win0_7 t 1 = 0 ∧ start win0_7 t 2 = 0)
    ∧ (start win0_12 t 0 = t.val ∧ start win0_12 t 1 = 0 ∧ start win0_12 t 2 = 0 ∧ start win0_12 t 3 = 0) := by decide +kernel

section Hosts

variable (v : Valuation τ sig (Elt Ideal))

/-- The keys by head. -/
theorem keys_before : StableHlo.after hostOps0 v (Proc.devRef .tc main_v3)
    = transpose S32x8x64x128 [2, 1, 3, 0] (heads (v (Proc.devRef .tc main_arg1))) transposes_S128x8x32x64_S32x8x64x128_2_1_3_0 := by
  after_results_simp; rfl

/-- The values by head. -/
theorem values_before : StableHlo.after hostOps0 v (Proc.devRef .tc main_v5)
    = transpose S32x8x64x128 [2, 1, 3, 0] (heads (v (Proc.devRef .tc main_arg2))) transposes_S128x8x32x64_S32x8x64x128_2_1_3_0 := by
  after_results_simp; rfl

/-- The decays by head. -/
theorem decays_before : StableHlo.after hostOps0 v (Proc.devRef .tc main_v7)
    = transpose S32x8x64x128 [2, 1, 3, 0] (heads (v (Proc.devRef .tc main_arg3))) transposes_S128x8x32x64_S32x8x64x128_2_1_3_0 := by
  after_results_simp; rfl

/-- The gates by head. -/
theorem gates_before : StableHlo.after hostOps0 v (Proc.devRef .tc main_v9)
    = transpose S32x8x64x128 [2, 1, 3, 0] (heads (v (Proc.devRef .tc main_arg4))) transposes_S128x8x32x64_S32x8x64x128_2_1_3_0 := by
  after_results_simp; rfl

/-- The state by head. -/
theorem state_before : StableHlo.after hostOps0 v (Proc.devRef .tc main_v11)
    = transpose S32x64x64x128 [1, 2, 3, 0] (stateIn (v (Proc.devRef .tc main_arg5))) transposes_S128x32x64x64_S32x64x64x128_1_2_3_0 := by
  after_results_simp; rfl

/-- The keys' scale, given to every lane. -/
theorem scale_before : StableHlo.after hostOps0 v (Proc.devRef .tc main_v15)
    = broadcastInDim S32x64x128 ![0, 1, 2] bcast_S32x64x1_S32x64x128_0_1_2 (broadcastInDim S32x64x1 ![0, 1] bcast_S32x64_S32x64x1_0_1 (vecHeads (v (Proc.devRef .tc main_arg6)))) := by
  after_results_simp; rfl

/-- The gates' scale, given to every lane. -/
theorem gscale_before : StableHlo.after hostOps0 v (Proc.devRef .tc main_v19)
    = broadcastInDim S32x64x128 ![0, 1, 2] bcast_S32x64x1_S32x64x128_0_1_2 (broadcastInDim S32x64x1 ![0, 1] bcast_S32x64_S32x64x1_0_1 (vecHeads (v (Proc.devRef .tc main_arg7)))) := by
  after_results_simp; rfl

/-- What the operation after the call leaves: the call's state array, the samples first. -/
theorem back_after : StableHlo.after hostOps1 v (Proc.devRef .tc main_v32)
    = transpose S128x32x64x64 [3, 0, 1, 2] (v (Proc.devRef .tc main_v31_1)) transposes_S32x64x64x128_S128x32x64x64_3_0_1_2 := by
  after_results_simp

end Hosts

section Layout

/-- Steps by head, read back. -/
theorem by_head (X : S128x8x32x64.Idx → EReal) (h : Fin 32) (n : Fin 8) (j : Fin 64) (b : Fin 128) :
    transpose S32x8x64x128 [2, 1, 3, 0] X transposes_S128x8x32x64_S32x8x64x128_2_1_3_0 (ix4 h n j b) = X (ix4 b n h j) :=
  transpose_apply _ X _ _ _ fun a => by
    match a with
    | ⟨0, _⟩ => rfl
    | ⟨1, _⟩ => rfl
    | ⟨2, _⟩ => rfl
    | ⟨3, _⟩ => rfl

/-- The state by head, read back. -/
theorem state_by_head (X : S128x32x64x64.Idx → EReal) (h : Fin 32) (i j : Fin 64) (b : Fin 128) :
    transpose S32x64x64x128 [1, 2, 3, 0] X transposes_S128x32x64x64_S32x64x64x128_1_2_3_0 (ix4 h i j b) = X (ix4 b h i j) :=
  transpose_apply _ X _ _ _ fun a => by
    match a with
    | ⟨0, _⟩ => rfl
    | ⟨1, _⟩ => rfl
    | ⟨2, _⟩ => rfl
    | ⟨3, _⟩ => rfl

/-- The samples first again. -/
theorem samples_first (X : S32x64x64x128.Idx → EReal) (b : Fin 128) (h : Fin 32) (i j : Fin 64) :
    transpose S128x32x64x64 [3, 0, 1, 2] X transposes_S32x64x64x128_S128x32x64x64_3_0_1_2 (ix4 b h i j) = X (ix4 h i j b) :=
  transpose_apply _ X _ _ _ fun a => by
    match a with
    | ⟨0, _⟩ => rfl
    | ⟨1, _⟩ => rfl
    | ⟨2, _⟩ => rfl
    | ⟨3, _⟩ => rfl

/-- A vector given to every lane, read back. -/
theorem every_lane (x : S32x64.Idx → EReal) (h : Fin 32) (j : Fin 64) (b : Fin 128) :
    broadcastInDim S32x64x128 ![0, 1, 2] bcast_S32x64x1_S32x64x128_0_1_2 (broadcastInDim S32x64x1 ![0, 1] bcast_S32x64_S32x64x1_0_1 x) (ix3 h j b) = x (ix2 h j) := by
  refine (broadcastInDim_apply _ _ _ _ (ix3 h j 0) fun a => ?_).trans (broadcastInDim_apply _ _ _ _ (ix2 h j) fun a => ?_)
  · match a with
    | ⟨0, _⟩ => rfl
    | ⟨1, _⟩ => rfl
    | ⟨2, _⟩ => rfl
  · match a with
    | ⟨0, _⟩ => rfl
    | ⟨1, _⟩ => rfl

end Layout

/-- The keys, as launched. -/
abbrev a1 (c : Dev nD) : S128x8x2048.Idx → EReal := m ((c : Thread nD τ).loc main_arg1)
/-- The values, as launched. -/
abbrev a2 (c : Dev nD) : S128x8x2048.Idx → EReal := m ((c : Thread nD τ).loc main_arg2)
/-- The decays, as launched. -/
abbrev a3 (c : Dev nD) : S128x8x2048.Idx → EReal := m ((c : Thread nD τ).loc main_arg3)
/-- The gates, as launched. -/
abbrev a4 (c : Dev nD) : S128x8x2048.Idx → EReal := m ((c : Thread nD τ).loc main_arg4)
/-- The state, as launched. -/
abbrev a5 (c : Dev nD) : S1x128x32x64x64.Idx → EReal := m ((c : Thread nD τ).loc main_arg5)
/-- The keys' scale, as launched. -/
abbrev a6 (c : Dev nD) : S1x2048.Idx → EReal := m ((c : Thread nD τ).loc main_arg6)
/-- The gates' scale, as launched. -/
abbrev a7 (c : Dev nD) : S1x2048.Idx → EReal := m ((c : Thread nD τ).loc main_arg7)

section Blocks

variable (c : Dev nD) (t : Fin cfg0.N) (b : Fin 128)

/-- The block of keys. -/
theorem keys_block (n : Fin 8) (j : Fin 64) : iblk m c 1 t (ix4 0 n j b) = heads (a1 m c) (ix4 b n (head t) j) := by
  obtain ⟨s0, s1, s2, s3⟩ := (starts t).1
  exact ((congrArg (V m c main_v3) (idx4 _ (head t) n j b (emb_add win0_1 t _ 0 s0) (emb_zero win0_1 t _ 1 s1) (emb_zero win0_1 t _ 2 s2) (emb_zero win0_1 t _ 3 s3))).trans
    (congrFun (keys_before _) _)).trans (by_head _ _ n j b)

/-- The block of values. -/
theorem values_block (n : Fin 8) (j : Fin 64) : iblk m c 2 t (ix4 0 n j b) = heads (a2 m c) (ix4 b n (head t) j) := by
  obtain ⟨s0, s1, s2, s3⟩ := (starts t).2.1
  exact ((congrArg (V m c main_v5) (idx4 _ (head t) n j b (emb_add win0_2 t _ 0 s0) (emb_zero win0_2 t _ 1 s1) (emb_zero win0_2 t _ 2 s2) (emb_zero win0_2 t _ 3 s3))).trans
    (congrFun (values_before _) _)).trans (by_head _ _ n j b)

/-- The block of decays. -/
theorem decays_block (n : Fin 8) (j : Fin 64) : iblk m c 3 t (ix4 0 n j b) = heads (a3 m c) (ix4 b n (head t) j) := by
  obtain ⟨s0, s1, s2, s3⟩ := (starts t).2.2.1
  exact ((congrArg (V m c main_v7) (idx4 _ (head t) n j b (emb_add win0_3 t _ 0 s0) (emb_zero win0_3 t _ 1 s1) (emb_zero win0_3 t _ 2 s2) (emb_zero win0_3 t _ 3 s3))).trans
    (congrFun (decays_before _) _)).trans (by_head _ _ n j b)

/-- The block of gates. -/
theorem gates_block (n : Fin 8) (j : Fin 64) : iblk m c 4 t (ix4 0 n j b) = heads (a4 m c) (ix4 b n (head t) j) := by
  obtain ⟨s0, s1, s2, s3⟩ := (starts t).2.2.2.1
  exact ((congrArg (V m c main_v9) (idx4 _ (head t) n j b (emb_add win0_4 t _ 0 s0) (emb_zero win0_4 t _ 1 s1) (emb_zero win0_4 t _ 2 s2) (emb_zero win0_4 t _ 3 s3))).trans
    (congrFun (gates_before _) _)).trans (by_head _ _ n j b)

/-- The block of the state. -/
theorem state_block (i j : Fin 64) : iblk m c 5 t (ix4 0 i j b) = stateIn (a5 m c) (ix4 b (head t) i j) := by
  obtain ⟨s0, s1, s2, s3⟩ := (starts t).2.2.2.2.1
  exact ((congrArg (V m c main_v11) (idx4 _ (head t) i j b (emb_add win0_5 t _ 0 s0) (emb_zero win0_5 t _ 1 s1) (emb_zero win0_5 t _ 2 s2) (emb_zero win0_5 t _ 3 s3))).trans
    (congrFun (state_before _) _)).trans (state_by_head _ _ i j b)

/-- The block of the keys' scale. -/
theorem scale_block (j : Fin 64) : iblk m c 6 t (ix3 0 j b) = vecHeads (a6 m c) (ix2 (head t) j) := by
  obtain ⟨s0, s1, s2⟩ := (starts t).2.2.2.2.2.1
  exact ((congrArg (V m c main_v15) (idx3 _ (head t) j b (emb_add win0_6 t _ 0 s0) (emb_zero win0_6 t _ 1 s1) (emb_zero win0_6 t _ 2 s2))).trans
    (congrFun (scale_before _) _)).trans (every_lane _ _ j b)

/-- The block of the gates' scale. -/
theorem gscale_block (j : Fin 64) : iblk m c 7 t (ix3 0 j b) = vecHeads (a7 m c) (ix2 (head t) j) := by
  obtain ⟨s0, s1, s2⟩ := (starts t).2.2.2.2.2.2.1
  exact ((congrArg (V m c main_v19) (idx3 _ (head t) j b (emb_add win0_7 t _ 0 s0) (emb_zero win0_7 t _ 1 s1) (emb_zero win0_7 t _ 2 s2))).trans
    (congrFun (gscale_before _) _)).trans (every_lane _ _ j b)

end Blocks

/-- The state array the call should end with. -/
def stateOut (c : Dev nD) : S32x64x64x128.Idx → EReal := fun i =>
  headState (heads (a1 m c)) (heads (a2 m c)) (heads (a3 m c)) (heads (a4 m c)) (stateIn (a5 m c)) (vecHeads (a6 m c)) (vecHeads (a7 m c)) 8 (i 3) (i 0) (i 1) (i 2)

/-- What one step stores: its head's state after the steps. -/
theorem stored (c : Dev nD) (hw : ∀ i, 0 < a3 m c i ∧ a3 m c i < ⊤) (t : Fin cfg0.N) (i j : Fin 64) (b : Fin 128) :
    out12 m c t (ix4 0 i j b) = headState (heads (a1 m c)) (heads (a2 m c)) (heads (a3 m c)) (heads (a4 m c)) (stateIn (a5 m c)) (vecHeads (a6 m c)) (vecHeads (a7 m c)) 8 b (head t) i j := by
  have e1 : lane (iblk m c 1 t) b = headRow (heads (a1 m c)) b (head t) := funext fun n => funext fun j => keys_block m c t b _ j
  have e2 : lane (iblk m c 2 t) b = headRow (heads (a2 m c)) b (head t) := funext fun n => funext fun j => values_block m c t b _ j
  have e3 : lane (iblk m c 3 t) b = headRow (heads (a3 m c)) b (head t) := funext fun n => funext fun j => decays_block m c t b _ j
  have e4 : lane (iblk m c 4 t) b = headRow (heads (a4 m c)) b (head t) := funext fun n => funext fun j => gates_block m c t b _ j
  have e5 : laneS (iblk m c 5 t) b = fun i j => stateIn (a5 m c) (ix4 b (head t) i j) := funext fun i => funext fun j => state_block m c t b i j
  have e6 : laneV (iblk m c 6 t) b = headPart (vecHeads (a6 m c)) (head t) := funext fun j => scale_block m c t b j
  have e7 : laneV (iblk m c 7 t) b = headPart (vecHeads (a7 m c)) (head t) := funext fun j => gscale_block m c t b j
  unfold out12
  rw [outS_apply _ _ _ _ _ _ _ _ _ _ _ _ _ _ _ _ _ _ _ _ _ _ b (fun n _ j => by rw [congrFun (congrFun e3 n) j]; exact hw _)]
  unfold headState laneDir laneGate
  rw [e1, e2, e3, e4, e5, e6, e7]

/-- An index of the state's block. -/
theorem block_idx (y : S1x64x64x128.Idx) : y = ix4 0 (y 1) (y 2) (y 3) := idx4 y 0 (y 1) (y 2) (y 3) (Nat.lt_one_iff.mp (y 0).isLt) rfl rfl rfl

/-- Where an element of the state's block lies. -/
theorem out_place (t : Fin grid0.N) (i j : Fin 64) (b : Fin 128) : (win0_12.rect t).emb (ix4 0 i j b) = ix4 (head t) i j b := by
  obtain ⟨s0, s1, s2, s3⟩ := (starts t).2.2.2.2.2.2.2
  exact idx4 _ _ _ _ _ (emb_add win0_12 t _ 0 s0) (emb_zero win0_12 t _ 1 s1) (emb_zero win0_12 t _ 2 s2) (emb_zero win0_12 t _ 3 s3)

/-- The call's state array. -/
theorem final (c : Dev nD) (hw : ∀ i, 0 < a3 m c i ∧ a3 m c i < ⊤) : (dats m 0 c).arrAt 12 cfg0.N = stateOut m c := by
  refine Dat.arrAt_eq_of_cover _ 12 _ (fun t _ => ?_) (Window.Covers.cover win0_12 (by decide +kernel) (Memref.isWhole_whole _))
  show (cfg0.win 12).cut (grid0.coords t) ((dats m 0 c).after 12 t) = _
  rw [after_12]
  funext y
  refine (congrArg (out12 m c t) (block_idx y)).trans ((stored m c hw t (y 1) (y 2) (y 3)).trans ?_)
  exact (congrArg (stateOut m c) (out_place t (y 1) (y 2) (y 3)).symm).trans (congrArg (fun z => stateOut m c ((win0_12.rect t).emb z)) (block_idx y).symm)

/-- The array the program ends with. -/
theorem result_eq (c : Dev nD) : Pipeline.afterTail₀ cfgs (dats m) 0 (V0 m) [hostOps1] c main_v32
    = transpose S128x32x64x64 [3, 0, 1, 2] ((dats m 0 c).arrAt 12 cfg0.N) transposes_S32x64x64x128_S128x32x64x64_3_0_1_2 :=
  (back_after _).trans (congrArg (fun x => transpose S128x32x64x64 [3, 0, 1, 2] x transposes_S32x64x64x128_S128x32x64x64_3_0_1_2)
    (Pipeline.withArrays_arr spec0 launch0.win.arr_inj c (V0 m c) (fun w => (dats m 0 c).arrAt w cfg0.N) 12))

/-- What the precondition says of an element. -/
theorem positive (c : Dev nD) (h : Cert.Pre_ScanIdeal_decay_positive m) (i : S128x8x2048.Idx) : 0 < a3 m c i ∧ a3 m c i < ⊤ := by
  have e := congrFun (h c) i
  have both : ∀ x y : BitVec 1, IntOp.andi x y = 1#1 → x = 1#1 ∧ y = 1#1 := by decide
  obtain ⟨e1, e2⟩ := both _ _ e
  have one_of : ∀ p : Prop, ∀ [Decidable p], BitVec.ofBool (decide p) = 1#1 → p := fun p _ h => by
    by_contra hp; rw [decide_eq_false hp] at h; exact absurd h (by decide)
  have f1 : BitVec.ofBool (decide (Ideal.ofBits .f32 0x00000000#32 < a3 m c i)) = 1#1 := e1
  have f2 : BitVec.ofBool (decide (a3 m c i < Ideal.ofBits .f32 0x7F800000#32)) = 1#1 := e2
  have z : Ideal.ofBits .f32 0x00000000#32 = 0 := Ideal.ofBits_zero_f32
  have t : Ideal.ofBits .f32 0x7F800000#32 = ⊤ := by simp [Ideal.ofBits, Ideal.ieee]
  exact ⟨z ▸ one_of _ f1, t ▸ one_of _ f2⟩

/-- Over the extended reals, where the decays are positive reals, the kernel's state is the reference's. -/
theorem algebraic : Cert.algebraic_ScanIdeal_ScanRefIdeal_pre_decay_positive := by
  intro m g m' g' hp hm
  refine ⟨fun c => Pipeline.afterTail₀ cfgs (dats m) 0 (V0 m) [hostOps1] c main_v32, ?_, ?_⟩
  · refine (θ_run _ _ _).mono (fun r h c => ?_) (run_main m g)
    exact ⟨(h c).2 main_v32 (Pipeline.mem_restRefs_of main_v32 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩
  · refine (θ_run _ _ _).mono (fun r h c => ?_) (Cert.ScanRefIdeal.Value.run (F := Ideal) m' g')
    obtain ⟨h0, hargs⟩ := h c
    obtain ⟨e0, e1, e2, e3, e4, e5, e6, e7, -⟩ := hm c
    refine ⟨(h0.trans (Cert.ScanRefIdeal.Values.last_state m' c)).trans ?_, hargs⟩
    rw [Cert.ScanRefIdeal.Values.statesOf, e0, e1, e2, e3, e4, e5, e6, e7]
    refine Eq.trans ?_ ((result_eq m c).trans (congrArg (fun x => transpose S128x32x64x64 [3, 0, 1, 2] x transposes_S32x64x64x128_S128x32x64x64_3_0_1_2) (final m c (positive m c hp)))).symm
    funext y
    have hy : y = ix4 (y 0) (y 1) (y 2) (y 3) := idx4 y (y 0) (y 1) (y 2) (y 3) rfl rfl rfl rfl
    rw [hy]
    exact (states_apply _ _ _ _ _ _ _ _ (y 0) (y 1) 8 le_rfl (y 2) (y 3)).trans (samples_first (stateOut m c) (y 0) (y 1) (y 2) (y 3)).symm

/-- The kernel at machine numbers runs and leaves its arguments as they were: its text is the one run above. -/
theorem frame_bits : Cert.quiescent_Scan := by
  intro m ρ _
  refine Eq.mp ?_ (Cert.ScanIdeal.Body.frame (F := Bits) m ρ)
  chain_rfl

end Cert.ScanIdeal.Values

end
-- ==== Proof.lean ====
/-
  The proof of `Cert.Claim`.

  * Frames: the kernels' are the generated ones; the references' are their generated runs, read at the arguments, with
    no semaphore to leave raised.
  * `preserves`: the idealization rewrote nothing.
  * `algebraic`: Proof/MixClaim.lean, Proof/TailClaim.lean, Proof/RkvClaim.lean and Proof/LoraClaim.lean.
-/
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.MixRefIdeal.Read
public import proofs.«01_k».proof.Proof.MixClaim
public import proofs.«01_k».proof.Proof.Gen.Tail
public import proofs.«01_k».proof.Proof.Gen.Tail.Frame
public import proofs.«01_k».proof.Proof.Gen.TailIdeal
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.TailClaim
public import proofs.«01_k».proof.Proof.Gen.Rkv
public import proofs.«01_k».proof.Proof.Gen.Rkv.Frame
public import proofs.«01_k».proof.Proof.Gen.RkvIdeal
public import proofs.«01_k».proof.Proof.Gen.RkvIdeal.Frame
public import proofs.«01_k».proof.Proof.Gen.RkvRefIdeal
public import proofs.«01_k».proof.Proof.Gen.RkvRefIdeal.Run
public import proofs.«01_k».proof.Proof.Gen.RkvRefIdeal.Read
public import proofs.«01_k».proof.Proof.RkvClaim
public import proofs.«01_k».proof.Proof.Gen.Lora
public import proofs.«01_k».proof.Proof.Gen.Lora.Frame
public import proofs.«01_k».proof.Proof.Gen.LoraIdeal
public import proofs.«01_k».proof.Proof.Gen.LoraIdeal.Frame
public import proofs.«01_k».proof.Proof.Gen.LoraRefIdeal
public import proofs.«01_k».proof.Proof.Gen.LoraRefIdeal.Run
public import proofs.«01_k».proof.Proof.Gen.LoraRefIdeal.Read
public import proofs.«01_k».proof.Proof.LoraClaim
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Loops
public import proofs.«01_k».proof.Proof.Gen.ScanIdeal.Skeleton
public import proofs.«01_k».proof.Proof.Gen.ScanRefIdeal
public import proofs.«01_k».proof.Proof.Gen.ScanRefIdeal.Run
public import proofs.«01_k».proof.Proof.Gen.ScanRefIdeal.Step
public import proofs.«01_k».proof.Proof.Gen.Pre_decay_positive
public import proofs.«01_k».proof.Proof.ScanClaim
public import Idealize.ShloMosaic.Adequacy
public import Idealize.ShloMosaic.Init

@[expose] public section

noncomputable section

namespace Cert.Proof

open Idealize.ShloMosaic Idealize.SL.Sem

/-- The reference of the normalisation and gated product runs and leaves its arguments as they were. -/
theorem frame_mix_ref : Cert.quiescent_MixRefIdeal := fun m ρ _ =>
  (θ_run Cert.MixRefIdeal.defs _ _).mono (fun r h => ⟨fun c => (h c).2.2.2.2, sem_eq_zero_of_no_sems (by decide) r.2⟩)
    (Cert.MixRefIdeal.Value.run (F := Ideal) m ρ)

/-- The reference of the second half runs and leaves its arguments as they were. -/
theorem frame_tail_ref : Cert.quiescent_TailRefIdeal := fun m ρ _ =>
  (θ_run Cert.TailRefIdeal.defs _ _).mono (fun r h => ⟨fun c => (h c).2.2, sem_eq_zero_of_no_sems (by decide) r.2⟩)
    (Cert.TailRefIdeal.Value.run (F := Ideal) m ρ)

/-- The reference of the projection at the prompt runs and leaves its arguments as they were. -/
theorem frame_rkv_ref : Cert.quiescent_RkvRefIdeal := fun m ρ _ =>
  (θ_run Cert.RkvRefIdeal.defs _ _).mono (fun r h => ⟨fun c => (h c).2, sem_eq_zero_of_no_sems (by decide) r.2⟩)
    (Cert.RkvRefIdeal.Value.run (F := Ideal) m ρ)

/-- The reference of the low-rank branches runs and leaves its arguments as they were. -/
theorem frame_lora_ref : Cert.quiescent_LoraRefIdeal := fun m ρ _ =>
  (θ_run Cert.LoraRefIdeal.defs _ _).mono (fun r h => ⟨fun c => (h c).2.2.2, sem_eq_zero_of_no_sems (by decide) r.2⟩)
    (Cert.LoraRefIdeal.Value.run (F := Ideal) m ρ)

/-- The recurrence's reference runs and leaves its arguments as they were. -/
theorem frame_scan_ref : Cert.quiescent_ScanRefIdeal := fun m ρ _ =>
  (θ_run Cert.ScanRefIdeal.defs _ _).mono (fun r h => ⟨fun c => (h c).2, sem_eq_zero_of_no_sems (by decide) r.2⟩)
    (Cert.ScanRefIdeal.Value.run (F := Ideal) m ρ)

/-- The same, of a launch where the decays are positive reals. -/
theorem frame_scan_ref_pre : Cert.quiescent_ScanRefIdeal_pre_decay_positive := fun m ρ _ =>
  (θ_run Cert.ScanRefIdeal.defs _ _).mono (fun r h => ⟨fun c => (h c).2, sem_eq_zero_of_no_sems (by decide) r.2⟩)
    (Cert.ScanRefIdeal.Value.run (F := Ideal) m ρ)

/-- Everything that is claimed. -/
theorem claim : Cert.Claim := ⟨Cert.Mix.Gen.facts, Cert.MixIdeal.Gen.facts, Cert.MixRefIdeal.Gen.facts,
  Cert.Tail.Gen.facts, Cert.TailIdeal.Gen.facts, Cert.TailRefIdeal.Gen.facts,
  Cert.Rkv.Gen.facts, Cert.RkvIdeal.Gen.facts, Cert.RkvRefIdeal.Gen.facts,
  Cert.Lora.Gen.facts, Cert.LoraIdeal.Gen.facts, Cert.LoraRefIdeal.Gen.facts,
  Cert.Scan.Gen.facts, Cert.ScanIdeal.Gen.facts, Cert.ScanRefIdeal.Gen.facts, Cert.Pre_decay_positive.Gen.facts,
  fun m ρ _ => Cert.Mix.Gen.frame m ρ, fun m ρ _ => Cert.MixIdeal.Gen.frame m ρ, frame_mix_ref,
  fun m ρ _ => Cert.Tail.Gen.frame m ρ, fun m ρ _ => Cert.TailIdeal.Gen.frame m ρ, frame_tail_ref,
  fun m ρ _ => Cert.Rkv.Gen.frame m ρ, fun m ρ _ => Cert.RkvIdeal.Gen.frame m ρ, frame_rkv_ref,
  fun m ρ _ => Cert.Lora.Gen.frame m ρ, fun m ρ _ => Cert.LoraIdeal.Gen.frame m ρ, frame_lora_ref,
  Cert.ScanIdeal.Values.frame_bits, fun m ρ _ => Cert.ScanIdeal.Body.frame (F := Ideal) m ρ, fun m ρ _ => Cert.ScanIdeal.Body.frame (F := Ideal) m ρ,
  frame_scan_ref, frame_scan_ref_pre,
  trivial, Cert.MixIdeal.Values.algebraic, trivial, Cert.TailIdeal.Values.algebraic,
  trivial, Cert.RkvIdeal.Values.algebraic, trivial, Cert.LoraIdeal.Values.algebraic,
  trivial, Cert.ScanIdeal.Values.algebraic⟩

end Cert.Proof

end
